-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S2x128x512 : Shape := ⟨3, ![2, 128, 512]⟩
abbrev S2 : Shape := ⟨1, ![2]⟩
abbrev S_ : Shape := ⟨0, ![]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 19
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .f32⟩
  | .local _ .vmem, ⟨0, _⟩ => ⟨S4096x256, .bf16⟩
  | .local _ .vmem, ⟨1, _⟩ => ⟨S256x2048, .bf16⟩
  | .local _ .vmem, ⟨2, _⟩ => ⟨S4096x2048, .f32⟩
  | .local _ .vmem, ⟨3, _⟩ => ⟨S2x128x512, .bf16⟩
  | .local _ .vmem, ⟨4, _⟩ => ⟨S2x128x512, .bf16⟩
  | .local _ .vmem, ⟨5, _⟩ => ⟨S2x128x512, .bf16⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x512, .bf16⟩
  | .local _ .vmem, ⟨11, _⟩ => ⟨S2x128x512, .bf16⟩
  | .local _ .vmem, ⟨12, _⟩ => ⟨S2x128x512, .bf16⟩
  | .local _ .vmem, ⟨13, _⟩ => ⟨S2x128x512, .bf16⟩
  | .local _ .vmem, ⟨14, _⟩ => ⟨S2x128x512, .bf16⟩
  | .local _ .vmem, ⟨15, _⟩ => ⟨S2x128x512, .bf16⟩
  | .local _ .vmem, ⟨16, _⟩ => ⟨S2x128x512, .bf16⟩
  | .local _ .vmem, ⟨17, _⟩ => ⟨S2x128x512, .bf16⟩
  | .local _ .vmem, ⟨18, _⟩ => ⟨S2x128x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 9 35 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v19 : BitVec 32 := Scalar.subi v2 c0_i32_15
  let c32_i32 : BitVec 32 := 32#32
  let v20 : BitVec 32 := Scalar.addi v19 c32_i32
  let c16_i32_16 : BitVec 32 := 16#32
  let v21 : BitVec 32 := Scalar.remsi v20 c16_i32_16
  let c256_i32 : BitVec 32 := 256#32
  let v22 : BitVec 32 := Scalar.muli v21 c256_i32
  let v23 : Index := Scalar.indexCast v22
  let c0_17 : Index := 0#32
  ![v23.toNat, 0]
def k0_off2 (d0 : Dev nD) (c0_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v30 : BitVec 32 := Scalar.addi v2 c0_i32_21
  let c32_i32_22 : BitVec 32 := 32#32
  let v31 : BitVec 32 := Scalar.addi v30 c32_i32_22
  let c16_i32_23 : BitVec 32 := 16#32
  let v32 : BitVec 32 := Scalar.remsi v31 c16_i32_23
  let c256_i32_24 : BitVec 32 := 256#32
  let v33 : BitVec 32 := Scalar.muli v32 c256_i32_24
  let c128_i32 : BitVec 32 := 128#32
  let v34 : BitVec 32 := Scalar.addi v33 c128_i32
  let v35 : Index := Scalar.indexCast v34
  let c0_25 : Index := 0#32
  ![v35.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v42 : BitVec 32 := Scalar.muli v7 c1_i32_33
  let v43 : BitVec 32 := Scalar.addi c0_i32_34 v42
  v43.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_43 : BitVec 32 := 1#32
  let v52 : BitVec 32 := Scalar.muli v5 c1_i32_43
  let v53 : BitVec 32 := Scalar.addi c0_i32_44 v52
  v53.toNat
def k0_off3 (d0 : Dev nD) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v62 : BitVec 32 := Scalar.subi v2 c0_i32_49
  let c32_i32_50 : BitVec 32 := 32#32
  let v63 : BitVec 32 := Scalar.addi v62 c32_i32_50
  let c16_i32_51 : BitVec 32 := 16#32
  let v64 : BitVec 32 := Scalar.remsi v63 c16_i32_51
  let c256_i32_52 : BitVec 32 := 256#32
  let v65 : BitVec 32 := Scalar.muli v64 c256_i32_52
  let v66 : Index := Scalar.indexCast v65
  let c512 : Index := 512#32
  ![v66.toNat, 512]
def k0_off4 (d0 : Dev nD) (c0_i32_56 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : BitVec 32 := Scalar.addi v2 c0_i32_56
  let c32_i32_57 : BitVec 32 := 32#32
  let v74 : BitVec 32 := Scalar.addi v73 c32_i32_57
  let c16_i32_58 : BitVec 32 := 16#32
  let v75 : BitVec 32 := Scalar.remsi v74 c16_i32_58
  let c256_i32_59 : BitVec 32 := 256#32
  let v76 : BitVec 32 := Scalar.muli v75 c256_i32_59
  let c128_i32_60 : BitVec 32 := 128#32
  let v77 : BitVec 32 := Scalar.addi v76 c128_i32_60
  let v78 : Index := Scalar.indexCast v77
  let c512_61 : Index := 512#32
  ![v78.toNat, 512]
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_69 : BitVec 32 := 1#32
  let v85 : BitVec 32 := Scalar.muli v7 c1_i32_69
  let v86 : BitVec 32 := Scalar.addi c0_i32_70 v85
  v86.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_79 : BitVec 32 := 1#32
  let v95 : BitVec 32 := Scalar.muli v5 c1_i32_79
  let v96 : BitVec 32 := Scalar.addi c0_i32_80 v95
  v96.toNat
def k0_off5 (d0 : Dev nD) (c0_i32_85 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v105 : BitVec 32 := Scalar.subi v2 c0_i32_85
  let c32_i32_86 : BitVec 32 := 32#32
  let v106 : BitVec 32 := Scalar.addi v105 c32_i32_86
  let c16_i32_87 : BitVec 32 := 16#32
  let v107 : BitVec 32 := Scalar.remsi v106 c16_i32_87
  let c256_i32_88 : BitVec 32 := 256#32
  let v108 : BitVec 32 := Scalar.muli v107 c256_i32_88
  let v109 : Index := Scalar.indexCast v108
  let c1024 : Index := 1024#32
  ![v109.toNat, 1024]
def k0_off6 (d0 : Dev nD) (c0_i32_92 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v116 : BitVec 32 := Scalar.addi v2 c0_i32_92
  let c32_i32_93 : BitVec 32 := 32#32
  let v117 : BitVec 32 := Scalar.addi v116 c32_i32_93
  let c16_i32_94 : BitVec 32 := 16#32
  let v118 : BitVec 32 := Scalar.remsi v117 c16_i32_94
  let c256_i32_95 : BitVec 32 := 256#32
  let v119 : BitVec 32 := Scalar.muli v118 c256_i32_95
  let c128_i32_96 : BitVec 32 := 128#32
  let v120 : BitVec 32 := Scalar.addi v119 c128_i32_96
  let v121 : Index := Scalar.indexCast v120
  let c1024_97 : Index := 1024#32
  ![v121.toNat, 1024]
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_105 : BitVec 32 := 1#32
  let v128 : BitVec 32 := Scalar.muli v7 c1_i32_105
  let v129 : BitVec 32 := Scalar.addi c0_i32_106 v128
  v129.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_115 : BitVec 32 := 1#32
  let v138 : BitVec 32 := Scalar.muli v5 c1_i32_115
  let v139 : BitVec 32 := Scalar.addi c0_i32_116 v138
  v139.toNat
def k0_off7 (d0 : Dev nD) (c0_i32_121 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v148 : BitVec 32 := Scalar.subi v2 c0_i32_121
  let c32_i32_122 : BitVec 32 := 32#32
  let v149 : BitVec 32 := Scalar.addi v148 c32_i32_122
  let c16_i32_123 : BitVec 32 := 16#32
  let v150 : BitVec 32 := Scalar.remsi v149 c16_i32_123
  let c256_i32_124 : BitVec 32 := 256#32
  let v151 : BitVec 32 := Scalar.muli v150 c256_i32_124
  let v152 : Index := Scalar.indexCast v151
  let c1536 : Index := 1536#32
  ![v152.toNat, 1536]
def k0_off8 (d0 : Dev nD) (c0_i32_128 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v159 : BitVec 32 := Scalar.addi v2 c0_i32_128
  let c32_i32_129 : BitVec 32 := 32#32
  let v160 : BitVec 32 := Scalar.addi v159 c32_i32_129
  let c16_i32_130 : BitVec 32 := 16#32
  let v161 : BitVec 32 := Scalar.remsi v160 c16_i32_130
  let c256_i32_131 : BitVec 32 := 256#32
  let v162 : BitVec 32 := Scalar.muli v161 c256_i32_131
  let c128_i32_132 : BitVec 32 := 128#32
  let v163 : BitVec 32 := Scalar.addi v162 c128_i32_132
  let v164 : Index := Scalar.indexCast v163
  let c1536_133 : Index := 1536#32
  ![v164.toNat, 1536]
def k0_dev9 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_141 : BitVec 32 := 1#32
  let v171 : BitVec 32 := Scalar.muli v7 c1_i32_141
  let v172 : BitVec 32 := Scalar.addi c0_i32_142 v171
  v172.toNat
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_151 : BitVec 32 := 1#32
  let v181 : BitVec 32 := Scalar.muli v5 c1_i32_151
  let v182 : BitVec 32 := Scalar.addi c0_i32_152 v181
  v182.toNat
def k0_off9 (d0 : Dev nD) (c0_i32_195 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v219 : BitVec 32 := Scalar.subi v2 c0_i32_195
  let c1_i32_196 : BitVec 32 := 1#32
  let v220 : BitVec 32 := Scalar.subi v219 c1_i32_196
  let c32_i32_197 : BitVec 32 := 32#32
  let v221 : BitVec 32 := Scalar.addi v220 c32_i32_197
  let c16_i32_198 : BitVec 32 := 16#32
  let v222 : BitVec 32 := Scalar.remsi v221 c16_i32_198
  let c256_i32_199 : BitVec 32 := 256#32
  let v223 : BitVec 32 := Scalar.muli v222 c256_i32_199
  let v224 : Index := Scalar.indexCast v223
  let c0_200 : Index := 0#32
  ![v224.toNat, 0]
def k0_off10 (d0 : Dev nD) (c0_i32_205 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v233 : BitVec 32 := Scalar.addi v2 c0_i32_205
  let c1_i32_206 : BitVec 32 := 1#32
  let v234 : BitVec 32 := Scalar.addi v233 c1_i32_206
  let c32_i32_207 : BitVec 32 := 32#32
  let v235 : BitVec 32 := Scalar.addi v234 c32_i32_207
  let c16_i32_208 : BitVec 32 := 16#32
  let v236 : BitVec 32 := Scalar.remsi v235 c16_i32_208
  let c256_i32_209 : BitVec 32 := 256#32
  let v237 : BitVec 32 := Scalar.muli v236 c256_i32_209
  let c128_i32_210 : BitVec 32 := 128#32
  let v238 : BitVec 32 := Scalar.addi v237 c128_i32_210
  let v239 : Index := Scalar.indexCast v238
  let c0_211 : Index := 0#32
  ![v239.toNat, 0]
def k0_dev11 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_217 : BitVec 32 := 1#32
  let v248 : BitVec 32 := Scalar.muli v5 c1_i32_217
  let v249 : BitVec 32 := Scalar.addi c0_i32_218 v248
  v249.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_220 : BitVec 32 := 1#32
  let v250 : BitVec 32 := Scalar.muli v7 c1_i32_220
  let v251 : BitVec 32 := Scalar.addi c0_i32_221 v250
  v251.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_242 : BitVec 32 := 1#32
  let v275 : BitVec 32 := Scalar.muli v7 c1_i32_242
  let v276 : BitVec 32 := Scalar.addi c0_i32_243 v275
  v276.toNat
def k0_dev14 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_252 : BitVec 32 := 1#32
  let v285 : BitVec 32 := Scalar.muli v5 c1_i32_252
  let v286 : BitVec 32 := Scalar.addi c0_i32_253 v285
  v286.toNat
def k0_off11 (d0 : Dev nD) (c0_i32_296 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v323 : BitVec 32 := Scalar.subi v2 c0_i32_296
  let c1_i32_297 : BitVec 32 := 1#32
  let v324 : BitVec 32 := Scalar.subi v323 c1_i32_297
  let c32_i32_298 : BitVec 32 := 32#32
  let v325 : BitVec 32 := Scalar.addi v324 c32_i32_298
  let c16_i32_299 : BitVec 32 := 16#32
  let v326 : BitVec 32 := Scalar.remsi v325 c16_i32_299
  let c256_i32_300 : BitVec 32 := 256#32
  let v327 : BitVec 32 := Scalar.muli v326 c256_i32_300
  let v328 : Index := Scalar.indexCast v327
  let c512_301 : Index := 512#32
  ![v328.toNat, 512]
def k0_off12 (d0 : Dev nD) (c0_i32_306 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : BitVec 32 := Scalar.addi v2 c0_i32_306
  let c1_i32_307 : BitVec 32 := 1#32
  let v338 : BitVec 32 := Scalar.addi v337 c1_i32_307
  let c32_i32_308 : BitVec 32 := 32#32
  let v339 : BitVec 32 := Scalar.addi v338 c32_i32_308
  let c16_i32_309 : BitVec 32 := 16#32
  let v340 : BitVec 32 := Scalar.remsi v339 c16_i32_309
  let c256_i32_310 : BitVec 32 := 256#32
  let v341 : BitVec 32 := Scalar.muli v340 c256_i32_310
  let c128_i32_311 : BitVec 32 := 128#32
  let v342 : BitVec 32 := Scalar.addi v341 c128_i32_311
  let v343 : Index := Scalar.indexCast v342
  let c512_312 : Index := 512#32
  ![v343.toNat, 512]
def k0_dev15 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_318 : BitVec 32 := 1#32
  let v352 : BitVec 32 := Scalar.muli v5 c1_i32_318
  let v353 : BitVec 32 := Scalar.addi c0_i32_319 v352
  v353.toNat
def k0_dev16 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_321 : BitVec 32 := 1#32
  let v354 : BitVec 32 := Scalar.muli v7 c1_i32_321
  let v355 : BitVec 32 := Scalar.addi c0_i32_322 v354
  v355.toNat
def k0_dev17 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_344 : BitVec 32 := 1#32
  let v379 : BitVec 32 := Scalar.muli v7 c1_i32_344
  let v380 : BitVec 32 := Scalar.addi c0_i32_345 v379
  v380.toNat
def k0_dev18 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_354 : BitVec 32 := 1#32
  let v389 : BitVec 32 := Scalar.muli v5 c1_i32_354
  let v390 : BitVec 32 := Scalar.addi c0_i32_355 v389
  v390.toNat
def k0_off13 (d0 : Dev nD) (c0_i32_398 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v427 : BitVec 32 := Scalar.subi v2 c0_i32_398
  let c1_i32_399 : BitVec 32 := 1#32
  let v428 : BitVec 32 := Scalar.subi v427 c1_i32_399
  let c32_i32_400 : BitVec 32 := 32#32
  let v429 : BitVec 32 := Scalar.addi v428 c32_i32_400
  let c16_i32_401 : BitVec 32 := 16#32
  let v430 : BitVec 32 := Scalar.remsi v429 c16_i32_401
  let c256_i32_402 : BitVec 32 := 256#32
  let v431 : BitVec 32 := Scalar.muli v430 c256_i32_402
  let v432 : Index := Scalar.indexCast v431
  let c1024_403 : Index := 1024#32
  ![v432.toNat, 1024]
def k0_off14 (d0 : Dev nD) (c0_i32_408 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v441 : BitVec 32 := Scalar.addi v2 c0_i32_408
  let c1_i32_409 : BitVec 32 := 1#32
  let v442 : BitVec 32 := Scalar.addi v441 c1_i32_409
  let c32_i32_410 : BitVec 32 := 32#32
  let v443 : BitVec 32 := Scalar.addi v442 c32_i32_410
  let c16_i32_411 : BitVec 32 := 16#32
  let v444 : BitVec 32 := Scalar.remsi v443 c16_i32_411
  let c256_i32_412 : BitVec 32 := 256#32
  let v445 : BitVec 32 := Scalar.muli v444 c256_i32_412
  let c128_i32_413 : BitVec 32 := 128#32
  let v446 : BitVec 32 := Scalar.addi v445 c128_i32_413
  let v447 : Index := Scalar.indexCast v446
  let c1024_414 : Index := 1024#32
  ![v447.toNat, 1024]
def k0_dev19 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_420 : BitVec 32 := 1#32
  let v456 : BitVec 32 := Scalar.muli v5 c1_i32_420
  let v457 : BitVec 32 := Scalar.addi c0_i32_421 v456
  v457.toNat
def k0_dev20 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_423 : BitVec 32 := 1#32
  let v458 : BitVec 32 := Scalar.muli v7 c1_i32_423
  let v459 : BitVec 32 := Scalar.addi c0_i32_424 v458
  v459.toNat
def k0_dev21 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_446 : BitVec 32 := 1#32
  let v483 : BitVec 32 := Scalar.muli v7 c1_i32_446
  let v484 : BitVec 32 := Scalar.addi c0_i32_447 v483
  v484.toNat
def k0_dev22 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_456 : BitVec 32 := 1#32
  let v493 : BitVec 32 := Scalar.muli v5 c1_i32_456
  let v494 : BitVec 32 := Scalar.addi c0_i32_457 v493
  v494.toNat
def k0_off15 (d0 : Dev nD) (c0_i32_500 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v531 : BitVec 32 := Scalar.subi v2 c0_i32_500
  let c1_i32_501 : BitVec 32 := 1#32
  let v532 : BitVec 32 := Scalar.subi v531 c1_i32_501
  let c32_i32_502 : BitVec 32 := 32#32
  let v533 : BitVec 32 := Scalar.addi v532 c32_i32_502
  let c16_i32_503 : BitVec 32 := 16#32
  let v534 : BitVec 32 := Scalar.remsi v533 c16_i32_503
  let c256_i32_504 : BitVec 32 := 256#32
  let v535 : BitVec 32 := Scalar.muli v534 c256_i32_504
  let v536 : Index := Scalar.indexCast v535
  let c1536_505 : Index := 1536#32
  ![v536.toNat, 1536]
def k0_off16 (d0 : Dev nD) (c0_i32_510 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v545 : BitVec 32 := Scalar.addi v2 c0_i32_510
  let c1_i32_511 : BitVec 32 := 1#32
  let v546 : BitVec 32 := Scalar.addi v545 c1_i32_511
  let c32_i32_512 : BitVec 32 := 32#32
  let v547 : BitVec 32 := Scalar.addi v546 c32_i32_512
  let c16_i32_513 : BitVec 32 := 16#32
  let v548 : BitVec 32 := Scalar.remsi v547 c16_i32_513
  let c256_i32_514 : BitVec 32 := 256#32
  let v549 : BitVec 32 := Scalar.muli v548 c256_i32_514
  let c128_i32_515 : BitVec 32 := 128#32
  let v550 : BitVec 32 := Scalar.addi v549 c128_i32_515
  let v551 : Index := Scalar.indexCast v550
  let c1536_516 : Index := 1536#32
  ![v551.toNat, 1536]
def k0_dev23 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_522 : BitVec 32 := 1#32
  let v560 : BitVec 32 := Scalar.muli v5 c1_i32_522
  let v561 : BitVec 32 := Scalar.addi c0_i32_523 v560
  v561.toNat
def k0_dev24 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_525 : BitVec 32 := 1#32
  let v562 : BitVec 32 := Scalar.muli v7 c1_i32_525
  let v563 : BitVec 32 := Scalar.addi c0_i32_526 v562
  v563.toNat
def k0_dev25 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_548 : BitVec 32 := 1#32
  let v587 : BitVec 32 := Scalar.muli v7 c1_i32_548
  let v588 : BitVec 32 := Scalar.addi c0_i32_549 v587
  v588.toNat
def k0_dev26 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_558 : BitVec 32 := 1#32
  let v597 : BitVec 32 := Scalar.muli v5 c1_i32_558
  let v598 : BitVec 32 := Scalar.addi c0_i32_559 v597
  v598.toNat
def k0_dev27 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_624 : BitVec 32 := 1#32
  let v664 : BitVec 32 := Scalar.muli v5 c1_i32_624
  let v665 : BitVec 32 := Scalar.addi c0_i32_625 v664
  v665.toNat
def k0_dev28 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_627 : BitVec 32 := 1#32
  let v666 : BitVec 32 := Scalar.muli v7 c1_i32_627
  let v667 : BitVec 32 := Scalar.addi c0_i32_628 v666
  v667.toNat
def k0_dev29 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_654 : BitVec 32 := 1#32
  let v691 : BitVec 32 := Scalar.muli v7 c1_i32_654
  let v692 : BitVec 32 := Scalar.addi c0_i32_655 v691
  v692.toNat
def k0_dev30 (d0 : Dev nD) : Nat :=
  let c0_i32_665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_664 : BitVec 32 := 1#32
  let v701 : BitVec 32 := Scalar.muli v5 c1_i32_664
  let v702 : BitVec 32 := Scalar.addi c0_i32_665 v701
  v702.toNat
def k0_dev31 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_730 : BitVec 32 := 1#32
  let v768 : BitVec 32 := Scalar.muli v5 c1_i32_730
  let v769 : BitVec 32 := Scalar.addi c0_i32_731 v768
  v769.toNat
def k0_dev32 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_733 : BitVec 32 := 1#32
  let v770 : BitVec 32 := Scalar.muli v7 c1_i32_733
  let v771 : BitVec 32 := Scalar.addi c0_i32_734 v770
  v771.toNat
def k0_dev33 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_760 : BitVec 32 := 1#32
  let v795 : BitVec 32 := Scalar.muli v7 c1_i32_760
  let v796 : BitVec 32 := Scalar.addi c0_i32_761 v795
  v796.toNat
def k0_dev34 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_770 : BitVec 32 := 1#32
  let v805 : BitVec 32 := Scalar.muli v5 c1_i32_770
  let v806 : BitVec 32 := Scalar.addi c0_i32_771 v805
  v806.toNat
def k0_dev35 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_836 : BitVec 32 := 1#32
  let v872 : BitVec 32 := Scalar.muli v5 c1_i32_836
  let v873 : BitVec 32 := Scalar.addi c0_i32_837 v872
  v873.toNat
def k0_dev36 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_839 : BitVec 32 := 1#32
  let v874 : BitVec 32 := Scalar.muli v7 c1_i32_839
  let v875 : BitVec 32 := Scalar.addi c0_i32_840 v874
  v875.toNat
def k0_dev37 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v899 : BitVec 32 := Scalar.muli v7 c1_i32_866
  let v900 : BitVec 32 := Scalar.addi c0_i32_867 v899
  v900.toNat
def k0_dev38 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_876 : BitVec 32 := 1#32
  let v909 : BitVec 32 := Scalar.muli v5 c1_i32_876
  let v910 : BitVec 32 := Scalar.addi c0_i32_877 v909
  v910.toNat
def k0_dev39 (d0 : Dev nD) : Nat :=
  let c0_i32_943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_942 : BitVec 32 := 1#32
  let v976 : BitVec 32 := Scalar.muli v5 c1_i32_942
  let v977 : BitVec 32 := Scalar.addi c0_i32_943 v976
  v977.toNat
def k0_dev40 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_945 : BitVec 32 := 1#32
  let v978 : BitVec 32 := Scalar.muli v7 c1_i32_945
  let v979 : BitVec 32 := Scalar.addi c0_i32_946 v978
  v979.toNat
def k0_dev41 (d0 : Dev nD) : Nat :=
  let c0_i32_973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_972 : BitVec 32 := 1#32
  let v1003 : BitVec 32 := Scalar.muli v7 c1_i32_972
  let v1004 : BitVec 32 := Scalar.addi c0_i32_973 v1003
  v1004.toNat
def k0_dev42 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_982 : BitVec 32 := 1#32
  let v1013 : BitVec 32 := Scalar.muli v5 c1_i32_982
  let v1014 : BitVec 32 := Scalar.addi c0_i32_983 v1013
  v1014.toNat
def k0_dev43 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1048 : BitVec 32 := 1#32
  let v1080 : BitVec 32 := Scalar.muli v5 c1_i32_1048
  let v1081 : BitVec 32 := Scalar.addi c0_i32_1049 v1080
  v1081.toNat
def k0_dev44 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1051 : BitVec 32 := 1#32
  let v1082 : BitVec 32 := Scalar.muli v7 c1_i32_1051
  let v1083 : BitVec 32 := Scalar.addi c0_i32_1052 v1082
  v1083.toNat
def k0_dev45 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1077 : BitVec 32 := 1#32
  let v1107 : BitVec 32 := Scalar.muli v7 c1_i32_1077
  let v1108 : BitVec 32 := Scalar.addi c0_i32_1078 v1107
  v1108.toNat
def k0_dev46 (d0 : Dev nD) : Nat :=
  let c0_i32_1088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1087 : BitVec 32 := 1#32
  let v1117 : BitVec 32 := Scalar.muli v5 c1_i32_1087
  let v1118 : BitVec 32 := Scalar.addi c0_i32_1088 v1117
  v1118.toNat
def k0_dev47 (d0 : Dev nD) : Nat :=
  let c0_i32_1154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1153 : BitVec 32 := 1#32
  let v1184 : BitVec 32 := Scalar.muli v5 c1_i32_1153
  let v1185 : BitVec 32 := Scalar.addi c0_i32_1154 v1184
  v1185.toNat
def k0_dev48 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1156 : BitVec 32 := 1#32
  let v1186 : BitVec 32 := Scalar.muli v7 c1_i32_1156
  let v1187 : BitVec 32 := Scalar.addi c0_i32_1157 v1186
  v1187.toNat
def k0_dev49 (d0 : Dev nD) : Nat :=
  let c0_i32_1184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1183 : BitVec 32 := 1#32
  let v1211 : BitVec 32 := Scalar.muli v7 c1_i32_1183
  let v1212 : BitVec 32 := Scalar.addi c0_i32_1184 v1211
  v1212.toNat
def k0_dev50 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1193 : BitVec 32 := 1#32
  let v1221 : BitVec 32 := Scalar.muli v5 c1_i32_1193
  let v1222 : BitVec 32 := Scalar.addi c0_i32_1194 v1221
  v1222.toNat
def k0_dev51 (d0 : Dev nD) : Nat :=
  let c0_i32_1260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1259 : BitVec 32 := 1#32
  let v1288 : BitVec 32 := Scalar.muli v5 c1_i32_1259
  let v1289 : BitVec 32 := Scalar.addi c0_i32_1260 v1288
  v1289.toNat
def k0_dev52 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1262 : BitVec 32 := 1#32
  let v1290 : BitVec 32 := Scalar.muli v7 c1_i32_1262
  let v1291 : BitVec 32 := Scalar.addi c0_i32_1263 v1290
  v1291.toNat
def k0_dev53 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1289 : BitVec 32 := 1#32
  let v1315 : BitVec 32 := Scalar.muli v7 c1_i32_1289
  let v1316 : BitVec 32 := Scalar.addi c0_i32_1290 v1315
  v1316.toNat
def k0_dev54 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1299 : BitVec 32 := 1#32
  let v1325 : BitVec 32 := Scalar.muli v5 c1_i32_1299
  let v1326 : BitVec 32 := Scalar.addi c0_i32_1300 v1325
  v1326.toNat
def k0_dev55 (d0 : Dev nD) : Nat :=
  let c0_i32_1366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1365 : BitVec 32 := 1#32
  let v1392 : BitVec 32 := Scalar.muli v5 c1_i32_1365
  let v1393 : BitVec 32 := Scalar.addi c0_i32_1366 v1392
  v1393.toNat
def k0_dev56 (d0 : Dev nD) : Nat :=
  let c0_i32_1369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1368 : BitVec 32 := 1#32
  let v1394 : BitVec 32 := Scalar.muli v7 c1_i32_1368
  let v1395 : BitVec 32 := Scalar.addi c0_i32_1369 v1394
  v1395.toNat
def k0_dev57 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1395 : BitVec 32 := 1#32
  let v1419 : BitVec 32 := Scalar.muli v7 c1_i32_1395
  let v1420 : BitVec 32 := Scalar.addi c0_i32_1396 v1419
  v1420.toNat
def k0_dev58 (d0 : Dev nD) : Nat :=
  let c0_i32_1406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1405 : BitVec 32 := 1#32
  let v1429 : BitVec 32 := Scalar.muli v5 c1_i32_1405
  let v1430 : BitVec 32 := Scalar.addi c0_i32_1406 v1429
  v1430.toNat
def k0_dev59 (d0 : Dev nD) : Nat :=
  let c0_i32_1472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1471 : BitVec 32 := 1#32
  let v1496 : BitVec 32 := Scalar.muli v5 c1_i32_1471
  let v1497 : BitVec 32 := Scalar.addi c0_i32_1472 v1496
  v1497.toNat
def k0_dev60 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1474 : BitVec 32 := 1#32
  let v1498 : BitVec 32 := Scalar.muli v7 c1_i32_1474
  let v1499 : BitVec 32 := Scalar.addi c0_i32_1475 v1498
  v1499.toNat
def k0_dev61 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1500 : BitVec 32 := 1#32
  let v1523 : BitVec 32 := Scalar.muli v7 c1_i32_1500
  let v1524 : BitVec 32 := Scalar.addi c0_i32_1501 v1523
  v1524.toNat
def k0_dev62 (d0 : Dev nD) : Nat :=
  let c0_i32_1511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1510 : BitVec 32 := 1#32
  let v1533 : BitVec 32 := Scalar.muli v5 c1_i32_1510
  let v1534 : BitVec 32 := Scalar.addi c0_i32_1511 v1533
  v1534.toNat
def k0_dev63 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1576 : BitVec 32 := 1#32
  let v1600 : BitVec 32 := Scalar.muli v5 c1_i32_1576
  let v1601 : BitVec 32 := Scalar.addi c0_i32_1577 v1600
  v1601.toNat
def k0_dev64 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1579 : BitVec 32 := 1#32
  let v1602 : BitVec 32 := Scalar.muli v7 c1_i32_1579
  let v1603 : BitVec 32 := Scalar.addi c0_i32_1580 v1602
  v1603.toNat
def k0_dev65 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1606 : BitVec 32 := 1#32
  let v1627 : BitVec 32 := Scalar.muli v7 c1_i32_1606
  let v1628 : BitVec 32 := Scalar.addi c0_i32_1607 v1627
  v1628.toNat
def k0_dev66 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1616 : BitVec 32 := 1#32
  let v1637 : BitVec 32 := Scalar.muli v5 c1_i32_1616
  let v1638 : BitVec 32 := Scalar.addi c0_i32_1617 v1637
  v1638.toNat
def k0_dev67 (d0 : Dev nD) : Nat :=
  let c0_i32_1683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1682 : BitVec 32 := 1#32
  let v1704 : BitVec 32 := Scalar.muli v5 c1_i32_1682
  let v1705 : BitVec 32 := Scalar.addi c0_i32_1683 v1704
  v1705.toNat
def k0_dev68 (d0 : Dev nD) : Nat :=
  let c0_i32_1686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1685 : BitVec 32 := 1#32
  let v1706 : BitVec 32 := Scalar.muli v7 c1_i32_1685
  let v1707 : BitVec 32 := Scalar.addi c0_i32_1686 v1706
  v1707.toNat
def k0_dev69 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1712 : BitVec 32 := 1#32
  let v1731 : BitVec 32 := Scalar.muli v7 c1_i32_1712
  let v1732 : BitVec 32 := Scalar.addi c0_i32_1713 v1731
  v1732.toNat
def k0_dev70 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1722 : BitVec 32 := 1#32
  let v1741 : BitVec 32 := Scalar.muli v5 c1_i32_1722
  let v1742 : BitVec 32 := Scalar.addi c0_i32_1723 v1741
  v1742.toNat
def k0_dev71 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1788 : BitVec 32 := 1#32
  let v1808 : BitVec 32 := Scalar.muli v5 c1_i32_1788
  let v1809 : BitVec 32 := Scalar.addi c0_i32_1789 v1808
  v1809.toNat
def k0_dev72 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1791 : BitVec 32 := 1#32
  let v1810 : BitVec 32 := Scalar.muli v7 c1_i32_1791
  let v1811 : BitVec 32 := Scalar.addi c0_i32_1792 v1810
  v1811.toNat
def k0_dev73 (d0 : Dev nD) : Nat :=
  let c0_i32_1819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1818 : BitVec 32 := 1#32
  let v1835 : BitVec 32 := Scalar.muli v7 c1_i32_1818
  let v1836 : BitVec 32 := Scalar.addi c0_i32_1819 v1835
  v1836.toNat
def k0_dev74 (d0 : Dev nD) : Nat :=
  let c0_i32_1829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1828 : BitVec 32 := 1#32
  let v1845 : BitVec 32 := Scalar.muli v5 c1_i32_1828
  let v1846 : BitVec 32 := Scalar.addi c0_i32_1829 v1845
  v1846.toNat
def k0_dev75 (d0 : Dev nD) : Nat :=
  let c0_i32_1895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1894 : BitVec 32 := 1#32
  let v1912 : BitVec 32 := Scalar.muli v5 c1_i32_1894
  let v1913 : BitVec 32 := Scalar.addi c0_i32_1895 v1912
  v1913.toNat
def k0_dev76 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1897 : BitVec 32 := 1#32
  let v1914 : BitVec 32 := Scalar.muli v7 c1_i32_1897
  let v1915 : BitVec 32 := Scalar.addi c0_i32_1898 v1914
  v1915.toNat
def k0_dev77 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1923 : BitVec 32 := 1#32
  let v1939 : BitVec 32 := Scalar.muli v7 c1_i32_1923
  let v1940 : BitVec 32 := Scalar.addi c0_i32_1924 v1939
  v1940.toNat
def k0_dev78 (d0 : Dev nD) : Nat :=
  let c0_i32_1934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1933 : BitVec 32 := 1#32
  let v1949 : BitVec 32 := Scalar.muli v5 c1_i32_1933
  let v1950 : BitVec 32 := Scalar.addi c0_i32_1934 v1949
  v1950.toNat
def k0_dev79 (d0 : Dev nD) : Nat :=
  let c0_i32_2000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1999 : BitVec 32 := 1#32
  let v2016 : BitVec 32 := Scalar.muli v5 c1_i32_1999
  let v2017 : BitVec 32 := Scalar.addi c0_i32_2000 v2016
  v2017.toNat
def k0_dev80 (d0 : Dev nD) : Nat :=
  let c0_i32_2003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2002 : BitVec 32 := 1#32
  let v2018 : BitVec 32 := Scalar.muli v7 c1_i32_2002
  let v2019 : BitVec 32 := Scalar.addi c0_i32_2003 v2018
  v2019.toNat
def k0_dev81 (d0 : Dev nD) : Nat :=
  let c0_i32_2030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2029 : BitVec 32 := 1#32
  let v2043 : BitVec 32 := Scalar.muli v7 c1_i32_2029
  let v2044 : BitVec 32 := Scalar.addi c0_i32_2030 v2043
  v2044.toNat
def k0_dev82 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2039 : BitVec 32 := 1#32
  let v2053 : BitVec 32 := Scalar.muli v5 c1_i32_2039
  let v2054 : BitVec 32 := Scalar.addi c0_i32_2040 v2053
  v2054.toNat
def k0_dev83 (d0 : Dev nD) : Nat :=
  let c0_i32_2106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2105 : BitVec 32 := 1#32
  let v2120 : BitVec 32 := Scalar.muli v5 c1_i32_2105
  let v2121 : BitVec 32 := Scalar.addi c0_i32_2106 v2120
  v2121.toNat
def k0_dev84 (d0 : Dev nD) : Nat :=
  let c0_i32_2109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2108 : BitVec 32 := 1#32
  let v2122 : BitVec 32 := Scalar.muli v7 c1_i32_2108
  let v2123 : BitVec 32 := Scalar.addi c0_i32_2109 v2122
  v2123.toNat
def k0_dev85 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2135 : BitVec 32 := 1#32
  let v2147 : BitVec 32 := Scalar.muli v7 c1_i32_2135
  let v2148 : BitVec 32 := Scalar.addi c0_i32_2136 v2147
  v2148.toNat
def k0_dev86 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2145 : BitVec 32 := 1#32
  let v2157 : BitVec 32 := Scalar.muli v5 c1_i32_2145
  let v2158 : BitVec 32 := Scalar.addi c0_i32_2146 v2157
  v2158.toNat
def k0_dev87 (d0 : Dev nD) : Nat :=
  let c0_i32_2212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2211 : BitVec 32 := 1#32
  let v2224 : BitVec 32 := Scalar.muli v5 c1_i32_2211
  let v2225 : BitVec 32 := Scalar.addi c0_i32_2212 v2224
  v2225.toNat
def k0_dev88 (d0 : Dev nD) : Nat :=
  let c0_i32_2215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2214 : BitVec 32 := 1#32
  let v2226 : BitVec 32 := Scalar.muli v7 c1_i32_2214
  let v2227 : BitVec 32 := Scalar.addi c0_i32_2215 v2226
  v2227.toNat
def k0_dev89 (d0 : Dev nD) : Nat :=
  let c0_i32_2242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2241 : BitVec 32 := 1#32
  let v2251 : BitVec 32 := Scalar.muli v7 c1_i32_2241
  let v2252 : BitVec 32 := Scalar.addi c0_i32_2242 v2251
  v2252.toNat
def k0_dev90 (d0 : Dev nD) : Nat :=
  let c0_i32_2252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2251 : BitVec 32 := 1#32
  let v2261 : BitVec 32 := Scalar.muli v5 c1_i32_2251
  let v2262 : BitVec 32 := Scalar.addi c0_i32_2252 v2261
  v2262.toNat
def k0_dev91 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2317 : BitVec 32 := 1#32
  let v2328 : BitVec 32 := Scalar.muli v5 c1_i32_2317
  let v2329 : BitVec 32 := Scalar.addi c0_i32_2318 v2328
  v2329.toNat
def k0_dev92 (d0 : Dev nD) : Nat :=
  let c0_i32_2321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2320 : BitVec 32 := 1#32
  let v2330 : BitVec 32 := Scalar.muli v7 c1_i32_2320
  let v2331 : BitVec 32 := Scalar.addi c0_i32_2321 v2330
  v2331.toNat
def k0_dev93 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2346 : BitVec 32 := 1#32
  let v2355 : BitVec 32 := Scalar.muli v7 c1_i32_2346
  let v2356 : BitVec 32 := Scalar.addi c0_i32_2347 v2355
  v2356.toNat
def k0_dev94 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2356 : BitVec 32 := 1#32
  let v2365 : BitVec 32 := Scalar.muli v5 c1_i32_2356
  let v2366 : BitVec 32 := Scalar.addi c0_i32_2357 v2365
  v2366.toNat
def k0_dev95 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2422 : BitVec 32 := 1#32
  let v2432 : BitVec 32 := Scalar.muli v5 c1_i32_2422
  let v2433 : BitVec 32 := Scalar.addi c0_i32_2423 v2432
  v2433.toNat
def k0_dev96 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2425 : BitVec 32 := 1#32
  let v2434 : BitVec 32 := Scalar.muli v7 c1_i32_2425
  let v2435 : BitVec 32 := Scalar.addi c0_i32_2426 v2434
  v2435.toNat
def k0_dev97 (d0 : Dev nD) : Nat :=
  let c0_i32_2453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2452 : BitVec 32 := 1#32
  let v2459 : BitVec 32 := Scalar.muli v7 c1_i32_2452
  let v2460 : BitVec 32 := Scalar.addi c0_i32_2453 v2459
  v2460.toNat
def k0_dev98 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2462 : BitVec 32 := 1#32
  let v2469 : BitVec 32 := Scalar.muli v5 c1_i32_2462
  let v2470 : BitVec 32 := Scalar.addi c0_i32_2463 v2469
  v2470.toNat
def k0_dev99 (d0 : Dev nD) : Nat :=
  let c0_i32_2529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2528 : BitVec 32 := 1#32
  let v2536 : BitVec 32 := Scalar.muli v5 c1_i32_2528
  let v2537 : BitVec 32 := Scalar.addi c0_i32_2529 v2536
  v2537.toNat
def k0_dev100 (d0 : Dev nD) : Nat :=
  let c0_i32_2532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2531 : BitVec 32 := 1#32
  let v2538 : BitVec 32 := Scalar.muli v7 c1_i32_2531
  let v2539 : BitVec 32 := Scalar.addi c0_i32_2532 v2538
  v2539.toNat
def k0_dev101 (d0 : Dev nD) : Nat :=
  let c0_i32_2559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2558 : BitVec 32 := 1#32
  let v2563 : BitVec 32 := Scalar.muli v7 c1_i32_2558
  let v2564 : BitVec 32 := Scalar.addi c0_i32_2559 v2563
  v2564.toNat
def k0_dev102 (d0 : Dev nD) : Nat :=
  let c0_i32_2569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2568 : BitVec 32 := 1#32
  let v2573 : BitVec 32 := Scalar.muli v5 c1_i32_2568
  let v2574 : BitVec 32 := Scalar.addi c0_i32_2569 v2573
  v2574.toNat
def k0_dev103 (d0 : Dev nD) : Nat :=
  let c0_i32_2635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2634 : BitVec 32 := 1#32
  let v2640 : BitVec 32 := Scalar.muli v5 c1_i32_2634
  let v2641 : BitVec 32 := Scalar.addi c0_i32_2635 v2640
  v2641.toNat
def k0_dev104 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2637 : BitVec 32 := 1#32
  let v2642 : BitVec 32 := Scalar.muli v7 c1_i32_2637
  let v2643 : BitVec 32 := Scalar.addi c0_i32_2638 v2642
  v2643.toNat
def k0_dev105 (d0 : Dev nD) : Nat :=
  let c0_i32_2665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2664 : BitVec 32 := 1#32
  let v2667 : BitVec 32 := Scalar.muli v7 c1_i32_2664
  let v2668 : BitVec 32 := Scalar.addi c0_i32_2665 v2667
  v2668.toNat
def k0_dev106 (d0 : Dev nD) : Nat :=
  let c0_i32_2675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2674 : BitVec 32 := 1#32
  let v2677 : BitVec 32 := Scalar.muli v5 c1_i32_2674
  let v2678 : BitVec 32 := Scalar.addi c0_i32_2675 v2677
  v2678.toNat
def k0_dev107 (d0 : Dev nD) : Nat :=
  let c0_i32_2741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2740 : BitVec 32 := 1#32
  let v2744 : BitVec 32 := Scalar.muli v5 c1_i32_2740
  let v2745 : BitVec 32 := Scalar.addi c0_i32_2741 v2744
  v2745.toNat
def k0_dev108 (d0 : Dev nD) : Nat :=
  let c0_i32_2744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2743 : BitVec 32 := 1#32
  let v2746 : BitVec 32 := Scalar.muli v7 c1_i32_2743
  let v2747 : BitVec 32 := Scalar.addi c0_i32_2744 v2746
  v2747.toNat
def k0_dev109 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2769 : BitVec 32 := 1#32
  let v2771 : BitVec 32 := Scalar.muli v7 c1_i32_2769
  let v2772 : BitVec 32 := Scalar.addi c0_i32_2770 v2771
  v2772.toNat
def k0_dev110 (d0 : Dev nD) : Nat :=
  let c0_i32_2780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2779 : BitVec 32 := 1#32
  let v2781 : BitVec 32 := Scalar.muli v5 c1_i32_2779
  let v2782 : BitVec 32 := Scalar.addi c0_i32_2780 v2781
  v2782.toNat
def k0_dev111 (d0 : Dev nD) : Nat :=
  let c0_i32_2846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2845 : BitVec 32 := 1#32
  let v2848 : BitVec 32 := Scalar.muli v5 c1_i32_2845
  let v2849 : BitVec 32 := Scalar.addi c0_i32_2846 v2848
  v2849.toNat
def k0_dev112 (d0 : Dev nD) : Nat :=
  let c0_i32_2849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2848 : BitVec 32 := 1#32
  let v2850 : BitVec 32 := Scalar.muli v7 c1_i32_2848
  let v2851 : BitVec 32 := Scalar.addi c0_i32_2849 v2850
  v2851.toNat
def k0_dev113 (d0 : Dev nD) : Nat :=
  let c0_i32_2876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2875 : BitVec 32 := 1#32
  let v2875 : BitVec 32 := Scalar.muli v7 c1_i32_2875
  let v2876 : BitVec 32 := Scalar.addi c0_i32_2876 v2875
  v2876.toNat
def k0_dev114 (d0 : Dev nD) : Nat :=
  let c0_i32_2886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2885 : BitVec 32 := 1#32
  let v2885 : BitVec 32 := Scalar.muli v5 c1_i32_2885
  let v2886 : BitVec 32 := Scalar.addi c0_i32_2886 v2885
  v2886.toNat
def k0_dev115 (d0 : Dev nD) : Nat :=
  let c0_i32_2952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2951 : BitVec 32 := 1#32
  let v2952 : BitVec 32 := Scalar.muli v5 c1_i32_2951
  let v2953 : BitVec 32 := Scalar.addi c0_i32_2952 v2952
  v2953.toNat
def k0_dev116 (d0 : Dev nD) : Nat :=
  let c0_i32_2955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2954 : BitVec 32 := 1#32
  let v2954 : BitVec 32 := Scalar.muli v7 c1_i32_2954
  let v2955 : BitVec 32 := Scalar.addi c0_i32_2955 v2954
  v2955.toNat
def k0_dev117 (d0 : Dev nD) : Nat :=
  let c0_i32_2982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2981 : BitVec 32 := 1#32
  let v2979 : BitVec 32 := Scalar.muli v7 c1_i32_2981
  let v2980 : BitVec 32 := Scalar.addi c0_i32_2982 v2979
  v2980.toNat
def k0_dev118 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2991 : BitVec 32 := 1#32
  let v2989 : BitVec 32 := Scalar.muli v5 c1_i32_2991
  let v2990 : BitVec 32 := Scalar.addi c0_i32_2992 v2989
  v2990.toNat
def k0_dev119 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3057 : BitVec 32 := 1#32
  let v3056 : BitVec 32 := Scalar.muli v5 c1_i32_3057
  let v3057 : BitVec 32 := Scalar.addi c0_i32_3058 v3056
  v3057.toNat
def k0_dev120 (d0 : Dev nD) : Nat :=
  let c0_i32_3061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3060 : BitVec 32 := 1#32
  let v3058 : BitVec 32 := Scalar.muli v7 c1_i32_3060
  let v3059 : BitVec 32 := Scalar.addi c0_i32_3061 v3058
  v3059.toNat
def k0_dev121 (d0 : Dev nD) : Nat :=
  let c0_i32_3088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3087 : BitVec 32 := 1#32
  let v3083 : BitVec 32 := Scalar.muli v7 c1_i32_3087
  let v3084 : BitVec 32 := Scalar.addi c0_i32_3088 v3083
  v3084.toNat
def k0_dev122 (d0 : Dev nD) : Nat :=
  let c0_i32_3098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3097 : BitVec 32 := 1#32
  let v3093 : BitVec 32 := Scalar.muli v5 c1_i32_3097
  let v3094 : BitVec 32 := Scalar.addi c0_i32_3098 v3093
  v3094.toNat
def k0_dev123 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3163 : BitVec 32 := 1#32
  let v3160 : BitVec 32 := Scalar.muli v5 c1_i32_3163
  let v3161 : BitVec 32 := Scalar.addi c0_i32_3164 v3160
  v3161.toNat
def k0_dev124 (d0 : Dev nD) : Nat :=
  let c0_i32_3167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3166 : BitVec 32 := 1#32
  let v3162 : BitVec 32 := Scalar.muli v7 c1_i32_3166
  let v3163 : BitVec 32 := Scalar.addi c0_i32_3167 v3162
  v3163.toNat
def k0_dev125 (d0 : Dev nD) : Nat :=
  let c0_i32_3193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3192 : BitVec 32 := 1#32
  let v3187 : BitVec 32 := Scalar.muli v7 c1_i32_3192
  let v3188 : BitVec 32 := Scalar.addi c0_i32_3193 v3187
  v3188.toNat
def k0_dev126 (d0 : Dev nD) : Nat :=
  let c0_i32_3203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3202 : BitVec 32 := 1#32
  let v3197 : BitVec 32 := Scalar.muli v5 c1_i32_3202
  let v3198 : BitVec 32 := Scalar.addi c0_i32_3203 v3197
  v3198.toNat
def k0_dev127 (d0 : Dev nD) : Nat :=
  let c0_i32_3269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3268 : BitVec 32 := 1#32
  let v3264 : BitVec 32 := Scalar.muli v5 c1_i32_3268
  let v3265 : BitVec 32 := Scalar.addi c0_i32_3269 v3264
  v3265.toNat
def k0_dev128 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3271 : BitVec 32 := 1#32
  let v3266 : BitVec 32 := Scalar.muli v7 c1_i32_3271
  let v3267 : BitVec 32 := Scalar.addi c0_i32_3272 v3266
  v3267.toNat
def k0_dev129 (d0 : Dev nD) : Nat :=
  let c0_i32_3299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3298 : BitVec 32 := 1#32
  let v3291 : BitVec 32 := Scalar.muli v7 c1_i32_3298
  let v3292 : BitVec 32 := Scalar.addi c0_i32_3299 v3291
  v3292.toNat
def k0_dev130 (d0 : Dev nD) : Nat :=
  let c0_i32_3309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3308 : BitVec 32 := 1#32
  let v3301 : BitVec 32 := Scalar.muli v5 c1_i32_3308
  let v3302 : BitVec 32 := Scalar.addi c0_i32_3309 v3301
  v3302.toNat
def k0_dev131 (d0 : Dev nD) : Nat :=
  let c0_i32_3375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3374 : BitVec 32 := 1#32
  let v3368 : BitVec 32 := Scalar.muli v5 c1_i32_3374
  let v3369 : BitVec 32 := Scalar.addi c0_i32_3375 v3368
  v3369.toNat
def k0_dev132 (d0 : Dev nD) : Nat :=
  let c0_i32_3378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3377 : BitVec 32 := 1#32
  let v3370 : BitVec 32 := Scalar.muli v7 c1_i32_3377
  let v3371 : BitVec 32 := Scalar.addi c0_i32_3378 v3370
  v3371.toNat
def k0_dev133 (d0 : Dev nD) : Nat :=
  let c0_i32_3405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3404 : BitVec 32 := 1#32
  let v3395 : BitVec 32 := Scalar.muli v7 c1_i32_3404
  let v3396 : BitVec 32 := Scalar.addi c0_i32_3405 v3395
  v3396.toNat
def k0_dev134 (d0 : Dev nD) : Nat :=
  let c0_i32_3415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3414 : BitVec 32 := 1#32
  let v3405 : BitVec 32 := Scalar.muli v5 c1_i32_3414
  let v3406 : BitVec 32 := Scalar.addi c0_i32_3415 v3405
  v3406.toNat
def k0_dev135 (d0 : Dev nD) : Nat :=
  let c0_i32_3481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3480 : BitVec 32 := 1#32
  let v3472 : BitVec 32 := Scalar.muli v5 c1_i32_3480
  let v3473 : BitVec 32 := Scalar.addi c0_i32_3481 v3472
  v3473.toNat
def k0_dev136 (d0 : Dev nD) : Nat :=
  let c0_i32_3484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3483 : BitVec 32 := 1#32
  let v3474 : BitVec 32 := Scalar.muli v7 c1_i32_3483
  let v3475 : BitVec 32 := Scalar.addi c0_i32_3484 v3474
  v3475.toNat
def k0_dev137 (d0 : Dev nD) : Nat :=
  let c0_i32_3511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3510 : BitVec 32 := 1#32
  let v3499 : BitVec 32 := Scalar.muli v7 c1_i32_3510
  let v3500 : BitVec 32 := Scalar.addi c0_i32_3511 v3499
  v3500.toNat
def k0_dev138 (d0 : Dev nD) : Nat :=
  let c0_i32_3521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3520 : BitVec 32 := 1#32
  let v3509 : BitVec 32 := Scalar.muli v5 c1_i32_3520
  let v3510 : BitVec 32 := Scalar.addi c0_i32_3521 v3509
  v3510.toNat
def k0_dev139 (d0 : Dev nD) : Nat :=
  let c0_i32_3587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3586 : BitVec 32 := 1#32
  let v3576 : BitVec 32 := Scalar.muli v5 c1_i32_3586
  let v3577 : BitVec 32 := Scalar.addi c0_i32_3587 v3576
  v3577.toNat
def k0_dev140 (d0 : Dev nD) : Nat :=
  let c0_i32_3590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3589 : BitVec 32 := 1#32
  let v3578 : BitVec 32 := Scalar.muli v7 c1_i32_3589
  let v3579 : BitVec 32 := Scalar.addi c0_i32_3590 v3578
  v3579.toNat
def k0_dev141 (d0 : Dev nD) : Nat :=
  let c0_i32_3616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3615 : BitVec 32 := 1#32
  let v3603 : BitVec 32 := Scalar.muli v7 c1_i32_3615
  let v3604 : BitVec 32 := Scalar.addi c0_i32_3616 v3603
  v3604.toNat
def k0_dev142 (d0 : Dev nD) : Nat :=
  let c0_i32_3626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3625 : BitVec 32 := 1#32
  let v3613 : BitVec 32 := Scalar.muli v5 c1_i32_3625
  let v3614 : BitVec 32 := Scalar.addi c0_i32_3626 v3613
  v3614.toNat
def k0_dev143 (d0 : Dev nD) : Nat :=
  let c0_i32_3692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3691 : BitVec 32 := 1#32
  let v3680 : BitVec 32 := Scalar.muli v5 c1_i32_3691
  let v3681 : BitVec 32 := Scalar.addi c0_i32_3692 v3680
  v3681.toNat
def k0_dev144 (d0 : Dev nD) : Nat :=
  let c0_i32_3695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3694 : BitVec 32 := 1#32
  let v3682 : BitVec 32 := Scalar.muli v7 c1_i32_3694
  let v3683 : BitVec 32 := Scalar.addi c0_i32_3695 v3682
  v3683.toNat
def k0_dev145 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3721 : BitVec 32 := 1#32
  let v3707 : BitVec 32 := Scalar.muli v7 c1_i32_3721
  let v3708 : BitVec 32 := Scalar.addi c0_i32_3722 v3707
  v3708.toNat
def k0_dev146 (d0 : Dev nD) : Nat :=
  let c0_i32_3732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3731 : BitVec 32 := 1#32
  let v3717 : BitVec 32 := Scalar.muli v5 c1_i32_3731
  let v3718 : BitVec 32 := Scalar.addi c0_i32_3732 v3717
  v3718.toNat
def k0_dev147 (d0 : Dev nD) : Nat :=
  let c0_i32_3798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3797 : BitVec 32 := 1#32
  let v3784 : BitVec 32 := Scalar.muli v5 c1_i32_3797
  let v3785 : BitVec 32 := Scalar.addi c0_i32_3798 v3784
  v3785.toNat
def k0_dev148 (d0 : Dev nD) : Nat :=
  let c0_i32_3801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3800 : BitVec 32 := 1#32
  let v3786 : BitVec 32 := Scalar.muli v7 c1_i32_3800
  let v3787 : BitVec 32 := Scalar.addi c0_i32_3801 v3786
  v3787.toNat
def k0_dev149 (d0 : Dev nD) : Nat :=
  let c0_i32_3828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3827 : BitVec 32 := 1#32
  let v3811 : BitVec 32 := Scalar.muli v7 c1_i32_3827
  let v3812 : BitVec 32 := Scalar.addi c0_i32_3828 v3811
  v3812.toNat
def k0_dev150 (d0 : Dev nD) : Nat :=
  let c0_i32_3838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3837 : BitVec 32 := 1#32
  let v3821 : BitVec 32 := Scalar.muli v5 c1_i32_3837
  let v3822 : BitVec 32 := Scalar.addi c0_i32_3838 v3821
  v3822.toNat
def k0_dev151 (d0 : Dev nD) : Nat :=
  let c0_i32_3904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3903 : BitVec 32 := 1#32
  let v3888 : BitVec 32 := Scalar.muli v5 c1_i32_3903
  let v3889 : BitVec 32 := Scalar.addi c0_i32_3904 v3888
  v3889.toNat
def k0_dev152 (d0 : Dev nD) : Nat :=
  let c0_i32_3907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3906 : BitVec 32 := 1#32
  let v3890 : BitVec 32 := Scalar.muli v7 c1_i32_3906
  let v3891 : BitVec 32 := Scalar.addi c0_i32_3907 v3890
  v3891.toNat
def k0_dev153 (d0 : Dev nD) : Nat :=
  let c0_i32_3934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3933 : BitVec 32 := 1#32
  let v3915 : BitVec 32 := Scalar.muli v7 c1_i32_3933
  let v3916 : BitVec 32 := Scalar.addi c0_i32_3934 v3915
  v3916.toNat
def k0_dev154 (d0 : Dev nD) : Nat :=
  let c0_i32_3944 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3943 : BitVec 32 := 1#32
  let v3925 : BitVec 32 := Scalar.muli v5 c1_i32_3943
  let v3926 : BitVec 32 := Scalar.addi c0_i32_3944 v3925
  v3926.toNat
def k0_dev155 (d0 : Dev nD) : Nat :=
  let c0_i32_4010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4009 : BitVec 32 := 1#32
  let v3992 : BitVec 32 := Scalar.muli v5 c1_i32_4009
  let v3993 : BitVec 32 := Scalar.addi c0_i32_4010 v3992
  v3993.toNat
def k0_dev156 (d0 : Dev nD) : Nat :=
  let c0_i32_4013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4012 : BitVec 32 := 1#32
  let v3994 : BitVec 32 := Scalar.muli v7 c1_i32_4012
  let v3995 : BitVec 32 := Scalar.addi c0_i32_4013 v3994
  v3995.toNat
def k0_dev157 (d0 : Dev nD) : Nat :=
  let c0_i32_4039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4038 : BitVec 32 := 1#32
  let v4019 : BitVec 32 := Scalar.muli v7 c1_i32_4038
  let v4020 : BitVec 32 := Scalar.addi c0_i32_4039 v4019
  v4020.toNat
def k0_dev158 (d0 : Dev nD) : Nat :=
  let c0_i32_4049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4048 : BitVec 32 := 1#32
  let v4029 : BitVec 32 := Scalar.muli v5 c1_i32_4048
  let v4030 : BitVec 32 := Scalar.addi c0_i32_4049 v4029
  v4030.toNat
def k0_dev159 (d0 : Dev nD) : Nat :=
  let c0_i32_4115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4114 : BitVec 32 := 1#32
  let v4096 : BitVec 32 := Scalar.muli v5 c1_i32_4114
  let v4097 : BitVec 32 := Scalar.addi c0_i32_4115 v4096
  v4097.toNat
def k0_dev160 (d0 : Dev nD) : Nat :=
  let c0_i32_4118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4117 : BitVec 32 := 1#32
  let v4098 : BitVec 32 := Scalar.muli v7 c1_i32_4117
  let v4099 : BitVec 32 := Scalar.addi c0_i32_4118 v4098
  v4099.toNat
def k0_dev161 (d0 : Dev nD) : Nat :=
  let c0_i32_4145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4144 : BitVec 32 := 1#32
  let v4123 : BitVec 32 := Scalar.muli v7 c1_i32_4144
  let v4124 : BitVec 32 := Scalar.addi c0_i32_4145 v4123
  v4124.toNat
def k0_dev162 (d0 : Dev nD) : Nat :=
  let c0_i32_4155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4154 : BitVec 32 := 1#32
  let v4133 : BitVec 32 := Scalar.muli v5 c1_i32_4154
  let v4134 : BitVec 32 := Scalar.addi c0_i32_4155 v4133
  v4134.toNat
def k0_dev163 (d0 : Dev nD) : Nat :=
  let c0_i32_4221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4220 : BitVec 32 := 1#32
  let v4200 : BitVec 32 := Scalar.muli v5 c1_i32_4220
  let v4201 : BitVec 32 := Scalar.addi c0_i32_4221 v4200
  v4201.toNat
def k0_dev164 (d0 : Dev nD) : Nat :=
  let c0_i32_4224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4223 : BitVec 32 := 1#32
  let v4202 : BitVec 32 := Scalar.muli v7 c1_i32_4223
  let v4203 : BitVec 32 := Scalar.addi c0_i32_4224 v4202
  v4203.toNat
def k0_dev165 (d0 : Dev nD) : Nat :=
  let c0_i32_4251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4250 : BitVec 32 := 1#32
  let v4227 : BitVec 32 := Scalar.muli v7 c1_i32_4250
  let v4228 : BitVec 32 := Scalar.addi c0_i32_4251 v4227
  v4228.toNat
def k0_dev166 (d0 : Dev nD) : Nat :=
  let c0_i32_4261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4260 : BitVec 32 := 1#32
  let v4237 : BitVec 32 := Scalar.muli v5 c1_i32_4260
  let v4238 : BitVec 32 := Scalar.addi c0_i32_4261 v4237
  v4238.toNat
def k0_dev167 (d0 : Dev nD) : Nat :=
  let c0_i32_4327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4326 : BitVec 32 := 1#32
  let v4304 : BitVec 32 := Scalar.muli v5 c1_i32_4326
  let v4305 : BitVec 32 := Scalar.addi c0_i32_4327 v4304
  v4305.toNat
def k0_dev168 (d0 : Dev nD) : Nat :=
  let c0_i32_4330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4329 : BitVec 32 := 1#32
  let v4306 : BitVec 32 := Scalar.muli v7 c1_i32_4329
  let v4307 : BitVec 32 := Scalar.addi c0_i32_4330 v4306
  v4307.toNat
def k0_dev169 (d0 : Dev nD) : Nat :=
  let c0_i32_4357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4356 : BitVec 32 := 1#32
  let v4331 : BitVec 32 := Scalar.muli v7 c1_i32_4356
  let v4332 : BitVec 32 := Scalar.addi c0_i32_4357 v4331
  v4332.toNat
def k0_dev170 (d0 : Dev nD) : Nat :=
  let c0_i32_4367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4366 : BitVec 32 := 1#32
  let v4341 : BitVec 32 := Scalar.muli v5 c1_i32_4366
  let v4342 : BitVec 32 := Scalar.addi c0_i32_4367 v4341
  v4342.toNat
def k0_dev171 (d0 : Dev nD) : Nat :=
  let c0_i32_4433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4432 : BitVec 32 := 1#32
  let v4408 : BitVec 32 := Scalar.muli v5 c1_i32_4432
  let v4409 : BitVec 32 := Scalar.addi c0_i32_4433 v4408
  v4409.toNat
def k0_dev172 (d0 : Dev nD) : Nat :=
  let c0_i32_4436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4435 : BitVec 32 := 1#32
  let v4410 : BitVec 32 := Scalar.muli v7 c1_i32_4435
  let v4411 : BitVec 32 := Scalar.addi c0_i32_4436 v4410
  v4411.toNat
def k0_dev173 (d0 : Dev nD) : Nat :=
  let c0_i32_4462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4461 : BitVec 32 := 1#32
  let v4435 : BitVec 32 := Scalar.muli v7 c1_i32_4461
  let v4436 : BitVec 32 := Scalar.addi c0_i32_4462 v4435
  v4436.toNat
def k0_dev174 (d0 : Dev nD) : Nat :=
  let c0_i32_4472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4471 : BitVec 32 := 1#32
  let v4445 : BitVec 32 := Scalar.muli v5 c1_i32_4471
  let v4446 : BitVec 32 := Scalar.addi c0_i32_4472 v4445
  v4446.toNat
def k0_dev175 (d0 : Dev nD) : Nat :=
  let c0_i32_4538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4537 : BitVec 32 := 1#32
  let v4512 : BitVec 32 := Scalar.muli v5 c1_i32_4537
  let v4513 : BitVec 32 := Scalar.addi c0_i32_4538 v4512
  v4513.toNat
def k0_dev176 (d0 : Dev nD) : Nat :=
  let c0_i32_4541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4540 : BitVec 32 := 1#32
  let v4514 : BitVec 32 := Scalar.muli v7 c1_i32_4540
  let v4515 : BitVec 32 := Scalar.addi c0_i32_4541 v4514
  v4515.toNat
def k0_dev177 (d0 : Dev nD) : Nat :=
  let c0_i32_4568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4567 : BitVec 32 := 1#32
  let v4539 : BitVec 32 := Scalar.muli v7 c1_i32_4567
  let v4540 : BitVec 32 := Scalar.addi c0_i32_4568 v4539
  v4540.toNat
def k0_dev178 (d0 : Dev nD) : Nat :=
  let c0_i32_4578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4577 : BitVec 32 := 1#32
  let v4549 : BitVec 32 := Scalar.muli v5 c1_i32_4577
  let v4550 : BitVec 32 := Scalar.addi c0_i32_4578 v4549
  v4550.toNat
def k0_dev179 (d0 : Dev nD) : Nat :=
  let c0_i32_4644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4643 : BitVec 32 := 1#32
  let v4616 : BitVec 32 := Scalar.muli v5 c1_i32_4643
  let v4617 : BitVec 32 := Scalar.addi c0_i32_4644 v4616
  v4617.toNat
def k0_dev180 (d0 : Dev nD) : Nat :=
  let c0_i32_4647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4646 : BitVec 32 := 1#32
  let v4618 : BitVec 32 := Scalar.muli v7 c1_i32_4646
  let v4619 : BitVec 32 := Scalar.addi c0_i32_4647 v4618
  v4619.toNat
def k0_dev181 (d0 : Dev nD) : Nat :=
  let c0_i32_4674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4673 : BitVec 32 := 1#32
  let v4643 : BitVec 32 := Scalar.muli v7 c1_i32_4673
  let v4644 : BitVec 32 := Scalar.addi c0_i32_4674 v4643
  v4644.toNat
def k0_dev182 (d0 : Dev nD) : Nat :=
  let c0_i32_4684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4683 : BitVec 32 := 1#32
  let v4653 : BitVec 32 := Scalar.muli v5 c1_i32_4683
  let v4654 : BitVec 32 := Scalar.addi c0_i32_4684 v4653
  v4654.toNat
def k0_dev183 (d0 : Dev nD) : Nat :=
  let c0_i32_4750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4749 : BitVec 32 := 1#32
  let v4720 : BitVec 32 := Scalar.muli v5 c1_i32_4749
  let v4721 : BitVec 32 := Scalar.addi c0_i32_4750 v4720
  v4721.toNat
def k0_dev184 (d0 : Dev nD) : Nat :=
  let c0_i32_4753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4752 : BitVec 32 := 1#32
  let v4722 : BitVec 32 := Scalar.muli v7 c1_i32_4752
  let v4723 : BitVec 32 := Scalar.addi c0_i32_4753 v4722
  v4723.toNat
def k0_dev185 (d0 : Dev nD) : Nat :=
  let c0_i32_4780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4779 : BitVec 32 := 1#32
  let v4747 : BitVec 32 := Scalar.muli v7 c1_i32_4779
  let v4748 : BitVec 32 := Scalar.addi c0_i32_4780 v4747
  v4748.toNat
def k0_dev186 (d0 : Dev nD) : Nat :=
  let c0_i32_4790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4789 : BitVec 32 := 1#32
  let v4757 : BitVec 32 := Scalar.muli v5 c1_i32_4789
  let v4758 : BitVec 32 := Scalar.addi c0_i32_4790 v4757
  v4758.toNat
def k0_dev187 (d0 : Dev nD) : Nat :=
  let c0_i32_4856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4855 : BitVec 32 := 1#32
  let v4824 : BitVec 32 := Scalar.muli v5 c1_i32_4855
  let v4825 : BitVec 32 := Scalar.addi c0_i32_4856 v4824
  v4825.toNat
def k0_dev188 (d0 : Dev nD) : Nat :=
  let c0_i32_4859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4858 : BitVec 32 := 1#32
  let v4826 : BitVec 32 := Scalar.muli v7 c1_i32_4858
  let v4827 : BitVec 32 := Scalar.addi c0_i32_4859 v4826
  v4827.toNat
def k0_dev189 (d0 : Dev nD) : Nat :=
  let c0_i32_4885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4884 : BitVec 32 := 1#32
  let v4851 : BitVec 32 := Scalar.muli v7 c1_i32_4884
  let v4852 : BitVec 32 := Scalar.addi c0_i32_4885 v4851
  v4852.toNat
def k0_dev190 (d0 : Dev nD) : Nat :=
  let c0_i32_4895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4894 : BitVec 32 := 1#32
  let v4861 : BitVec 32 := Scalar.muli v5 c1_i32_4894
  let v4862 : BitVec 32 := Scalar.addi c0_i32_4895 v4861
  v4862.toNat
def k0_dev191 (d0 : Dev nD) : Nat :=
  let c0_i32_4961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4960 : BitVec 32 := 1#32
  let v4928 : BitVec 32 := Scalar.muli v5 c1_i32_4960
  let v4929 : BitVec 32 := Scalar.addi c0_i32_4961 v4928
  v4929.toNat
def k0_dev192 (d0 : Dev nD) : Nat :=
  let c0_i32_4964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4963 : BitVec 32 := 1#32
  let v4930 : BitVec 32 := Scalar.muli v7 c1_i32_4963
  let v4931 : BitVec 32 := Scalar.addi c0_i32_4964 v4930
  v4931.toNat
def k0_dev193 (d0 : Dev nD) : Nat :=
  let c0_i32_4991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4990 : BitVec 32 := 1#32
  let v4955 : BitVec 32 := Scalar.muli v7 c1_i32_4990
  let v4956 : BitVec 32 := Scalar.addi c0_i32_4991 v4955
  v4956.toNat
def k0_dev194 (d0 : Dev nD) : Nat :=
  let c0_i32_5001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5000 : BitVec 32 := 1#32
  let v4965 : BitVec 32 := Scalar.muli v5 c1_i32_5000
  let v4966 : BitVec 32 := Scalar.addi c0_i32_5001 v4965
  v4966.toNat
def k0_dev195 (d0 : Dev nD) : Nat :=
  let c0_i32_5067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5066 : BitVec 32 := 1#32
  let v5032 : BitVec 32 := Scalar.muli v5 c1_i32_5066
  let v5033 : BitVec 32 := Scalar.addi c0_i32_5067 v5032
  v5033.toNat
def k0_dev196 (d0 : Dev nD) : Nat :=
  let c0_i32_5070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5069 : BitVec 32 := 1#32
  let v5034 : BitVec 32 := Scalar.muli v7 c1_i32_5069
  let v5035 : BitVec 32 := Scalar.addi c0_i32_5070 v5034
  v5035.toNat
def k0_dev197 (d0 : Dev nD) : Nat :=
  let c0_i32_5097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5096 : BitVec 32 := 1#32
  let v5059 : BitVec 32 := Scalar.muli v7 c1_i32_5096
  let v5060 : BitVec 32 := Scalar.addi c0_i32_5097 v5059
  v5060.toNat
def k0_dev198 (d0 : Dev nD) : Nat :=
  let c0_i32_5107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5106 : BitVec 32 := 1#32
  let v5069 : BitVec 32 := Scalar.muli v5 c1_i32_5106
  let v5070 : BitVec 32 := Scalar.addi c0_i32_5107 v5069
  v5070.toNat
def k0_dev199 (d0 : Dev nD) : Nat :=
  let c0_i32_5173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5172 : BitVec 32 := 1#32
  let v5136 : BitVec 32 := Scalar.muli v5 c1_i32_5172
  let v5137 : BitVec 32 := Scalar.addi c0_i32_5173 v5136
  v5137.toNat
def k0_dev200 (d0 : Dev nD) : Nat :=
  let c0_i32_5176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5175 : BitVec 32 := 1#32
  let v5138 : BitVec 32 := Scalar.muli v7 c1_i32_5175
  let v5139 : BitVec 32 := Scalar.addi c0_i32_5176 v5138
  v5139.toNat
def k0_dev201 (d0 : Dev nD) : Nat :=
  let c0_i32_5203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5202 : BitVec 32 := 1#32
  let v5163 : BitVec 32 := Scalar.muli v7 c1_i32_5202
  let v5164 : BitVec 32 := Scalar.addi c0_i32_5203 v5163
  v5164.toNat
def k0_dev202 (d0 : Dev nD) : Nat :=
  let c0_i32_5213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5212 : BitVec 32 := 1#32
  let v5173 : BitVec 32 := Scalar.muli v5 c1_i32_5212
  let v5174 : BitVec 32 := Scalar.addi c0_i32_5213 v5173
  v5174.toNat
def k0_dev203 (d0 : Dev nD) : Nat :=
  let c0_i32_5279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5278 : BitVec 32 := 1#32
  let v5240 : BitVec 32 := Scalar.muli v5 c1_i32_5278
  let v5241 : BitVec 32 := Scalar.addi c0_i32_5279 v5240
  v5241.toNat
def k0_dev204 (d0 : Dev nD) : Nat :=
  let c0_i32_5282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5281 : BitVec 32 := 1#32
  let v5242 : BitVec 32 := Scalar.muli v7 c1_i32_5281
  let v5243 : BitVec 32 := Scalar.addi c0_i32_5282 v5242
  v5243.toNat
def k0_dev205 (d0 : Dev nD) : Nat :=
  let c0_i32_5308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5307 : BitVec 32 := 1#32
  let v5267 : BitVec 32 := Scalar.muli v7 c1_i32_5307
  let v5268 : BitVec 32 := Scalar.addi c0_i32_5308 v5267
  v5268.toNat
def k0_dev206 (d0 : Dev nD) : Nat :=
  let c0_i32_5318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5317 : BitVec 32 := 1#32
  let v5277 : BitVec 32 := Scalar.muli v5 c1_i32_5317
  let v5278 : BitVec 32 := Scalar.addi c0_i32_5318 v5277
  v5278.toNat
def k0_dev207 (d0 : Dev nD) : Nat :=
  let c0_i32_5384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5383 : BitVec 32 := 1#32
  let v5344 : BitVec 32 := Scalar.muli v5 c1_i32_5383
  let v5345 : BitVec 32 := Scalar.addi c0_i32_5384 v5344
  v5345.toNat
def k0_dev208 (d0 : Dev nD) : Nat :=
  let c0_i32_5387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5386 : BitVec 32 := 1#32
  let v5346 : BitVec 32 := Scalar.muli v7 c1_i32_5386
  let v5347 : BitVec 32 := Scalar.addi c0_i32_5387 v5346
  v5347.toNat
def k0_dev209 (d0 : Dev nD) : Nat :=
  let c0_i32_5414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5413 : BitVec 32 := 1#32
  let v5371 : BitVec 32 := Scalar.muli v7 c1_i32_5413
  let v5372 : BitVec 32 := Scalar.addi c0_i32_5414 v5371
  v5372.toNat
def k0_dev210 (d0 : Dev nD) : Nat :=
  let c0_i32_5424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5423 : BitVec 32 := 1#32
  let v5381 : BitVec 32 := Scalar.muli v5 c1_i32_5423
  let v5382 : BitVec 32 := Scalar.addi c0_i32_5424 v5381
  v5382.toNat
def k0_dev211 (d0 : Dev nD) : Nat :=
  let c0_i32_5490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5489 : BitVec 32 := 1#32
  let v5448 : BitVec 32 := Scalar.muli v5 c1_i32_5489
  let v5449 : BitVec 32 := Scalar.addi c0_i32_5490 v5448
  v5449.toNat
def k0_dev212 (d0 : Dev nD) : Nat :=
  let c0_i32_5493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5492 : BitVec 32 := 1#32
  let v5450 : BitVec 32 := Scalar.muli v7 c1_i32_5492
  let v5451 : BitVec 32 := Scalar.addi c0_i32_5493 v5450
  v5451.toNat
def k0_dev213 (d0 : Dev nD) : Nat :=
  let c0_i32_5520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5519 : BitVec 32 := 1#32
  let v5475 : BitVec 32 := Scalar.muli v7 c1_i32_5519
  let v5476 : BitVec 32 := Scalar.addi c0_i32_5520 v5475
  v5476.toNat
def k0_dev214 (d0 : Dev nD) : Nat :=
  let c0_i32_5530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5529 : BitVec 32 := 1#32
  let v5485 : BitVec 32 := Scalar.muli v5 c1_i32_5529
  let v5486 : BitVec 32 := Scalar.addi c0_i32_5530 v5485
  v5486.toNat
def k0_dev215 (d0 : Dev nD) : Nat :=
  let c0_i32_5596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5595 : BitVec 32 := 1#32
  let v5552 : BitVec 32 := Scalar.muli v5 c1_i32_5595
  let v5553 : BitVec 32 := Scalar.addi c0_i32_5596 v5552
  v5553.toNat
def k0_dev216 (d0 : Dev nD) : Nat :=
  let c0_i32_5599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5598 : BitVec 32 := 1#32
  let v5554 : BitVec 32 := Scalar.muli v7 c1_i32_5598
  let v5555 : BitVec 32 := Scalar.addi c0_i32_5599 v5554
  v5555.toNat
def k0_dev217 (d0 : Dev nD) : Nat :=
  let c0_i32_5626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5625 : BitVec 32 := 1#32
  let v5579 : BitVec 32 := Scalar.muli v7 c1_i32_5625
  let v5580 : BitVec 32 := Scalar.addi c0_i32_5626 v5579
  v5580.toNat
def k0_dev218 (d0 : Dev nD) : Nat :=
  let c0_i32_5636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5635 : BitVec 32 := 1#32
  let v5589 : BitVec 32 := Scalar.muli v5 c1_i32_5635
  let v5590 : BitVec 32 := Scalar.addi c0_i32_5636 v5589
  v5590.toNat
def k0_dev219 (d0 : Dev nD) : Nat :=
  let c0_i32_5702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5701 : BitVec 32 := 1#32
  let v5656 : BitVec 32 := Scalar.muli v5 c1_i32_5701
  let v5657 : BitVec 32 := Scalar.addi c0_i32_5702 v5656
  v5657.toNat
def k0_dev220 (d0 : Dev nD) : Nat :=
  let c0_i32_5705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5704 : BitVec 32 := 1#32
  let v5658 : BitVec 32 := Scalar.muli v7 c1_i32_5704
  let v5659 : BitVec 32 := Scalar.addi c0_i32_5705 v5658
  v5659.toNat
def k0_dev221 (d0 : Dev nD) : Nat :=
  let c0_i32_5731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5730 : BitVec 32 := 1#32
  let v5683 : BitVec 32 := Scalar.muli v7 c1_i32_5730
  let v5684 : BitVec 32 := Scalar.addi c0_i32_5731 v5683
  v5684.toNat
def k0_dev222 (d0 : Dev nD) : Nat :=
  let c0_i32_5741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5740 : BitVec 32 := 1#32
  let v5693 : BitVec 32 := Scalar.muli v5 c1_i32_5740
  let v5694 : BitVec 32 := Scalar.addi c0_i32_5741 v5693
  v5694.toNat
def k0_dev223 (d0 : Dev nD) : Nat :=
  let c0_i32_5807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5806 : BitVec 32 := 1#32
  let v5760 : BitVec 32 := Scalar.muli v5 c1_i32_5806
  let v5761 : BitVec 32 := Scalar.addi c0_i32_5807 v5760
  v5761.toNat
def k0_dev224 (d0 : Dev nD) : Nat :=
  let c0_i32_5810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5809 : BitVec 32 := 1#32
  let v5762 : BitVec 32 := Scalar.muli v7 c1_i32_5809
  let v5763 : BitVec 32 := Scalar.addi c0_i32_5810 v5762
  v5763.toNat
def k0_dev225 (d0 : Dev nD) : Nat :=
  let c0_i32_5837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5836 : BitVec 32 := 1#32
  let v5787 : BitVec 32 := Scalar.muli v7 c1_i32_5836
  let v5788 : BitVec 32 := Scalar.addi c0_i32_5837 v5787
  v5788.toNat
def k0_dev226 (d0 : Dev nD) : Nat :=
  let c0_i32_5847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5846 : BitVec 32 := 1#32
  let v5797 : BitVec 32 := Scalar.muli v5 c1_i32_5846
  let v5798 : BitVec 32 := Scalar.addi c0_i32_5847 v5797
  v5798.toNat
def k0_dev227 (d0 : Dev nD) : Nat :=
  let c0_i32_5913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5912 : BitVec 32 := 1#32
  let v5864 : BitVec 32 := Scalar.muli v5 c1_i32_5912
  let v5865 : BitVec 32 := Scalar.addi c0_i32_5913 v5864
  v5865.toNat
def k0_dev228 (d0 : Dev nD) : Nat :=
  let c0_i32_5916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5915 : BitVec 32 := 1#32
  let v5866 : BitVec 32 := Scalar.muli v7 c1_i32_5915
  let v5867 : BitVec 32 := Scalar.addi c0_i32_5916 v5866
  v5867.toNat
def k0_dev229 (d0 : Dev nD) : Nat :=
  let c0_i32_5943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5942 : BitVec 32 := 1#32
  let v5891 : BitVec 32 := Scalar.muli v7 c1_i32_5942
  let v5892 : BitVec 32 := Scalar.addi c0_i32_5943 v5891
  v5892.toNat
def k0_dev230 (d0 : Dev nD) : Nat :=
  let c0_i32_5953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_5952 : BitVec 32 := 1#32
  let v5901 : BitVec 32 := Scalar.muli v5 c1_i32_5952
  let v5902 : BitVec 32 := Scalar.addi c0_i32_5953 v5901
  v5902.toNat
def k0_dev231 (d0 : Dev nD) : Nat :=
  let c0_i32_6019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6018 : BitVec 32 := 1#32
  let v5968 : BitVec 32 := Scalar.muli v5 c1_i32_6018
  let v5969 : BitVec 32 := Scalar.addi c0_i32_6019 v5968
  v5969.toNat
def k0_dev232 (d0 : Dev nD) : Nat :=
  let c0_i32_6022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6021 : BitVec 32 := 1#32
  let v5970 : BitVec 32 := Scalar.muli v7 c1_i32_6021
  let v5971 : BitVec 32 := Scalar.addi c0_i32_6022 v5970
  v5971.toNat
def k0_dev233 (d0 : Dev nD) : Nat :=
  let c0_i32_6049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6048 : BitVec 32 := 1#32
  let v5995 : BitVec 32 := Scalar.muli v7 c1_i32_6048
  let v5996 : BitVec 32 := Scalar.addi c0_i32_6049 v5995
  v5996.toNat
def k0_dev234 (d0 : Dev nD) : Nat :=
  let c0_i32_6059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6058 : BitVec 32 := 1#32
  let v6005 : BitVec 32 := Scalar.muli v5 c1_i32_6058
  let v6006 : BitVec 32 := Scalar.addi c0_i32_6059 v6005
  v6006.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6123 : BitVec 32 := 1#32
  let v6072 : BitVec 32 := Scalar.addi v2 c1_i32_6123
  let c32_i32_6124 : BitVec 32 := 32#32
  let v6073 : BitVec 32 := Scalar.addi v6072 c32_i32_6124
  let c16_i32_6125 : BitVec 32 := 16#32
  let v6074 : BitVec 32 := Scalar.remsi v6073 c16_i32_6125
  let c256_i32_6129 : BitVec 32 := 256#32
  let v6078 : BitVec 32 := Scalar.muli v6074 c256_i32_6129
  let v6079 : Index := Scalar.indexCast v6078
  let c0_6130 : Index := 0#32
  ![v6079.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6126 : BitVec 32 := 1#32
  let v6075 : BitVec 32 := Scalar.subi v2 c1_i32_6126
  let c32_i32_6127 : BitVec 32 := 32#32
  let v6076 : BitVec 32 := Scalar.addi v6075 c32_i32_6127
  let c16_i32_6128 : BitVec 32 := 16#32
  let v6077 : BitVec 32 := Scalar.remsi v6076 c16_i32_6128
  let c256_i32_6137 : BitVec 32 := 256#32
  let v6098 : BitVec 32 := Scalar.muli v6077 c256_i32_6137
  let c128_i32_6138 : BitVec 32 := 128#32
  let v6099 : BitVec 32 := Scalar.addi v6098 c128_i32_6138
  let v6100 : Index := Scalar.indexCast v6099
  let c0_6139 : Index := 0#32
  ![v6100.toNat, 0]
def k0_dev235 (d0 : Dev nD) : Nat :=
  let c0_i32_6149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6148 : BitVec 32 := 1#32
  let v6120 : BitVec 32 := Scalar.muli v5 c1_i32_6148
  let v6121 : BitVec 32 := Scalar.addi c0_i32_6149 v6120
  v6121.toNat
def k0_dev236 (d0 : Dev nD) : Nat :=
  let c0_i32_6152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6151 : BitVec 32 := 1#32
  let v6122 : BitVec 32 := Scalar.muli v7 c1_i32_6151
  let v6123 : BitVec 32 := Scalar.addi c0_i32_6152 v6122
  v6123.toNat
def k0_off19 (d0 : Dev nD) (c0_i32_6158 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6157 : BitVec 32 := 1#32
  let v6124 : BitVec 32 := Scalar.addi v2 c1_i32_6157
  let v6125 : BitVec 32 := Scalar.subi v6124 c0_i32_6158
  let c32_i32_6159 : BitVec 32 := 32#32
  let v6126 : BitVec 32 := Scalar.addi v6125 c32_i32_6159
  let c16_i32_6160 : BitVec 32 := 16#32
  let v6127 : BitVec 32 := Scalar.remsi v6126 c16_i32_6160
  let c256_i32_6161 : BitVec 32 := 256#32
  let v6128 : BitVec 32 := Scalar.muli v6127 c256_i32_6161
  let v6129 : Index := Scalar.indexCast v6128
  let c0_6162 : Index := 0#32
  ![v6129.toNat, 0]
def k0_off20 (d0 : Dev nD) (c0_i32_6167 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6166 : BitVec 32 := 1#32
  let v6136 : BitVec 32 := Scalar.subi v2 c1_i32_6166
  let v6137 : BitVec 32 := Scalar.addi v6136 c0_i32_6167
  let c32_i32_6168 : BitVec 32 := 32#32
  let v6138 : BitVec 32 := Scalar.addi v6137 c32_i32_6168
  let c16_i32_6169 : BitVec 32 := 16#32
  let v6139 : BitVec 32 := Scalar.remsi v6138 c16_i32_6169
  let c256_i32_6170 : BitVec 32 := 256#32
  let v6140 : BitVec 32 := Scalar.muli v6139 c256_i32_6170
  let c128_i32_6171 : BitVec 32 := 128#32
  let v6141 : BitVec 32 := Scalar.addi v6140 c128_i32_6171
  let v6142 : Index := Scalar.indexCast v6141
  let c0_6172 : Index := 0#32
  ![v6142.toNat, 0]
def k0_dev237 (d0 : Dev nD) : Nat :=
  let c0_i32_6181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6180 : BitVec 32 := 1#32
  let v6149 : BitVec 32 := Scalar.muli v7 c1_i32_6180
  let v6150 : BitVec 32 := Scalar.addi c0_i32_6181 v6149
  v6150.toNat
def k0_dev238 (d0 : Dev nD) : Nat :=
  let c0_i32_6191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6190 : BitVec 32 := 1#32
  let v6159 : BitVec 32 := Scalar.muli v5 c1_i32_6190
  let v6160 : BitVec 32 := Scalar.addi c0_i32_6191 v6159
  v6160.toNat
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6255 : BitVec 32 := 1#32
  let v6226 : BitVec 32 := Scalar.addi v2 c1_i32_6255
  let c32_i32_6256 : BitVec 32 := 32#32
  let v6227 : BitVec 32 := Scalar.addi v6226 c32_i32_6256
  let c16_i32_6257 : BitVec 32 := 16#32
  let v6228 : BitVec 32 := Scalar.remsi v6227 c16_i32_6257
  let c256_i32_6261 : BitVec 32 := 256#32
  let v6232 : BitVec 32 := Scalar.muli v6228 c256_i32_6261
  let v6233 : Index := Scalar.indexCast v6232
  let c512_6262 : Index := 512#32
  ![v6233.toNat, 512]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6258 : BitVec 32 := 1#32
  let v6229 : BitVec 32 := Scalar.subi v2 c1_i32_6258
  let c32_i32_6259 : BitVec 32 := 32#32
  let v6230 : BitVec 32 := Scalar.addi v6229 c32_i32_6259
  let c16_i32_6260 : BitVec 32 := 16#32
  let v6231 : BitVec 32 := Scalar.remsi v6230 c16_i32_6260
  let c256_i32_6269 : BitVec 32 := 256#32
  let v6252 : BitVec 32 := Scalar.muli v6231 c256_i32_6269
  let c128_i32_6270 : BitVec 32 := 128#32
  let v6253 : BitVec 32 := Scalar.addi v6252 c128_i32_6270
  let v6254 : Index := Scalar.indexCast v6253
  let c512_6271 : Index := 512#32
  ![v6254.toNat, 512]
def k0_dev239 (d0 : Dev nD) : Nat :=
  let c0_i32_6281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6280 : BitVec 32 := 1#32
  let v6274 : BitVec 32 := Scalar.muli v5 c1_i32_6280
  let v6275 : BitVec 32 := Scalar.addi c0_i32_6281 v6274
  v6275.toNat
def k0_dev240 (d0 : Dev nD) : Nat :=
  let c0_i32_6284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6283 : BitVec 32 := 1#32
  let v6276 : BitVec 32 := Scalar.muli v7 c1_i32_6283
  let v6277 : BitVec 32 := Scalar.addi c0_i32_6284 v6276
  v6277.toNat
def k0_off23 (d0 : Dev nD) (c0_i32_6290 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6289 : BitVec 32 := 1#32
  let v6278 : BitVec 32 := Scalar.addi v2 c1_i32_6289
  let v6279 : BitVec 32 := Scalar.subi v6278 c0_i32_6290
  let c32_i32_6291 : BitVec 32 := 32#32
  let v6280 : BitVec 32 := Scalar.addi v6279 c32_i32_6291
  let c16_i32_6292 : BitVec 32 := 16#32
  let v6281 : BitVec 32 := Scalar.remsi v6280 c16_i32_6292
  let c256_i32_6293 : BitVec 32 := 256#32
  let v6282 : BitVec 32 := Scalar.muli v6281 c256_i32_6293
  let v6283 : Index := Scalar.indexCast v6282
  let c512_6294 : Index := 512#32
  ![v6283.toNat, 512]
def k0_off24 (d0 : Dev nD) (c0_i32_6299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6298 : BitVec 32 := 1#32
  let v6290 : BitVec 32 := Scalar.subi v2 c1_i32_6298
  let v6291 : BitVec 32 := Scalar.addi v6290 c0_i32_6299
  let c32_i32_6300 : BitVec 32 := 32#32
  let v6292 : BitVec 32 := Scalar.addi v6291 c32_i32_6300
  let c16_i32_6301 : BitVec 32 := 16#32
  let v6293 : BitVec 32 := Scalar.remsi v6292 c16_i32_6301
  let c256_i32_6302 : BitVec 32 := 256#32
  let v6294 : BitVec 32 := Scalar.muli v6293 c256_i32_6302
  let c128_i32_6303 : BitVec 32 := 128#32
  let v6295 : BitVec 32 := Scalar.addi v6294 c128_i32_6303
  let v6296 : Index := Scalar.indexCast v6295
  let c512_6304 : Index := 512#32
  ![v6296.toNat, 512]
def k0_dev241 (d0 : Dev nD) : Nat :=
  let c0_i32_6313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6312 : BitVec 32 := 1#32
  let v6303 : BitVec 32 := Scalar.muli v7 c1_i32_6312
  let v6304 : BitVec 32 := Scalar.addi c0_i32_6313 v6303
  v6304.toNat
def k0_dev242 (d0 : Dev nD) : Nat :=
  let c0_i32_6323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6322 : BitVec 32 := 1#32
  let v6313 : BitVec 32 := Scalar.muli v5 c1_i32_6322
  let v6314 : BitVec 32 := Scalar.addi c0_i32_6323 v6313
  v6314.toNat
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6387 : BitVec 32 := 1#32
  let v6380 : BitVec 32 := Scalar.addi v2 c1_i32_6387
  let c32_i32_6388 : BitVec 32 := 32#32
  let v6381 : BitVec 32 := Scalar.addi v6380 c32_i32_6388
  let c16_i32_6389 : BitVec 32 := 16#32
  let v6382 : BitVec 32 := Scalar.remsi v6381 c16_i32_6389
  let c256_i32_6393 : BitVec 32 := 256#32
  let v6386 : BitVec 32 := Scalar.muli v6382 c256_i32_6393
  let v6387 : Index := Scalar.indexCast v6386
  let c1024_6394 : Index := 1024#32
  ![v6387.toNat, 1024]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6390 : BitVec 32 := 1#32
  let v6383 : BitVec 32 := Scalar.subi v2 c1_i32_6390
  let c32_i32_6391 : BitVec 32 := 32#32
  let v6384 : BitVec 32 := Scalar.addi v6383 c32_i32_6391
  let c16_i32_6392 : BitVec 32 := 16#32
  let v6385 : BitVec 32 := Scalar.remsi v6384 c16_i32_6392
  let c256_i32_6401 : BitVec 32 := 256#32
  let v6406 : BitVec 32 := Scalar.muli v6385 c256_i32_6401
  let c128_i32_6402 : BitVec 32 := 128#32
  let v6407 : BitVec 32 := Scalar.addi v6406 c128_i32_6402
  let v6408 : Index := Scalar.indexCast v6407
  let c1024_6403 : Index := 1024#32
  ![v6408.toNat, 1024]
def k0_dev243 (d0 : Dev nD) : Nat :=
  let c0_i32_6413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6412 : BitVec 32 := 1#32
  let v6428 : BitVec 32 := Scalar.muli v5 c1_i32_6412
  let v6429 : BitVec 32 := Scalar.addi c0_i32_6413 v6428
  v6429.toNat
def k0_dev244 (d0 : Dev nD) : Nat :=
  let c0_i32_6416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6415 : BitVec 32 := 1#32
  let v6430 : BitVec 32 := Scalar.muli v7 c1_i32_6415
  let v6431 : BitVec 32 := Scalar.addi c0_i32_6416 v6430
  v6431.toNat
def k0_off27 (d0 : Dev nD) (c0_i32_6422 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6421 : BitVec 32 := 1#32
  let v6432 : BitVec 32 := Scalar.addi v2 c1_i32_6421
  let v6433 : BitVec 32 := Scalar.subi v6432 c0_i32_6422
  let c32_i32_6423 : BitVec 32 := 32#32
  let v6434 : BitVec 32 := Scalar.addi v6433 c32_i32_6423
  let c16_i32_6424 : BitVec 32 := 16#32
  let v6435 : BitVec 32 := Scalar.remsi v6434 c16_i32_6424
  let c256_i32_6425 : BitVec 32 := 256#32
  let v6436 : BitVec 32 := Scalar.muli v6435 c256_i32_6425
  let v6437 : Index := Scalar.indexCast v6436
  let c1024_6426 : Index := 1024#32
  ![v6437.toNat, 1024]
def k0_off28 (d0 : Dev nD) (c0_i32_6431 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6430 : BitVec 32 := 1#32
  let v6444 : BitVec 32 := Scalar.subi v2 c1_i32_6430
  let v6445 : BitVec 32 := Scalar.addi v6444 c0_i32_6431
  let c32_i32_6432 : BitVec 32 := 32#32
  let v6446 : BitVec 32 := Scalar.addi v6445 c32_i32_6432
  let c16_i32_6433 : BitVec 32 := 16#32
  let v6447 : BitVec 32 := Scalar.remsi v6446 c16_i32_6433
  let c256_i32_6434 : BitVec 32 := 256#32
  let v6448 : BitVec 32 := Scalar.muli v6447 c256_i32_6434
  let c128_i32_6435 : BitVec 32 := 128#32
  let v6449 : BitVec 32 := Scalar.addi v6448 c128_i32_6435
  let v6450 : Index := Scalar.indexCast v6449
  let c1024_6436 : Index := 1024#32
  ![v6450.toNat, 1024]
def k0_dev245 (d0 : Dev nD) : Nat :=
  let c0_i32_6445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6444 : BitVec 32 := 1#32
  let v6457 : BitVec 32 := Scalar.muli v7 c1_i32_6444
  let v6458 : BitVec 32 := Scalar.addi c0_i32_6445 v6457
  v6458.toNat
def k0_dev246 (d0 : Dev nD) : Nat :=
  let c0_i32_6455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6454 : BitVec 32 := 1#32
  let v6467 : BitVec 32 := Scalar.muli v5 c1_i32_6454
  let v6468 : BitVec 32 := Scalar.addi c0_i32_6455 v6467
  v6468.toNat
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6519 : BitVec 32 := 1#32
  let v6534 : BitVec 32 := Scalar.addi v2 c1_i32_6519
  let c32_i32_6520 : BitVec 32 := 32#32
  let v6535 : BitVec 32 := Scalar.addi v6534 c32_i32_6520
  let c16_i32_6521 : BitVec 32 := 16#32
  let v6536 : BitVec 32 := Scalar.remsi v6535 c16_i32_6521
  let c256_i32_6525 : BitVec 32 := 256#32
  let v6540 : BitVec 32 := Scalar.muli v6536 c256_i32_6525
  let v6541 : Index := Scalar.indexCast v6540
  let c1536_6526 : Index := 1536#32
  ![v6541.toNat, 1536]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6522 : BitVec 32 := 1#32
  let v6537 : BitVec 32 := Scalar.subi v2 c1_i32_6522
  let c32_i32_6523 : BitVec 32 := 32#32
  let v6538 : BitVec 32 := Scalar.addi v6537 c32_i32_6523
  let c16_i32_6524 : BitVec 32 := 16#32
  let v6539 : BitVec 32 := Scalar.remsi v6538 c16_i32_6524
  let c256_i32_6533 : BitVec 32 := 256#32
  let v6560 : BitVec 32 := Scalar.muli v6539 c256_i32_6533
  let c128_i32_6534 : BitVec 32 := 128#32
  let v6561 : BitVec 32 := Scalar.addi v6560 c128_i32_6534
  let v6562 : Index := Scalar.indexCast v6561
  let c1536_6535 : Index := 1536#32
  ![v6562.toNat, 1536]
def k0_dev247 (d0 : Dev nD) : Nat :=
  let c0_i32_6545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6544 : BitVec 32 := 1#32
  let v6582 : BitVec 32 := Scalar.muli v5 c1_i32_6544
  let v6583 : BitVec 32 := Scalar.addi c0_i32_6545 v6582
  v6583.toNat
def k0_dev248 (d0 : Dev nD) : Nat :=
  let c0_i32_6548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6547 : BitVec 32 := 1#32
  let v6584 : BitVec 32 := Scalar.muli v7 c1_i32_6547
  let v6585 : BitVec 32 := Scalar.addi c0_i32_6548 v6584
  v6585.toNat
def k0_off31 (d0 : Dev nD) (c0_i32_6554 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6553 : BitVec 32 := 1#32
  let v6586 : BitVec 32 := Scalar.addi v2 c1_i32_6553
  let v6587 : BitVec 32 := Scalar.subi v6586 c0_i32_6554
  let c32_i32_6555 : BitVec 32 := 32#32
  let v6588 : BitVec 32 := Scalar.addi v6587 c32_i32_6555
  let c16_i32_6556 : BitVec 32 := 16#32
  let v6589 : BitVec 32 := Scalar.remsi v6588 c16_i32_6556
  let c256_i32_6557 : BitVec 32 := 256#32
  let v6590 : BitVec 32 := Scalar.muli v6589 c256_i32_6557
  let v6591 : Index := Scalar.indexCast v6590
  let c1536_6558 : Index := 1536#32
  ![v6591.toNat, 1536]
def k0_off32 (d0 : Dev nD) (c0_i32_6563 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6562 : BitVec 32 := 1#32
  let v6598 : BitVec 32 := Scalar.subi v2 c1_i32_6562
  let v6599 : BitVec 32 := Scalar.addi v6598 c0_i32_6563
  let c32_i32_6564 : BitVec 32 := 32#32
  let v6600 : BitVec 32 := Scalar.addi v6599 c32_i32_6564
  let c16_i32_6565 : BitVec 32 := 16#32
  let v6601 : BitVec 32 := Scalar.remsi v6600 c16_i32_6565
  let c256_i32_6566 : BitVec 32 := 256#32
  let v6602 : BitVec 32 := Scalar.muli v6601 c256_i32_6566
  let c128_i32_6567 : BitVec 32 := 128#32
  let v6603 : BitVec 32 := Scalar.addi v6602 c128_i32_6567
  let v6604 : Index := Scalar.indexCast v6603
  let c1536_6568 : Index := 1536#32
  ![v6604.toNat, 1536]
def k0_dev249 (d0 : Dev nD) : Nat :=
  let c0_i32_6577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6576 : BitVec 32 := 1#32
  let v6611 : BitVec 32 := Scalar.muli v7 c1_i32_6576
  let v6612 : BitVec 32 := Scalar.addi c0_i32_6577 v6611
  v6612.toNat
def k0_dev250 (d0 : Dev nD) : Nat :=
  let c0_i32_6587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6586 : BitVec 32 := 1#32
  let v6621 : BitVec 32 := Scalar.muli v5 c1_i32_6586
  let v6622 : BitVec 32 := Scalar.addi c0_i32_6587 v6621
  v6622.toNat
def k0_dev251 (d0 : Dev nD) : Nat :=
  let c0_i32_6649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6648 : BitVec 32 := 1#32
  let v6678 : BitVec 32 := Scalar.muli v5 c1_i32_6648
  let v6679 : BitVec 32 := Scalar.addi c0_i32_6649 v6678
  v6679.toNat
def k0_dev252 (d0 : Dev nD) : Nat :=
  let c0_i32_6652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6651 : BitVec 32 := 1#32
  let v6680 : BitVec 32 := Scalar.muli v7 c1_i32_6651
  let v6681 : BitVec 32 := Scalar.addi c0_i32_6652 v6680
  v6681.toNat
def k0_dev253 (d0 : Dev nD) : Nat :=
  let c0_i32_6681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6680 : BitVec 32 := 1#32
  let v6707 : BitVec 32 := Scalar.muli v7 c1_i32_6680
  let v6708 : BitVec 32 := Scalar.addi c0_i32_6681 v6707
  v6708.toNat
def k0_dev254 (d0 : Dev nD) : Nat :=
  let c0_i32_6691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6690 : BitVec 32 := 1#32
  let v6717 : BitVec 32 := Scalar.muli v5 c1_i32_6690
  let v6718 : BitVec 32 := Scalar.addi c0_i32_6691 v6717
  v6718.toNat
def k0_dev255 (d0 : Dev nD) : Nat :=
  let c0_i32_6753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6752 : BitVec 32 := 1#32
  let v6774 : BitVec 32 := Scalar.muli v5 c1_i32_6752
  let v6775 : BitVec 32 := Scalar.addi c0_i32_6753 v6774
  v6775.toNat
def k0_dev256 (d0 : Dev nD) : Nat :=
  let c0_i32_6756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6755 : BitVec 32 := 1#32
  let v6776 : BitVec 32 := Scalar.muli v7 c1_i32_6755
  let v6777 : BitVec 32 := Scalar.addi c0_i32_6756 v6776
  v6777.toNat
def k0_dev257 (d0 : Dev nD) : Nat :=
  let c0_i32_6785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6784 : BitVec 32 := 1#32
  let v6803 : BitVec 32 := Scalar.muli v7 c1_i32_6784
  let v6804 : BitVec 32 := Scalar.addi c0_i32_6785 v6803
  v6804.toNat
def k0_dev258 (d0 : Dev nD) : Nat :=
  let c0_i32_6795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6794 : BitVec 32 := 1#32
  let v6813 : BitVec 32 := Scalar.muli v5 c1_i32_6794
  let v6814 : BitVec 32 := Scalar.addi c0_i32_6795 v6813
  v6814.toNat
def k0_dev259 (d0 : Dev nD) : Nat :=
  let c0_i32_6857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6856 : BitVec 32 := 1#32
  let v6870 : BitVec 32 := Scalar.muli v5 c1_i32_6856
  let v6871 : BitVec 32 := Scalar.addi c0_i32_6857 v6870
  v6871.toNat
def k0_dev260 (d0 : Dev nD) : Nat :=
  let c0_i32_6860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6859 : BitVec 32 := 1#32
  let v6872 : BitVec 32 := Scalar.muli v7 c1_i32_6859
  let v6873 : BitVec 32 := Scalar.addi c0_i32_6860 v6872
  v6873.toNat
def k0_dev261 (d0 : Dev nD) : Nat :=
  let c0_i32_6889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6888 : BitVec 32 := 1#32
  let v6899 : BitVec 32 := Scalar.muli v7 c1_i32_6888
  let v6900 : BitVec 32 := Scalar.addi c0_i32_6889 v6899
  v6900.toNat
def k0_dev262 (d0 : Dev nD) : Nat :=
  let c0_i32_6899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6898 : BitVec 32 := 1#32
  let v6909 : BitVec 32 := Scalar.muli v5 c1_i32_6898
  let v6910 : BitVec 32 := Scalar.addi c0_i32_6899 v6909
  v6910.toNat
def k0_dev263 (d0 : Dev nD) : Nat :=
  let c0_i32_6961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6960 : BitVec 32 := 1#32
  let v6966 : BitVec 32 := Scalar.muli v5 c1_i32_6960
  let v6967 : BitVec 32 := Scalar.addi c0_i32_6961 v6966
  v6967.toNat
def k0_dev264 (d0 : Dev nD) : Nat :=
  let c0_i32_6964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6963 : BitVec 32 := 1#32
  let v6968 : BitVec 32 := Scalar.muli v7 c1_i32_6963
  let v6969 : BitVec 32 := Scalar.addi c0_i32_6964 v6968
  v6969.toNat
def k0_dev265 (d0 : Dev nD) : Nat :=
  let c0_i32_6993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_6992 : BitVec 32 := 1#32
  let v6995 : BitVec 32 := Scalar.muli v7 c1_i32_6992
  let v6996 : BitVec 32 := Scalar.addi c0_i32_6993 v6995
  v6996.toNat
def k0_dev266 (d0 : Dev nD) : Nat :=
  let c0_i32_7003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7002 : BitVec 32 := 1#32
  let v7005 : BitVec 32 := Scalar.muli v5 c1_i32_7002
  let v7006 : BitVec 32 := Scalar.addi c0_i32_7003 v7005
  v7006.toNat
def k0_dev267 (d0 : Dev nD) : Nat :=
  let c0_i32_7065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7064 : BitVec 32 := 1#32
  let v7062 : BitVec 32 := Scalar.muli v5 c1_i32_7064
  let v7063 : BitVec 32 := Scalar.addi c0_i32_7065 v7062
  v7063.toNat
def k0_dev268 (d0 : Dev nD) : Nat :=
  let c0_i32_7068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7067 : BitVec 32 := 1#32
  let v7064 : BitVec 32 := Scalar.muli v7 c1_i32_7067
  let v7065 : BitVec 32 := Scalar.addi c0_i32_7068 v7064
  v7065.toNat
def k0_dev269 (d0 : Dev nD) : Nat :=
  let c0_i32_7097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7096 : BitVec 32 := 1#32
  let v7091 : BitVec 32 := Scalar.muli v7 c1_i32_7096
  let v7092 : BitVec 32 := Scalar.addi c0_i32_7097 v7091
  v7092.toNat
def k0_dev270 (d0 : Dev nD) : Nat :=
  let c0_i32_7107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7106 : BitVec 32 := 1#32
  let v7101 : BitVec 32 := Scalar.muli v5 c1_i32_7106
  let v7102 : BitVec 32 := Scalar.addi c0_i32_7107 v7101
  v7102.toNat
def k0_dev271 (d0 : Dev nD) : Nat :=
  let c0_i32_7169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7168 : BitVec 32 := 1#32
  let v7158 : BitVec 32 := Scalar.muli v5 c1_i32_7168
  let v7159 : BitVec 32 := Scalar.addi c0_i32_7169 v7158
  v7159.toNat
def k0_dev272 (d0 : Dev nD) : Nat :=
  let c0_i32_7172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7171 : BitVec 32 := 1#32
  let v7160 : BitVec 32 := Scalar.muli v7 c1_i32_7171
  let v7161 : BitVec 32 := Scalar.addi c0_i32_7172 v7160
  v7161.toNat
def k0_dev273 (d0 : Dev nD) : Nat :=
  let c0_i32_7201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7200 : BitVec 32 := 1#32
  let v7187 : BitVec 32 := Scalar.muli v7 c1_i32_7200
  let v7188 : BitVec 32 := Scalar.addi c0_i32_7201 v7187
  v7188.toNat
def k0_dev274 (d0 : Dev nD) : Nat :=
  let c0_i32_7211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7210 : BitVec 32 := 1#32
  let v7197 : BitVec 32 := Scalar.muli v5 c1_i32_7210
  let v7198 : BitVec 32 := Scalar.addi c0_i32_7211 v7197
  v7198.toNat
def k0_dev275 (d0 : Dev nD) : Nat :=
  let c0_i32_7273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7272 : BitVec 32 := 1#32
  let v7254 : BitVec 32 := Scalar.muli v5 c1_i32_7272
  let v7255 : BitVec 32 := Scalar.addi c0_i32_7273 v7254
  v7255.toNat
def k0_dev276 (d0 : Dev nD) : Nat :=
  let c0_i32_7276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7275 : BitVec 32 := 1#32
  let v7256 : BitVec 32 := Scalar.muli v7 c1_i32_7275
  let v7257 : BitVec 32 := Scalar.addi c0_i32_7276 v7256
  v7257.toNat
def k0_dev277 (d0 : Dev nD) : Nat :=
  let c0_i32_7305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7304 : BitVec 32 := 1#32
  let v7283 : BitVec 32 := Scalar.muli v7 c1_i32_7304
  let v7284 : BitVec 32 := Scalar.addi c0_i32_7305 v7283
  v7284.toNat
def k0_dev278 (d0 : Dev nD) : Nat :=
  let c0_i32_7315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7314 : BitVec 32 := 1#32
  let v7293 : BitVec 32 := Scalar.muli v5 c1_i32_7314
  let v7294 : BitVec 32 := Scalar.addi c0_i32_7315 v7293
  v7294.toNat
def k0_dev279 (d0 : Dev nD) : Nat :=
  let c0_i32_7377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7376 : BitVec 32 := 1#32
  let v7350 : BitVec 32 := Scalar.muli v5 c1_i32_7376
  let v7351 : BitVec 32 := Scalar.addi c0_i32_7377 v7350
  v7351.toNat
def k0_dev280 (d0 : Dev nD) : Nat :=
  let c0_i32_7380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7379 : BitVec 32 := 1#32
  let v7352 : BitVec 32 := Scalar.muli v7 c1_i32_7379
  let v7353 : BitVec 32 := Scalar.addi c0_i32_7380 v7352
  v7353.toNat
def k0_dev281 (d0 : Dev nD) : Nat :=
  let c0_i32_7409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7408 : BitVec 32 := 1#32
  let v7379 : BitVec 32 := Scalar.muli v7 c1_i32_7408
  let v7380 : BitVec 32 := Scalar.addi c0_i32_7409 v7379
  v7380.toNat
def k0_dev282 (d0 : Dev nD) : Nat :=
  let c0_i32_7419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7418 : BitVec 32 := 1#32
  let v7389 : BitVec 32 := Scalar.muli v5 c1_i32_7418
  let v7390 : BitVec 32 := Scalar.addi c0_i32_7419 v7389
  v7390.toNat
def k0_dev283 (d0 : Dev nD) : Nat :=
  let c0_i32_7481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7480 : BitVec 32 := 1#32
  let v7446 : BitVec 32 := Scalar.muli v5 c1_i32_7480
  let v7447 : BitVec 32 := Scalar.addi c0_i32_7481 v7446
  v7447.toNat
def k0_dev284 (d0 : Dev nD) : Nat :=
  let c0_i32_7484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7483 : BitVec 32 := 1#32
  let v7448 : BitVec 32 := Scalar.muli v7 c1_i32_7483
  let v7449 : BitVec 32 := Scalar.addi c0_i32_7484 v7448
  v7449.toNat
def k0_dev285 (d0 : Dev nD) : Nat :=
  let c0_i32_7513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7512 : BitVec 32 := 1#32
  let v7475 : BitVec 32 := Scalar.muli v7 c1_i32_7512
  let v7476 : BitVec 32 := Scalar.addi c0_i32_7513 v7475
  v7476.toNat
def k0_dev286 (d0 : Dev nD) : Nat :=
  let c0_i32_7523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7522 : BitVec 32 := 1#32
  let v7485 : BitVec 32 := Scalar.muli v5 c1_i32_7522
  let v7486 : BitVec 32 := Scalar.addi c0_i32_7523 v7485
  v7486.toNat
def k0_dev287 (d0 : Dev nD) : Nat :=
  let c0_i32_7585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7584 : BitVec 32 := 1#32
  let v7542 : BitVec 32 := Scalar.muli v5 c1_i32_7584
  let v7543 : BitVec 32 := Scalar.addi c0_i32_7585 v7542
  v7543.toNat
def k0_dev288 (d0 : Dev nD) : Nat :=
  let c0_i32_7588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7587 : BitVec 32 := 1#32
  let v7544 : BitVec 32 := Scalar.muli v7 c1_i32_7587
  let v7545 : BitVec 32 := Scalar.addi c0_i32_7588 v7544
  v7545.toNat
def k0_dev289 (d0 : Dev nD) : Nat :=
  let c0_i32_7617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7616 : BitVec 32 := 1#32
  let v7571 : BitVec 32 := Scalar.muli v7 c1_i32_7616
  let v7572 : BitVec 32 := Scalar.addi c0_i32_7617 v7571
  v7572.toNat
def k0_dev290 (d0 : Dev nD) : Nat :=
  let c0_i32_7627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7626 : BitVec 32 := 1#32
  let v7581 : BitVec 32 := Scalar.muli v5 c1_i32_7626
  let v7582 : BitVec 32 := Scalar.addi c0_i32_7627 v7581
  v7582.toNat
def k0_dev291 (d0 : Dev nD) : Nat :=
  let c0_i32_7689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7688 : BitVec 32 := 1#32
  let v7638 : BitVec 32 := Scalar.muli v5 c1_i32_7688
  let v7639 : BitVec 32 := Scalar.addi c0_i32_7689 v7638
  v7639.toNat
def k0_dev292 (d0 : Dev nD) : Nat :=
  let c0_i32_7692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7691 : BitVec 32 := 1#32
  let v7640 : BitVec 32 := Scalar.muli v7 c1_i32_7691
  let v7641 : BitVec 32 := Scalar.addi c0_i32_7692 v7640
  v7641.toNat
def k0_dev293 (d0 : Dev nD) : Nat :=
  let c0_i32_7721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7720 : BitVec 32 := 1#32
  let v7667 : BitVec 32 := Scalar.muli v7 c1_i32_7720
  let v7668 : BitVec 32 := Scalar.addi c0_i32_7721 v7667
  v7668.toNat
def k0_dev294 (d0 : Dev nD) : Nat :=
  let c0_i32_7731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7730 : BitVec 32 := 1#32
  let v7677 : BitVec 32 := Scalar.muli v5 c1_i32_7730
  let v7678 : BitVec 32 := Scalar.addi c0_i32_7731 v7677
  v7678.toNat
def k0_dev295 (d0 : Dev nD) : Nat :=
  let c0_i32_7793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7792 : BitVec 32 := 1#32
  let v7734 : BitVec 32 := Scalar.muli v5 c1_i32_7792
  let v7735 : BitVec 32 := Scalar.addi c0_i32_7793 v7734
  v7735.toNat
def k0_dev296 (d0 : Dev nD) : Nat :=
  let c0_i32_7796 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7795 : BitVec 32 := 1#32
  let v7736 : BitVec 32 := Scalar.muli v7 c1_i32_7795
  let v7737 : BitVec 32 := Scalar.addi c0_i32_7796 v7736
  v7737.toNat
def k0_dev297 (d0 : Dev nD) : Nat :=
  let c0_i32_7825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7824 : BitVec 32 := 1#32
  let v7763 : BitVec 32 := Scalar.muli v7 c1_i32_7824
  let v7764 : BitVec 32 := Scalar.addi c0_i32_7825 v7763
  v7764.toNat
def k0_dev298 (d0 : Dev nD) : Nat :=
  let c0_i32_7835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7834 : BitVec 32 := 1#32
  let v7773 : BitVec 32 := Scalar.muli v5 c1_i32_7834
  let v7774 : BitVec 32 := Scalar.addi c0_i32_7835 v7773
  v7774.toNat
def k0_dev299 (d0 : Dev nD) : Nat :=
  let c0_i32_7897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7896 : BitVec 32 := 1#32
  let v7830 : BitVec 32 := Scalar.muli v5 c1_i32_7896
  let v7831 : BitVec 32 := Scalar.addi c0_i32_7897 v7830
  v7831.toNat
def k0_dev300 (d0 : Dev nD) : Nat :=
  let c0_i32_7900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7899 : BitVec 32 := 1#32
  let v7832 : BitVec 32 := Scalar.muli v7 c1_i32_7899
  let v7833 : BitVec 32 := Scalar.addi c0_i32_7900 v7832
  v7833.toNat
def k0_dev301 (d0 : Dev nD) : Nat :=
  let c0_i32_7929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_7928 : BitVec 32 := 1#32
  let v7859 : BitVec 32 := Scalar.muli v7 c1_i32_7928
  let v7860 : BitVec 32 := Scalar.addi c0_i32_7929 v7859
  v7860.toNat
def k0_dev302 (d0 : Dev nD) : Nat :=
  let c0_i32_7939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_7938 : BitVec 32 := 1#32
  let v7869 : BitVec 32 := Scalar.muli v5 c1_i32_7938
  let v7870 : BitVec 32 := Scalar.addi c0_i32_7939 v7869
  v7870.toNat
def k0_dev303 (d0 : Dev nD) : Nat :=
  let c0_i32_8001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8000 : BitVec 32 := 1#32
  let v7926 : BitVec 32 := Scalar.muli v5 c1_i32_8000
  let v7927 : BitVec 32 := Scalar.addi c0_i32_8001 v7926
  v7927.toNat
def k0_dev304 (d0 : Dev nD) : Nat :=
  let c0_i32_8004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8003 : BitVec 32 := 1#32
  let v7928 : BitVec 32 := Scalar.muli v7 c1_i32_8003
  let v7929 : BitVec 32 := Scalar.addi c0_i32_8004 v7928
  v7929.toNat
def k0_dev305 (d0 : Dev nD) : Nat :=
  let c0_i32_8033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8032 : BitVec 32 := 1#32
  let v7955 : BitVec 32 := Scalar.muli v7 c1_i32_8032
  let v7956 : BitVec 32 := Scalar.addi c0_i32_8033 v7955
  v7956.toNat
def k0_dev306 (d0 : Dev nD) : Nat :=
  let c0_i32_8043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8042 : BitVec 32 := 1#32
  let v7965 : BitVec 32 := Scalar.muli v5 c1_i32_8042
  let v7966 : BitVec 32 := Scalar.addi c0_i32_8043 v7965
  v7966.toNat
def k0_dev307 (d0 : Dev nD) : Nat :=
  let c0_i32_8105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8104 : BitVec 32 := 1#32
  let v8022 : BitVec 32 := Scalar.muli v5 c1_i32_8104
  let v8023 : BitVec 32 := Scalar.addi c0_i32_8105 v8022
  v8023.toNat
def k0_dev308 (d0 : Dev nD) : Nat :=
  let c0_i32_8108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8107 : BitVec 32 := 1#32
  let v8024 : BitVec 32 := Scalar.muli v7 c1_i32_8107
  let v8025 : BitVec 32 := Scalar.addi c0_i32_8108 v8024
  v8025.toNat
def k0_dev309 (d0 : Dev nD) : Nat :=
  let c0_i32_8137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8136 : BitVec 32 := 1#32
  let v8051 : BitVec 32 := Scalar.muli v7 c1_i32_8136
  let v8052 : BitVec 32 := Scalar.addi c0_i32_8137 v8051
  v8052.toNat
def k0_dev310 (d0 : Dev nD) : Nat :=
  let c0_i32_8147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8146 : BitVec 32 := 1#32
  let v8061 : BitVec 32 := Scalar.muli v5 c1_i32_8146
  let v8062 : BitVec 32 := Scalar.addi c0_i32_8147 v8061
  v8062.toNat
def k0_dev311 (d0 : Dev nD) : Nat :=
  let c0_i32_8209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8208 : BitVec 32 := 1#32
  let v8118 : BitVec 32 := Scalar.muli v5 c1_i32_8208
  let v8119 : BitVec 32 := Scalar.addi c0_i32_8209 v8118
  v8119.toNat
def k0_dev312 (d0 : Dev nD) : Nat :=
  let c0_i32_8212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8211 : BitVec 32 := 1#32
  let v8120 : BitVec 32 := Scalar.muli v7 c1_i32_8211
  let v8121 : BitVec 32 := Scalar.addi c0_i32_8212 v8120
  v8121.toNat
def k0_dev313 (d0 : Dev nD) : Nat :=
  let c0_i32_8241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8240 : BitVec 32 := 1#32
  let v8147 : BitVec 32 := Scalar.muli v7 c1_i32_8240
  let v8148 : BitVec 32 := Scalar.addi c0_i32_8241 v8147
  v8148.toNat
def k0_dev314 (d0 : Dev nD) : Nat :=
  let c0_i32_8251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8250 : BitVec 32 := 1#32
  let v8157 : BitVec 32 := Scalar.muli v5 c1_i32_8250
  let v8158 : BitVec 32 := Scalar.addi c0_i32_8251 v8157
  v8158.toNat
def k0_dev315 (d0 : Dev nD) : Nat :=
  let c0_i32_8313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8312 : BitVec 32 := 1#32
  let v8214 : BitVec 32 := Scalar.muli v5 c1_i32_8312
  let v8215 : BitVec 32 := Scalar.addi c0_i32_8313 v8214
  v8215.toNat
def k0_dev316 (d0 : Dev nD) : Nat :=
  let c0_i32_8316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8315 : BitVec 32 := 1#32
  let v8216 : BitVec 32 := Scalar.muli v7 c1_i32_8315
  let v8217 : BitVec 32 := Scalar.addi c0_i32_8316 v8216
  v8217.toNat
def k0_dev317 (d0 : Dev nD) : Nat :=
  let c0_i32_8345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8344 : BitVec 32 := 1#32
  let v8243 : BitVec 32 := Scalar.muli v7 c1_i32_8344
  let v8244 : BitVec 32 := Scalar.addi c0_i32_8345 v8243
  v8244.toNat
def k0_dev318 (d0 : Dev nD) : Nat :=
  let c0_i32_8355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8354 : BitVec 32 := 1#32
  let v8253 : BitVec 32 := Scalar.muli v5 c1_i32_8354
  let v8254 : BitVec 32 := Scalar.addi c0_i32_8355 v8253
  v8254.toNat
def k0_dev319 (d0 : Dev nD) : Nat :=
  let c0_i32_8417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8416 : BitVec 32 := 1#32
  let v8310 : BitVec 32 := Scalar.muli v5 c1_i32_8416
  let v8311 : BitVec 32 := Scalar.addi c0_i32_8417 v8310
  v8311.toNat
def k0_dev320 (d0 : Dev nD) : Nat :=
  let c0_i32_8420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8419 : BitVec 32 := 1#32
  let v8312 : BitVec 32 := Scalar.muli v7 c1_i32_8419
  let v8313 : BitVec 32 := Scalar.addi c0_i32_8420 v8312
  v8313.toNat
def k0_dev321 (d0 : Dev nD) : Nat :=
  let c0_i32_8449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8448 : BitVec 32 := 1#32
  let v8339 : BitVec 32 := Scalar.muli v7 c1_i32_8448
  let v8340 : BitVec 32 := Scalar.addi c0_i32_8449 v8339
  v8340.toNat
def k0_dev322 (d0 : Dev nD) : Nat :=
  let c0_i32_8459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8458 : BitVec 32 := 1#32
  let v8349 : BitVec 32 := Scalar.muli v5 c1_i32_8458
  let v8350 : BitVec 32 := Scalar.addi c0_i32_8459 v8349
  v8350.toNat
def k0_dev323 (d0 : Dev nD) : Nat :=
  let c0_i32_8521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8520 : BitVec 32 := 1#32
  let v8406 : BitVec 32 := Scalar.muli v5 c1_i32_8520
  let v8407 : BitVec 32 := Scalar.addi c0_i32_8521 v8406
  v8407.toNat
def k0_dev324 (d0 : Dev nD) : Nat :=
  let c0_i32_8524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8523 : BitVec 32 := 1#32
  let v8408 : BitVec 32 := Scalar.muli v7 c1_i32_8523
  let v8409 : BitVec 32 := Scalar.addi c0_i32_8524 v8408
  v8409.toNat
def k0_dev325 (d0 : Dev nD) : Nat :=
  let c0_i32_8553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8552 : BitVec 32 := 1#32
  let v8435 : BitVec 32 := Scalar.muli v7 c1_i32_8552
  let v8436 : BitVec 32 := Scalar.addi c0_i32_8553 v8435
  v8436.toNat
def k0_dev326 (d0 : Dev nD) : Nat :=
  let c0_i32_8563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8562 : BitVec 32 := 1#32
  let v8445 : BitVec 32 := Scalar.muli v5 c1_i32_8562
  let v8446 : BitVec 32 := Scalar.addi c0_i32_8563 v8445
  v8446.toNat
def k0_dev327 (d0 : Dev nD) : Nat :=
  let c0_i32_8625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8624 : BitVec 32 := 1#32
  let v8502 : BitVec 32 := Scalar.muli v5 c1_i32_8624
  let v8503 : BitVec 32 := Scalar.addi c0_i32_8625 v8502
  v8503.toNat
def k0_dev328 (d0 : Dev nD) : Nat :=
  let c0_i32_8628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8627 : BitVec 32 := 1#32
  let v8504 : BitVec 32 := Scalar.muli v7 c1_i32_8627
  let v8505 : BitVec 32 := Scalar.addi c0_i32_8628 v8504
  v8505.toNat
def k0_dev329 (d0 : Dev nD) : Nat :=
  let c0_i32_8657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8656 : BitVec 32 := 1#32
  let v8531 : BitVec 32 := Scalar.muli v7 c1_i32_8656
  let v8532 : BitVec 32 := Scalar.addi c0_i32_8657 v8531
  v8532.toNat
def k0_dev330 (d0 : Dev nD) : Nat :=
  let c0_i32_8667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8666 : BitVec 32 := 1#32
  let v8541 : BitVec 32 := Scalar.muli v5 c1_i32_8666
  let v8542 : BitVec 32 := Scalar.addi c0_i32_8667 v8541
  v8542.toNat
def k0_dev331 (d0 : Dev nD) : Nat :=
  let c0_i32_8729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8728 : BitVec 32 := 1#32
  let v8598 : BitVec 32 := Scalar.muli v5 c1_i32_8728
  let v8599 : BitVec 32 := Scalar.addi c0_i32_8729 v8598
  v8599.toNat
def k0_dev332 (d0 : Dev nD) : Nat :=
  let c0_i32_8732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8731 : BitVec 32 := 1#32
  let v8600 : BitVec 32 := Scalar.muli v7 c1_i32_8731
  let v8601 : BitVec 32 := Scalar.addi c0_i32_8732 v8600
  v8601.toNat
def k0_dev333 (d0 : Dev nD) : Nat :=
  let c0_i32_8761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8760 : BitVec 32 := 1#32
  let v8627 : BitVec 32 := Scalar.muli v7 c1_i32_8760
  let v8628 : BitVec 32 := Scalar.addi c0_i32_8761 v8627
  v8628.toNat
def k0_dev334 (d0 : Dev nD) : Nat :=
  let c0_i32_8771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8770 : BitVec 32 := 1#32
  let v8637 : BitVec 32 := Scalar.muli v5 c1_i32_8770
  let v8638 : BitVec 32 := Scalar.addi c0_i32_8771 v8637
  v8638.toNat
def k0_dev335 (d0 : Dev nD) : Nat :=
  let c0_i32_8833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8832 : BitVec 32 := 1#32
  let v8694 : BitVec 32 := Scalar.muli v5 c1_i32_8832
  let v8695 : BitVec 32 := Scalar.addi c0_i32_8833 v8694
  v8695.toNat
def k0_dev336 (d0 : Dev nD) : Nat :=
  let c0_i32_8836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8835 : BitVec 32 := 1#32
  let v8696 : BitVec 32 := Scalar.muli v7 c1_i32_8835
  let v8697 : BitVec 32 := Scalar.addi c0_i32_8836 v8696
  v8697.toNat
def k0_dev337 (d0 : Dev nD) : Nat :=
  let c0_i32_8865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8864 : BitVec 32 := 1#32
  let v8723 : BitVec 32 := Scalar.muli v7 c1_i32_8864
  let v8724 : BitVec 32 := Scalar.addi c0_i32_8865 v8723
  v8724.toNat
def k0_dev338 (d0 : Dev nD) : Nat :=
  let c0_i32_8875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8874 : BitVec 32 := 1#32
  let v8733 : BitVec 32 := Scalar.muli v5 c1_i32_8874
  let v8734 : BitVec 32 := Scalar.addi c0_i32_8875 v8733
  v8734.toNat
def k0_dev339 (d0 : Dev nD) : Nat :=
  let c0_i32_8937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8936 : BitVec 32 := 1#32
  let v8790 : BitVec 32 := Scalar.muli v5 c1_i32_8936
  let v8791 : BitVec 32 := Scalar.addi c0_i32_8937 v8790
  v8791.toNat
def k0_dev340 (d0 : Dev nD) : Nat :=
  let c0_i32_8940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8939 : BitVec 32 := 1#32
  let v8792 : BitVec 32 := Scalar.muli v7 c1_i32_8939
  let v8793 : BitVec 32 := Scalar.addi c0_i32_8940 v8792
  v8793.toNat
def k0_dev341 (d0 : Dev nD) : Nat :=
  let c0_i32_8969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8968 : BitVec 32 := 1#32
  let v8819 : BitVec 32 := Scalar.muli v7 c1_i32_8968
  let v8820 : BitVec 32 := Scalar.addi c0_i32_8969 v8819
  v8820.toNat
def k0_dev342 (d0 : Dev nD) : Nat :=
  let c0_i32_8979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_8978 : BitVec 32 := 1#32
  let v8829 : BitVec 32 := Scalar.muli v5 c1_i32_8978
  let v8830 : BitVec 32 := Scalar.addi c0_i32_8979 v8829
  v8830.toNat
def k0_dev343 (d0 : Dev nD) : Nat :=
  let c0_i32_9041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9040 : BitVec 32 := 1#32
  let v8886 : BitVec 32 := Scalar.muli v5 c1_i32_9040
  let v8887 : BitVec 32 := Scalar.addi c0_i32_9041 v8886
  v8887.toNat
def k0_dev344 (d0 : Dev nD) : Nat :=
  let c0_i32_9044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9043 : BitVec 32 := 1#32
  let v8888 : BitVec 32 := Scalar.muli v7 c1_i32_9043
  let v8889 : BitVec 32 := Scalar.addi c0_i32_9044 v8888
  v8889.toNat
def k0_dev345 (d0 : Dev nD) : Nat :=
  let c0_i32_9073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9072 : BitVec 32 := 1#32
  let v8915 : BitVec 32 := Scalar.muli v7 c1_i32_9072
  let v8916 : BitVec 32 := Scalar.addi c0_i32_9073 v8915
  v8916.toNat
def k0_dev346 (d0 : Dev nD) : Nat :=
  let c0_i32_9083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9082 : BitVec 32 := 1#32
  let v8925 : BitVec 32 := Scalar.muli v5 c1_i32_9082
  let v8926 : BitVec 32 := Scalar.addi c0_i32_9083 v8925
  v8926.toNat
def k0_dev347 (d0 : Dev nD) : Nat :=
  let c0_i32_9145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9144 : BitVec 32 := 1#32
  let v8982 : BitVec 32 := Scalar.muli v5 c1_i32_9144
  let v8983 : BitVec 32 := Scalar.addi c0_i32_9145 v8982
  v8983.toNat
def k0_dev348 (d0 : Dev nD) : Nat :=
  let c0_i32_9148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9147 : BitVec 32 := 1#32
  let v8984 : BitVec 32 := Scalar.muli v7 c1_i32_9147
  let v8985 : BitVec 32 := Scalar.addi c0_i32_9148 v8984
  v8985.toNat
def k0_dev349 (d0 : Dev nD) : Nat :=
  let c0_i32_9177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9176 : BitVec 32 := 1#32
  let v9011 : BitVec 32 := Scalar.muli v7 c1_i32_9176
  let v9012 : BitVec 32 := Scalar.addi c0_i32_9177 v9011
  v9012.toNat
def k0_dev350 (d0 : Dev nD) : Nat :=
  let c0_i32_9187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9186 : BitVec 32 := 1#32
  let v9021 : BitVec 32 := Scalar.muli v5 c1_i32_9186
  let v9022 : BitVec 32 := Scalar.addi c0_i32_9187 v9021
  v9022.toNat
def k0_dev351 (d0 : Dev nD) : Nat :=
  let c0_i32_9249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9248 : BitVec 32 := 1#32
  let v9078 : BitVec 32 := Scalar.muli v5 c1_i32_9248
  let v9079 : BitVec 32 := Scalar.addi c0_i32_9249 v9078
  v9079.toNat
def k0_dev352 (d0 : Dev nD) : Nat :=
  let c0_i32_9252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9251 : BitVec 32 := 1#32
  let v9080 : BitVec 32 := Scalar.muli v7 c1_i32_9251
  let v9081 : BitVec 32 := Scalar.addi c0_i32_9252 v9080
  v9081.toNat
def k0_dev353 (d0 : Dev nD) : Nat :=
  let c0_i32_9281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9280 : BitVec 32 := 1#32
  let v9107 : BitVec 32 := Scalar.muli v7 c1_i32_9280
  let v9108 : BitVec 32 := Scalar.addi c0_i32_9281 v9107
  v9108.toNat
def k0_dev354 (d0 : Dev nD) : Nat :=
  let c0_i32_9291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9290 : BitVec 32 := 1#32
  let v9117 : BitVec 32 := Scalar.muli v5 c1_i32_9290
  let v9118 : BitVec 32 := Scalar.addi c0_i32_9291 v9117
  v9118.toNat
def k0_dev355 (d0 : Dev nD) : Nat :=
  let c0_i32_9353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9352 : BitVec 32 := 1#32
  let v9174 : BitVec 32 := Scalar.muli v5 c1_i32_9352
  let v9175 : BitVec 32 := Scalar.addi c0_i32_9353 v9174
  v9175.toNat
def k0_dev356 (d0 : Dev nD) : Nat :=
  let c0_i32_9356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9355 : BitVec 32 := 1#32
  let v9176 : BitVec 32 := Scalar.muli v7 c1_i32_9355
  let v9177 : BitVec 32 := Scalar.addi c0_i32_9356 v9176
  v9177.toNat
def k0_dev357 (d0 : Dev nD) : Nat :=
  let c0_i32_9385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9384 : BitVec 32 := 1#32
  let v9203 : BitVec 32 := Scalar.muli v7 c1_i32_9384
  let v9204 : BitVec 32 := Scalar.addi c0_i32_9385 v9203
  v9204.toNat
def k0_dev358 (d0 : Dev nD) : Nat :=
  let c0_i32_9395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9394 : BitVec 32 := 1#32
  let v9213 : BitVec 32 := Scalar.muli v5 c1_i32_9394
  let v9214 : BitVec 32 := Scalar.addi c0_i32_9395 v9213
  v9214.toNat
def k0_dev359 (d0 : Dev nD) : Nat :=
  let c0_i32_9457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9456 : BitVec 32 := 1#32
  let v9270 : BitVec 32 := Scalar.muli v5 c1_i32_9456
  let v9271 : BitVec 32 := Scalar.addi c0_i32_9457 v9270
  v9271.toNat
def k0_dev360 (d0 : Dev nD) : Nat :=
  let c0_i32_9460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9459 : BitVec 32 := 1#32
  let v9272 : BitVec 32 := Scalar.muli v7 c1_i32_9459
  let v9273 : BitVec 32 := Scalar.addi c0_i32_9460 v9272
  v9273.toNat
def k0_dev361 (d0 : Dev nD) : Nat :=
  let c0_i32_9489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9488 : BitVec 32 := 1#32
  let v9299 : BitVec 32 := Scalar.muli v7 c1_i32_9488
  let v9300 : BitVec 32 := Scalar.addi c0_i32_9489 v9299
  v9300.toNat
def k0_dev362 (d0 : Dev nD) : Nat :=
  let c0_i32_9499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9498 : BitVec 32 := 1#32
  let v9309 : BitVec 32 := Scalar.muli v5 c1_i32_9498
  let v9310 : BitVec 32 := Scalar.addi c0_i32_9499 v9309
  v9310.toNat
def k0_dev363 (d0 : Dev nD) : Nat :=
  let c0_i32_9561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9560 : BitVec 32 := 1#32
  let v9366 : BitVec 32 := Scalar.muli v5 c1_i32_9560
  let v9367 : BitVec 32 := Scalar.addi c0_i32_9561 v9366
  v9367.toNat
def k0_dev364 (d0 : Dev nD) : Nat :=
  let c0_i32_9564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9563 : BitVec 32 := 1#32
  let v9368 : BitVec 32 := Scalar.muli v7 c1_i32_9563
  let v9369 : BitVec 32 := Scalar.addi c0_i32_9564 v9368
  v9369.toNat
def k0_dev365 (d0 : Dev nD) : Nat :=
  let c0_i32_9593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9592 : BitVec 32 := 1#32
  let v9395 : BitVec 32 := Scalar.muli v7 c1_i32_9592
  let v9396 : BitVec 32 := Scalar.addi c0_i32_9593 v9395
  v9396.toNat
def k0_dev366 (d0 : Dev nD) : Nat :=
  let c0_i32_9603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9602 : BitVec 32 := 1#32
  let v9405 : BitVec 32 := Scalar.muli v5 c1_i32_9602
  let v9406 : BitVec 32 := Scalar.addi c0_i32_9603 v9405
  v9406.toNat
def k0_dev367 (d0 : Dev nD) : Nat :=
  let c0_i32_9665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9664 : BitVec 32 := 1#32
  let v9462 : BitVec 32 := Scalar.muli v5 c1_i32_9664
  let v9463 : BitVec 32 := Scalar.addi c0_i32_9665 v9462
  v9463.toNat
def k0_dev368 (d0 : Dev nD) : Nat :=
  let c0_i32_9668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9667 : BitVec 32 := 1#32
  let v9464 : BitVec 32 := Scalar.muli v7 c1_i32_9667
  let v9465 : BitVec 32 := Scalar.addi c0_i32_9668 v9464
  v9465.toNat
def k0_dev369 (d0 : Dev nD) : Nat :=
  let c0_i32_9697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9696 : BitVec 32 := 1#32
  let v9491 : BitVec 32 := Scalar.muli v7 c1_i32_9696
  let v9492 : BitVec 32 := Scalar.addi c0_i32_9697 v9491
  v9492.toNat
def k0_dev370 (d0 : Dev nD) : Nat :=
  let c0_i32_9707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9706 : BitVec 32 := 1#32
  let v9501 : BitVec 32 := Scalar.muli v5 c1_i32_9706
  let v9502 : BitVec 32 := Scalar.addi c0_i32_9707 v9501
  v9502.toNat
def k0_dev371 (d0 : Dev nD) : Nat :=
  let c0_i32_9769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9768 : BitVec 32 := 1#32
  let v9558 : BitVec 32 := Scalar.muli v5 c1_i32_9768
  let v9559 : BitVec 32 := Scalar.addi c0_i32_9769 v9558
  v9559.toNat
def k0_dev372 (d0 : Dev nD) : Nat :=
  let c0_i32_9772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9771 : BitVec 32 := 1#32
  let v9560 : BitVec 32 := Scalar.muli v7 c1_i32_9771
  let v9561 : BitVec 32 := Scalar.addi c0_i32_9772 v9560
  v9561.toNat
def k0_dev373 (d0 : Dev nD) : Nat :=
  let c0_i32_9801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9800 : BitVec 32 := 1#32
  let v9587 : BitVec 32 := Scalar.muli v7 c1_i32_9800
  let v9588 : BitVec 32 := Scalar.addi c0_i32_9801 v9587
  v9588.toNat
def k0_dev374 (d0 : Dev nD) : Nat :=
  let c0_i32_9811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9810 : BitVec 32 := 1#32
  let v9597 : BitVec 32 := Scalar.muli v5 c1_i32_9810
  let v9598 : BitVec 32 := Scalar.addi c0_i32_9811 v9597
  v9598.toNat
def k0_dev375 (d0 : Dev nD) : Nat :=
  let c0_i32_9873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9872 : BitVec 32 := 1#32
  let v9654 : BitVec 32 := Scalar.muli v5 c1_i32_9872
  let v9655 : BitVec 32 := Scalar.addi c0_i32_9873 v9654
  v9655.toNat
def k0_dev376 (d0 : Dev nD) : Nat :=
  let c0_i32_9876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9875 : BitVec 32 := 1#32
  let v9656 : BitVec 32 := Scalar.muli v7 c1_i32_9875
  let v9657 : BitVec 32 := Scalar.addi c0_i32_9876 v9656
  v9657.toNat
def k0_dev377 (d0 : Dev nD) : Nat :=
  let c0_i32_9905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9904 : BitVec 32 := 1#32
  let v9683 : BitVec 32 := Scalar.muli v7 c1_i32_9904
  let v9684 : BitVec 32 := Scalar.addi c0_i32_9905 v9683
  v9684.toNat
def k0_dev378 (d0 : Dev nD) : Nat :=
  let c0_i32_9915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9914 : BitVec 32 := 1#32
  let v9693 : BitVec 32 := Scalar.muli v5 c1_i32_9914
  let v9694 : BitVec 32 := Scalar.addi c0_i32_9915 v9693
  v9694.toNat
def k0_dev379 (d0 : Dev nD) : Nat :=
  let c0_i32_9977 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_9976 : BitVec 32 := 1#32
  let v9750 : BitVec 32 := Scalar.muli v5 c1_i32_9976
  let v9751 : BitVec 32 := Scalar.addi c0_i32_9977 v9750
  v9751.toNat
def k0_dev380 (d0 : Dev nD) : Nat :=
  let c0_i32_9980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_9979 : BitVec 32 := 1#32
  let v9752 : BitVec 32 := Scalar.muli v7 c1_i32_9979
  let v9753 : BitVec 32 := Scalar.addi c0_i32_9980 v9752
  v9753.toNat
def k0_dev381 (d0 : Dev nD) : Nat :=
  let c0_i32_10009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10008 : BitVec 32 := 1#32
  let v9779 : BitVec 32 := Scalar.muli v7 c1_i32_10008
  let v9780 : BitVec 32 := Scalar.addi c0_i32_10009 v9779
  v9780.toNat
def k0_dev382 (d0 : Dev nD) : Nat :=
  let c0_i32_10019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10018 : BitVec 32 := 1#32
  let v9789 : BitVec 32 := Scalar.muli v5 c1_i32_10018
  let v9790 : BitVec 32 := Scalar.addi c0_i32_10019 v9789
  v9790.toNat
def k0_dev383 (d0 : Dev nD) : Nat :=
  let c0_i32_10081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10080 : BitVec 32 := 1#32
  let v9846 : BitVec 32 := Scalar.muli v5 c1_i32_10080
  let v9847 : BitVec 32 := Scalar.addi c0_i32_10081 v9846
  v9847.toNat
def k0_dev384 (d0 : Dev nD) : Nat :=
  let c0_i32_10084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10083 : BitVec 32 := 1#32
  let v9848 : BitVec 32 := Scalar.muli v7 c1_i32_10083
  let v9849 : BitVec 32 := Scalar.addi c0_i32_10084 v9848
  v9849.toNat
def k0_dev385 (d0 : Dev nD) : Nat :=
  let c0_i32_10113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10112 : BitVec 32 := 1#32
  let v9875 : BitVec 32 := Scalar.muli v7 c1_i32_10112
  let v9876 : BitVec 32 := Scalar.addi c0_i32_10113 v9875
  v9876.toNat
def k0_dev386 (d0 : Dev nD) : Nat :=
  let c0_i32_10123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10122 : BitVec 32 := 1#32
  let v9885 : BitVec 32 := Scalar.muli v5 c1_i32_10122
  let v9886 : BitVec 32 := Scalar.addi c0_i32_10123 v9885
  v9886.toNat
def k0_dev387 (d0 : Dev nD) : Nat :=
  let c0_i32_10185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10184 : BitVec 32 := 1#32
  let v9942 : BitVec 32 := Scalar.muli v5 c1_i32_10184
  let v9943 : BitVec 32 := Scalar.addi c0_i32_10185 v9942
  v9943.toNat
def k0_dev388 (d0 : Dev nD) : Nat :=
  let c0_i32_10188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10187 : BitVec 32 := 1#32
  let v9944 : BitVec 32 := Scalar.muli v7 c1_i32_10187
  let v9945 : BitVec 32 := Scalar.addi c0_i32_10188 v9944
  v9945.toNat
def k0_dev389 (d0 : Dev nD) : Nat :=
  let c0_i32_10217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10216 : BitVec 32 := 1#32
  let v9971 : BitVec 32 := Scalar.muli v7 c1_i32_10216
  let v9972 : BitVec 32 := Scalar.addi c0_i32_10217 v9971
  v9972.toNat
def k0_dev390 (d0 : Dev nD) : Nat :=
  let c0_i32_10227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10226 : BitVec 32 := 1#32
  let v9981 : BitVec 32 := Scalar.muli v5 c1_i32_10226
  let v9982 : BitVec 32 := Scalar.addi c0_i32_10227 v9981
  v9982.toNat
def k0_dev391 (d0 : Dev nD) : Nat :=
  let c0_i32_10289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10288 : BitVec 32 := 1#32
  let v10038 : BitVec 32 := Scalar.muli v5 c1_i32_10288
  let v10039 : BitVec 32 := Scalar.addi c0_i32_10289 v10038
  v10039.toNat
def k0_dev392 (d0 : Dev nD) : Nat :=
  let c0_i32_10292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10291 : BitVec 32 := 1#32
  let v10040 : BitVec 32 := Scalar.muli v7 c1_i32_10291
  let v10041 : BitVec 32 := Scalar.addi c0_i32_10292 v10040
  v10041.toNat
def k0_dev393 (d0 : Dev nD) : Nat :=
  let c0_i32_10321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10320 : BitVec 32 := 1#32
  let v10067 : BitVec 32 := Scalar.muli v7 c1_i32_10320
  let v10068 : BitVec 32 := Scalar.addi c0_i32_10321 v10067
  v10068.toNat
def k0_dev394 (d0 : Dev nD) : Nat :=
  let c0_i32_10331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10330 : BitVec 32 := 1#32
  let v10077 : BitVec 32 := Scalar.muli v5 c1_i32_10330
  let v10078 : BitVec 32 := Scalar.addi c0_i32_10331 v10077
  v10078.toNat
def k0_dev395 (d0 : Dev nD) : Nat :=
  let c0_i32_10393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10392 : BitVec 32 := 1#32
  let v10134 : BitVec 32 := Scalar.muli v5 c1_i32_10392
  let v10135 : BitVec 32 := Scalar.addi c0_i32_10393 v10134
  v10135.toNat
def k0_dev396 (d0 : Dev nD) : Nat :=
  let c0_i32_10396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10395 : BitVec 32 := 1#32
  let v10136 : BitVec 32 := Scalar.muli v7 c1_i32_10395
  let v10137 : BitVec 32 := Scalar.addi c0_i32_10396 v10136
  v10137.toNat
def k0_dev397 (d0 : Dev nD) : Nat :=
  let c0_i32_10425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10424 : BitVec 32 := 1#32
  let v10163 : BitVec 32 := Scalar.muli v7 c1_i32_10424
  let v10164 : BitVec 32 := Scalar.addi c0_i32_10425 v10163
  v10164.toNat
def k0_dev398 (d0 : Dev nD) : Nat :=
  let c0_i32_10435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10434 : BitVec 32 := 1#32
  let v10173 : BitVec 32 := Scalar.muli v5 c1_i32_10434
  let v10174 : BitVec 32 := Scalar.addi c0_i32_10435 v10173
  v10174.toNat
def k0_dev399 (d0 : Dev nD) : Nat :=
  let c0_i32_10497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10496 : BitVec 32 := 1#32
  let v10230 : BitVec 32 := Scalar.muli v5 c1_i32_10496
  let v10231 : BitVec 32 := Scalar.addi c0_i32_10497 v10230
  v10231.toNat
def k0_dev400 (d0 : Dev nD) : Nat :=
  let c0_i32_10500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10499 : BitVec 32 := 1#32
  let v10232 : BitVec 32 := Scalar.muli v7 c1_i32_10499
  let v10233 : BitVec 32 := Scalar.addi c0_i32_10500 v10232
  v10233.toNat
def k0_dev401 (d0 : Dev nD) : Nat :=
  let c0_i32_10529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10528 : BitVec 32 := 1#32
  let v10259 : BitVec 32 := Scalar.muli v7 c1_i32_10528
  let v10260 : BitVec 32 := Scalar.addi c0_i32_10529 v10259
  v10260.toNat
def k0_dev402 (d0 : Dev nD) : Nat :=
  let c0_i32_10539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10538 : BitVec 32 := 1#32
  let v10269 : BitVec 32 := Scalar.muli v5 c1_i32_10538
  let v10270 : BitVec 32 := Scalar.addi c0_i32_10539 v10269
  v10270.toNat
def k0_dev403 (d0 : Dev nD) : Nat :=
  let c0_i32_10601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10600 : BitVec 32 := 1#32
  let v10326 : BitVec 32 := Scalar.muli v5 c1_i32_10600
  let v10327 : BitVec 32 := Scalar.addi c0_i32_10601 v10326
  v10327.toNat
def k0_dev404 (d0 : Dev nD) : Nat :=
  let c0_i32_10604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10603 : BitVec 32 := 1#32
  let v10328 : BitVec 32 := Scalar.muli v7 c1_i32_10603
  let v10329 : BitVec 32 := Scalar.addi c0_i32_10604 v10328
  v10329.toNat
def k0_dev405 (d0 : Dev nD) : Nat :=
  let c0_i32_10633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10632 : BitVec 32 := 1#32
  let v10355 : BitVec 32 := Scalar.muli v7 c1_i32_10632
  let v10356 : BitVec 32 := Scalar.addi c0_i32_10633 v10355
  v10356.toNat
def k0_dev406 (d0 : Dev nD) : Nat :=
  let c0_i32_10643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10642 : BitVec 32 := 1#32
  let v10365 : BitVec 32 := Scalar.muli v5 c1_i32_10642
  let v10366 : BitVec 32 := Scalar.addi c0_i32_10643 v10365
  v10366.toNat
def k0_dev407 (d0 : Dev nD) : Nat :=
  let c0_i32_10705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10704 : BitVec 32 := 1#32
  let v10422 : BitVec 32 := Scalar.muli v5 c1_i32_10704
  let v10423 : BitVec 32 := Scalar.addi c0_i32_10705 v10422
  v10423.toNat
def k0_dev408 (d0 : Dev nD) : Nat :=
  let c0_i32_10708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10707 : BitVec 32 := 1#32
  let v10424 : BitVec 32 := Scalar.muli v7 c1_i32_10707
  let v10425 : BitVec 32 := Scalar.addi c0_i32_10708 v10424
  v10425.toNat
def k0_dev409 (d0 : Dev nD) : Nat :=
  let c0_i32_10737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10736 : BitVec 32 := 1#32
  let v10451 : BitVec 32 := Scalar.muli v7 c1_i32_10736
  let v10452 : BitVec 32 := Scalar.addi c0_i32_10737 v10451
  v10452.toNat
def k0_dev410 (d0 : Dev nD) : Nat :=
  let c0_i32_10747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10746 : BitVec 32 := 1#32
  let v10461 : BitVec 32 := Scalar.muli v5 c1_i32_10746
  let v10462 : BitVec 32 := Scalar.addi c0_i32_10747 v10461
  v10462.toNat
def k0_dev411 (d0 : Dev nD) : Nat :=
  let c0_i32_10809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10808 : BitVec 32 := 1#32
  let v10518 : BitVec 32 := Scalar.muli v5 c1_i32_10808
  let v10519 : BitVec 32 := Scalar.addi c0_i32_10809 v10518
  v10519.toNat
def k0_dev412 (d0 : Dev nD) : Nat :=
  let c0_i32_10812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10811 : BitVec 32 := 1#32
  let v10520 : BitVec 32 := Scalar.muli v7 c1_i32_10811
  let v10521 : BitVec 32 := Scalar.addi c0_i32_10812 v10520
  v10521.toNat
def k0_dev413 (d0 : Dev nD) : Nat :=
  let c0_i32_10841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10840 : BitVec 32 := 1#32
  let v10547 : BitVec 32 := Scalar.muli v7 c1_i32_10840
  let v10548 : BitVec 32 := Scalar.addi c0_i32_10841 v10547
  v10548.toNat
def k0_dev414 (d0 : Dev nD) : Nat :=
  let c0_i32_10851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10850 : BitVec 32 := 1#32
  let v10557 : BitVec 32 := Scalar.muli v5 c1_i32_10850
  let v10558 : BitVec 32 := Scalar.addi c0_i32_10851 v10557
  v10558.toNat
def k0_dev415 (d0 : Dev nD) : Nat :=
  let c0_i32_10913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10912 : BitVec 32 := 1#32
  let v10614 : BitVec 32 := Scalar.muli v5 c1_i32_10912
  let v10615 : BitVec 32 := Scalar.addi c0_i32_10913 v10614
  v10615.toNat
def k0_dev416 (d0 : Dev nD) : Nat :=
  let c0_i32_10916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10915 : BitVec 32 := 1#32
  let v10616 : BitVec 32 := Scalar.muli v7 c1_i32_10915
  let v10617 : BitVec 32 := Scalar.addi c0_i32_10916 v10616
  v10617.toNat
def k0_dev417 (d0 : Dev nD) : Nat :=
  let c0_i32_10945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_10944 : BitVec 32 := 1#32
  let v10643 : BitVec 32 := Scalar.muli v7 c1_i32_10944
  let v10644 : BitVec 32 := Scalar.addi c0_i32_10945 v10643
  v10644.toNat
def k0_dev418 (d0 : Dev nD) : Nat :=
  let c0_i32_10955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_10954 : BitVec 32 := 1#32
  let v10653 : BitVec 32 := Scalar.muli v5 c1_i32_10954
  let v10654 : BitVec 32 := Scalar.addi c0_i32_10955 v10653
  v10654.toNat
def k0_dev419 (d0 : Dev nD) : Nat :=
  let c0_i32_11017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11016 : BitVec 32 := 1#32
  let v10710 : BitVec 32 := Scalar.muli v5 c1_i32_11016
  let v10711 : BitVec 32 := Scalar.addi c0_i32_11017 v10710
  v10711.toNat
def k0_dev420 (d0 : Dev nD) : Nat :=
  let c0_i32_11020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11019 : BitVec 32 := 1#32
  let v10712 : BitVec 32 := Scalar.muli v7 c1_i32_11019
  let v10713 : BitVec 32 := Scalar.addi c0_i32_11020 v10712
  v10713.toNat
def k0_dev421 (d0 : Dev nD) : Nat :=
  let c0_i32_11049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11048 : BitVec 32 := 1#32
  let v10739 : BitVec 32 := Scalar.muli v7 c1_i32_11048
  let v10740 : BitVec 32 := Scalar.addi c0_i32_11049 v10739
  v10740.toNat
def k0_dev422 (d0 : Dev nD) : Nat :=
  let c0_i32_11059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11058 : BitVec 32 := 1#32
  let v10749 : BitVec 32 := Scalar.muli v5 c1_i32_11058
  let v10750 : BitVec 32 := Scalar.addi c0_i32_11059 v10749
  v10750.toNat
def k0_dev423 (d0 : Dev nD) : Nat :=
  let c0_i32_11121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11120 : BitVec 32 := 1#32
  let v10806 : BitVec 32 := Scalar.muli v5 c1_i32_11120
  let v10807 : BitVec 32 := Scalar.addi c0_i32_11121 v10806
  v10807.toNat
def k0_dev424 (d0 : Dev nD) : Nat :=
  let c0_i32_11124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11123 : BitVec 32 := 1#32
  let v10808 : BitVec 32 := Scalar.muli v7 c1_i32_11123
  let v10809 : BitVec 32 := Scalar.addi c0_i32_11124 v10808
  v10809.toNat
def k0_dev425 (d0 : Dev nD) : Nat :=
  let c0_i32_11153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11152 : BitVec 32 := 1#32
  let v10835 : BitVec 32 := Scalar.muli v7 c1_i32_11152
  let v10836 : BitVec 32 := Scalar.addi c0_i32_11153 v10835
  v10836.toNat
def k0_dev426 (d0 : Dev nD) : Nat :=
  let c0_i32_11163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11162 : BitVec 32 := 1#32
  let v10845 : BitVec 32 := Scalar.muli v5 c1_i32_11162
  let v10846 : BitVec 32 := Scalar.addi c0_i32_11163 v10845
  v10846.toNat
def k0_dev427 (d0 : Dev nD) : Nat :=
  let c0_i32_11225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11224 : BitVec 32 := 1#32
  let v10902 : BitVec 32 := Scalar.muli v5 c1_i32_11224
  let v10903 : BitVec 32 := Scalar.addi c0_i32_11225 v10902
  v10903.toNat
def k0_dev428 (d0 : Dev nD) : Nat :=
  let c0_i32_11228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11227 : BitVec 32 := 1#32
  let v10904 : BitVec 32 := Scalar.muli v7 c1_i32_11227
  let v10905 : BitVec 32 := Scalar.addi c0_i32_11228 v10904
  v10905.toNat
def k0_dev429 (d0 : Dev nD) : Nat :=
  let c0_i32_11257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11256 : BitVec 32 := 1#32
  let v10931 : BitVec 32 := Scalar.muli v7 c1_i32_11256
  let v10932 : BitVec 32 := Scalar.addi c0_i32_11257 v10931
  v10932.toNat
def k0_dev430 (d0 : Dev nD) : Nat :=
  let c0_i32_11267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11266 : BitVec 32 := 1#32
  let v10941 : BitVec 32 := Scalar.muli v5 c1_i32_11266
  let v10942 : BitVec 32 := Scalar.addi c0_i32_11267 v10941
  v10942.toNat
def k0_dev431 (d0 : Dev nD) : Nat :=
  let c0_i32_11329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11328 : BitVec 32 := 1#32
  let v10998 : BitVec 32 := Scalar.muli v5 c1_i32_11328
  let v10999 : BitVec 32 := Scalar.addi c0_i32_11329 v10998
  v10999.toNat
def k0_dev432 (d0 : Dev nD) : Nat :=
  let c0_i32_11332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11331 : BitVec 32 := 1#32
  let v11000 : BitVec 32 := Scalar.muli v7 c1_i32_11331
  let v11001 : BitVec 32 := Scalar.addi c0_i32_11332 v11000
  v11001.toNat
def k0_dev433 (d0 : Dev nD) : Nat :=
  let c0_i32_11361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11360 : BitVec 32 := 1#32
  let v11027 : BitVec 32 := Scalar.muli v7 c1_i32_11360
  let v11028 : BitVec 32 := Scalar.addi c0_i32_11361 v11027
  v11028.toNat
def k0_dev434 (d0 : Dev nD) : Nat :=
  let c0_i32_11371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11370 : BitVec 32 := 1#32
  let v11037 : BitVec 32 := Scalar.muli v5 c1_i32_11370
  let v11038 : BitVec 32 := Scalar.addi c0_i32_11371 v11037
  v11038.toNat
def k0_dev435 (d0 : Dev nD) : Nat :=
  let c0_i32_11433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11432 : BitVec 32 := 1#32
  let v11094 : BitVec 32 := Scalar.muli v5 c1_i32_11432
  let v11095 : BitVec 32 := Scalar.addi c0_i32_11433 v11094
  v11095.toNat
def k0_dev436 (d0 : Dev nD) : Nat :=
  let c0_i32_11436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11435 : BitVec 32 := 1#32
  let v11096 : BitVec 32 := Scalar.muli v7 c1_i32_11435
  let v11097 : BitVec 32 := Scalar.addi c0_i32_11436 v11096
  v11097.toNat
def k0_dev437 (d0 : Dev nD) : Nat :=
  let c0_i32_11465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11464 : BitVec 32 := 1#32
  let v11123 : BitVec 32 := Scalar.muli v7 c1_i32_11464
  let v11124 : BitVec 32 := Scalar.addi c0_i32_11465 v11123
  v11124.toNat
def k0_dev438 (d0 : Dev nD) : Nat :=
  let c0_i32_11475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11474 : BitVec 32 := 1#32
  let v11133 : BitVec 32 := Scalar.muli v5 c1_i32_11474
  let v11134 : BitVec 32 := Scalar.addi c0_i32_11475 v11133
  v11134.toNat
def k0_dev439 (d0 : Dev nD) : Nat :=
  let c0_i32_11537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11536 : BitVec 32 := 1#32
  let v11190 : BitVec 32 := Scalar.muli v5 c1_i32_11536
  let v11191 : BitVec 32 := Scalar.addi c0_i32_11537 v11190
  v11191.toNat
def k0_dev440 (d0 : Dev nD) : Nat :=
  let c0_i32_11540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11539 : BitVec 32 := 1#32
  let v11192 : BitVec 32 := Scalar.muli v7 c1_i32_11539
  let v11193 : BitVec 32 := Scalar.addi c0_i32_11540 v11192
  v11193.toNat
def k0_dev441 (d0 : Dev nD) : Nat :=
  let c0_i32_11569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11568 : BitVec 32 := 1#32
  let v11219 : BitVec 32 := Scalar.muli v7 c1_i32_11568
  let v11220 : BitVec 32 := Scalar.addi c0_i32_11569 v11219
  v11220.toNat
def k0_dev442 (d0 : Dev nD) : Nat :=
  let c0_i32_11579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11578 : BitVec 32 := 1#32
  let v11229 : BitVec 32 := Scalar.muli v5 c1_i32_11578
  let v11230 : BitVec 32 := Scalar.addi c0_i32_11579 v11229
  v11230.toNat
def k0_dev443 (d0 : Dev nD) : Nat :=
  let c0_i32_11641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11640 : BitVec 32 := 1#32
  let v11286 : BitVec 32 := Scalar.muli v5 c1_i32_11640
  let v11287 : BitVec 32 := Scalar.addi c0_i32_11641 v11286
  v11287.toNat
def k0_dev444 (d0 : Dev nD) : Nat :=
  let c0_i32_11644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11643 : BitVec 32 := 1#32
  let v11288 : BitVec 32 := Scalar.muli v7 c1_i32_11643
  let v11289 : BitVec 32 := Scalar.addi c0_i32_11644 v11288
  v11289.toNat
def k0_dev445 (d0 : Dev nD) : Nat :=
  let c0_i32_11673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11672 : BitVec 32 := 1#32
  let v11315 : BitVec 32 := Scalar.muli v7 c1_i32_11672
  let v11316 : BitVec 32 := Scalar.addi c0_i32_11673 v11315
  v11316.toNat
def k0_dev446 (d0 : Dev nD) : Nat :=
  let c0_i32_11683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11682 : BitVec 32 := 1#32
  let v11325 : BitVec 32 := Scalar.muli v5 c1_i32_11682
  let v11326 : BitVec 32 := Scalar.addi c0_i32_11683 v11325
  v11326.toNat
def k0_dev447 (d0 : Dev nD) : Nat :=
  let c0_i32_11745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11744 : BitVec 32 := 1#32
  let v11382 : BitVec 32 := Scalar.muli v5 c1_i32_11744
  let v11383 : BitVec 32 := Scalar.addi c0_i32_11745 v11382
  v11383.toNat
def k0_dev448 (d0 : Dev nD) : Nat :=
  let c0_i32_11748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11747 : BitVec 32 := 1#32
  let v11384 : BitVec 32 := Scalar.muli v7 c1_i32_11747
  let v11385 : BitVec 32 := Scalar.addi c0_i32_11748 v11384
  v11385.toNat
def k0_dev449 (d0 : Dev nD) : Nat :=
  let c0_i32_11777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11776 : BitVec 32 := 1#32
  let v11411 : BitVec 32 := Scalar.muli v7 c1_i32_11776
  let v11412 : BitVec 32 := Scalar.addi c0_i32_11777 v11411
  v11412.toNat
def k0_dev450 (d0 : Dev nD) : Nat :=
  let c0_i32_11787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11786 : BitVec 32 := 1#32
  let v11421 : BitVec 32 := Scalar.muli v5 c1_i32_11786
  let v11422 : BitVec 32 := Scalar.addi c0_i32_11787 v11421
  v11422.toNat
def k0_dev451 (d0 : Dev nD) : Nat :=
  let c0_i32_11849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11848 : BitVec 32 := 1#32
  let v11478 : BitVec 32 := Scalar.muli v5 c1_i32_11848
  let v11479 : BitVec 32 := Scalar.addi c0_i32_11849 v11478
  v11479.toNat
def k0_dev452 (d0 : Dev nD) : Nat :=
  let c0_i32_11852 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11851 : BitVec 32 := 1#32
  let v11480 : BitVec 32 := Scalar.muli v7 c1_i32_11851
  let v11481 : BitVec 32 := Scalar.addi c0_i32_11852 v11480
  v11481.toNat
def k0_dev453 (d0 : Dev nD) : Nat :=
  let c0_i32_11881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11880 : BitVec 32 := 1#32
  let v11507 : BitVec 32 := Scalar.muli v7 c1_i32_11880
  let v11508 : BitVec 32 := Scalar.addi c0_i32_11881 v11507
  v11508.toNat
def k0_dev454 (d0 : Dev nD) : Nat :=
  let c0_i32_11891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11890 : BitVec 32 := 1#32
  let v11517 : BitVec 32 := Scalar.muli v5 c1_i32_11890
  let v11518 : BitVec 32 := Scalar.addi c0_i32_11891 v11517
  v11518.toNat
def k0_dev455 (d0 : Dev nD) : Nat :=
  let c0_i32_11953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11952 : BitVec 32 := 1#32
  let v11574 : BitVec 32 := Scalar.muli v5 c1_i32_11952
  let v11575 : BitVec 32 := Scalar.addi c0_i32_11953 v11574
  v11575.toNat
def k0_dev456 (d0 : Dev nD) : Nat :=
  let c0_i32_11956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11955 : BitVec 32 := 1#32
  let v11576 : BitVec 32 := Scalar.muli v7 c1_i32_11955
  let v11577 : BitVec 32 := Scalar.addi c0_i32_11956 v11576
  v11577.toNat
def k0_dev457 (d0 : Dev nD) : Nat :=
  let c0_i32_11985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_11984 : BitVec 32 := 1#32
  let v11603 : BitVec 32 := Scalar.muli v7 c1_i32_11984
  let v11604 : BitVec 32 := Scalar.addi c0_i32_11985 v11603
  v11604.toNat
def k0_dev458 (d0 : Dev nD) : Nat :=
  let c0_i32_11995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_11994 : BitVec 32 := 1#32
  let v11613 : BitVec 32 := Scalar.muli v5 c1_i32_11994
  let v11614 : BitVec 32 := Scalar.addi c0_i32_11995 v11613
  v11614.toNat
def k0_dev459 (d0 : Dev nD) : Nat :=
  let c0_i32_12083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_12082 : BitVec 32 := 1#32
  let v11695 : BitVec 32 := Scalar.muli v7 c1_i32_12082
  let v11696 : BitVec 32 := Scalar.addi c0_i32_12083 v11695
  v11696.toNat
def k0_dev460 (d0 : Dev nD) : Nat :=
  let c0_i32_12093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_12092 : BitVec 32 := 1#32
  let v11705 : BitVec 32 := Scalar.muli v5 c1_i32_12092
  let v11706 : BitVec 32 := Scalar.addi c0_i32_12093 v11705
  v11706.toNat
def k0_dev461 (d0 : Dev nD) : Nat :=
  let c0_i32_12181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_12180 : BitVec 32 := 1#32
  let v11787 : BitVec 32 := Scalar.muli v7 c1_i32_12180
  let v11788 : BitVec 32 := Scalar.addi c0_i32_12181 v11787
  v11788.toNat
def k0_dev462 (d0 : Dev nD) : Nat :=
  let c0_i32_12191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_12190 : BitVec 32 := 1#32
  let v11797 : BitVec 32 := Scalar.muli v5 c1_i32_12190
  let v11798 : BitVec 32 := Scalar.addi c0_i32_12191 v11797
  v11798.toNat
def k0_dev463 (d0 : Dev nD) : Nat :=
  let c0_i32_12279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_12278 : BitVec 32 := 1#32
  let v11879 : BitVec 32 := Scalar.muli v7 c1_i32_12278
  let v11880 : BitVec 32 := Scalar.addi c0_i32_12279 v11879
  v11880.toNat
def k0_dev464 (d0 : Dev nD) : Nat :=
  let c0_i32_12289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_12288 : BitVec 32 := 1#32
  let v11889 : BitVec 32 := Scalar.muli v5 c1_i32_12288
  let v11890 : BitVec 32 := Scalar.addi c0_i32_12289 v11889
  v11890.toNat
def k0_dev465 (d0 : Dev nD) : Nat :=
  let c0_i32_12377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_12376 : BitVec 32 := 1#32
  let v11971 : BitVec 32 := Scalar.muli v7 c1_i32_12376
  let v11972 : BitVec 32 := Scalar.addi c0_i32_12377 v11971
  v11972.toNat
def k0_dev466 (d0 : Dev nD) : Nat :=
  let c0_i32_12387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_12386 : BitVec 32 := 1#32
  let v11981 : BitVec 32 := Scalar.muli v5 c1_i32_12386
  let v11982 : BitVec 32 := Scalar.addi c0_i32_12387 v11981
  v11982.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.KernelIdeal.Prog.lean ====
module

public import proofs.«01_k».proof.Proof.Gen.KernelIdeal

@[expose] public section

noncomputable section

namespace Cert.KernelIdeal.Ring

open Idealize.ShloMosaic Idealize.SL.Sem
open Cert.KernelIdeal Cert.KernelIdeal.Gen

variable {F : FTy → Type} [FloatOps F]

/-- Programs of the kernel's body. -/
abbrev PG (F : FTy → Type) := Prog (TpuEff nD τ sig (Elt F) Λ₀ .tc)

/-- One lane of a chain: the buffers and semaphores of one direction. -/
structure Lane where
  sb : Memref sig .tc .vmem S2x128x512 .bf16
  hsb : sb.IsWhole
  rb : Memref sig .tc .vmem S2x128x512 .bf16
  hrb : rb.IsWhole
  ss : DmaSems sig S2
  rs : DmaSems sig S2
  cr : Sems sig S_

/-- Device `d`'s position as the word the kernel computes. -/
def wd (d : Dev nD) : BitVec 32 := Scalar.remsi (Scalar.divsi (Dev.word d) 1#32) 16#32

/-- The neighbours the kernel signals and sends to. -/
def rightN (d : Dev nD) : Nat :=
  (Scalar.addi 0#32 (Scalar.muli (Scalar.remsi (Scalar.addi (wd d) 1#32) 16#32) 1#32)).toNat
def leftN (d : Dev nD) : Nat :=
  (Scalar.addi 0#32 (Scalar.muli (Scalar.remsi (Scalar.subi (Scalar.addi (wd d) 16#32) 1#32) 16#32) 1#32)).toNat

theorem rightN_lt : ∀ d : Dev nD, rightN d < nD := by decide
theorem leftN_lt : ∀ d : Dev nD, leftN d < nD := by decide

/-- The device to the right, to the left. -/
def rightD (d : Dev nD) : Dev nD := ⟨rightN d, rightN_lt d⟩
def leftD (d : Dev nD) : Dev nD := ⟨leftN d, leftN_lt d⟩

/-- The first row of the chunk that the word `b` names. -/
def rowW (b : BitVec 32) : BitVec 32 := Scalar.muli (Scalar.remsi (Scalar.addi b 32#32) 16#32) 256#32
/-- Offsets of the top half and of the bottom half of a chunk, at column `col`. -/
def topOff (b : BitVec 32) (col : Nat) : Fin 2 → Nat := ![(Scalar.indexCast (rowW b)).toNat, col]
def botOff (b : BitVec 32) (col : Nat) : Fin 2 → Nat := ![(Scalar.indexCast (Scalar.addi (rowW b) 128#32)).toNat, col]

/-- The chunk words of message `t`: sent and received, to the right and to the left. -/
def bSR (d : Dev nD) (t : Nat) : BitVec 32 :=
  bif Nat.blt t 15 then Scalar.subi (wd d) (BitVec.ofNat 32 t) else Scalar.subi (Scalar.addi (wd d) 1#32) (BitVec.ofNat 32 (t - 15))
def bRR (d : Dev nD) (t : Nat) : BitVec 32 :=
  bif Nat.blt t 15 then Scalar.subi (Scalar.subi (wd d) (BitVec.ofNat 32 t)) 1#32 else Scalar.subi (wd d) (BitVec.ofNat 32 (t - 15))
def bSL (d : Dev nD) (t : Nat) : BitVec 32 :=
  bif Nat.blt t 15 then Scalar.addi (wd d) (BitVec.ofNat 32 t) else Scalar.addi (Scalar.subi (wd d) 1#32) (BitVec.ofNat 32 (t - 15))
def bRL (d : Dev nD) (t : Nat) : BitVec 32 :=
  bif Nat.blt t 15 then Scalar.addi (Scalar.addi (wd d) (BitVec.ofNat 32 t)) 1#32 else Scalar.addi (wd d) (BitVec.ofNat 32 (t - 15))

theorem sr_lt : ∀ (d : Dev nD) (t : Fin 30), (rowW (bSR d t)).toNat + 256 ≤ 4096 := by decide +kernel
theorem rr_lt : ∀ (d : Dev nD) (t : Fin 30), (rowW (bRR d t)).toNat + 256 ≤ 4096 := by decide +kernel
theorem sl_lt : ∀ (d : Dev nD) (t : Fin 30), (rowW (bSL d t)).toNat + 256 ≤ 4096 := by decide +kernel
theorem rl_lt : ∀ (d : Dev nD) (t : Fin 30), (rowW (bRL d t)).toNat + 256 ≤ 4096 := by decide +kernel

/-- The chunk words of the blocks a device ends up having summed. -/
def bGR (d : Dev nD) : BitVec 32 := Scalar.addi (wd d) 1#32
def bGL (d : Dev nD) : BitVec 32 := Scalar.subi (wd d) 1#32
theorem gr_lt : ∀ d : Dev nD, (rowW (bGR d)).toNat + 256 ≤ 4096 := by decide +kernel
theorem gl_lt : ∀ d : Dev nD, (rowW (bGL d)).toNat + 256 ≤ 4096 := by decide +kernel

/-- A rectangle of the output. -/
abbrev Inb (o : Fin 2 → Nat) : Prop := ∀ a, o a + S128x512.size a ≤ S4096x2048.size a

theorem topOff_inb {b : BitVec 32} (h : (rowW b).toNat + 256 ≤ 4096) (k : Fin 4) : Inb (topOff b (512 * k.val)) := by
  intro a; fin_cases a
  · show (rowW b).toNat + 128 ≤ 4096; omega
  · show 512 * k.val + 512 ≤ 2048; omega

theorem botOff_inb {b : BitVec 32} (h : (rowW b).toNat + 256 ≤ 4096) (k : Fin 4) : Inb (botOff b (512 * k.val)) := by
  intro a; fin_cases a
  · have e : (Scalar.addi (rowW b) 128#32).toNat = (rowW b).toNat + 128 := by
      show (rowW b + 128#32).toNat = _
      rw [BitVec.toNat_add]; show ((rowW b).toNat + 128) % 4294967296 = _
      omega
    show (Scalar.addi (rowW b) 128#32).toNat + 128 ≤ 4096; omega
  · show 512 * k.val + 512 ≤ 2048; omega

theorem slot_inb (s : Fin 2) : ∀ a, (![s.val, 0, 0] : Fin 3 → Nat) a + S1x128x512.size a ≤ S2x128x512.size a := by
  revert s; decide
theorem sem_inb (s : Fin 2) : ∀ a, (![s.val] : Fin 1 → Nat) a + S1.size a ≤ S2.size a := by
  revert s; decide
theorem slot_packed (s : Fin 2) : (Rect.unit (s := S2x128x512) ![s.val, 0, 0] S1x128x512.size (slot_inb s)).PackedRows (EltTy.packing .bf16) := by
  revert s; decide
theorem slot_words (s : Fin 2) : (Rect.unit (s := S2x128x512) ![s.val, 0, 0] S1x128x512.size (slot_inb s)).WholeWords (EltTy.packing .bf16) := by
  revert s; decide

/-- A slot of a buffer as a memref of its own, and of a semaphore array as one semaphore. -/
def slot (m : Memref sig .tc .vmem S2x128x512 .bf16) (s : Fin 2) : Memref sig .tc .vmem S128x512 .bf16 :=
  (m.slice (Rect.unit (s := S2x128x512) ![s.val, 0, 0] S1x128x512.size (slot_inb s)) (fun _ => rfl)).squeeze S128x512 squeezes_S1x128x512_S128x512
def semAt (m : DmaSems sig S2) (s : Fin 2) : DmaSem sig :=
  ((m.slice (Rect.unit (s := S2) ![s.val] S1.size (sem_inb s))).squeeze S_ squeezes_S1_S_).sem

/-- Load and store a rectangle of the output; load and store a slot. -/
def ldOut (out : Memref sig .tc .vmem S4096x2048 .f32) (o : Fin 2 → Nat) (h : Inb o) : PG F (Vec F S128x512 .f32) :=
  Prog.lift (.load out (Rect.unit (s := S4096x2048) o S128x512.size h).toLoadRect (View.loadsAt_vmem h_S128x512))
def stOut (out : Memref sig .tc .vmem S4096x2048 .f32) (o : Fin 2 → Nat) (h : Inb o) (v : FVec F S128x512 .f32) : PG F PUnit :=
  Prog.lift (.store out (Rect.unit (s := S4096x2048) o S128x512.size h) v Finset.univ (View.stores_vmem_bits_univ h_S128x512 rfl) (.inl rfl))
def ldSlot (b : Memref sig .tc .vmem S2x128x512 .bf16) (s : Fin 2) : PG F (Vec F S1x128x512 .bf16) :=
  Prog.lift (.load b (Rect.unit (s := S2x128x512) ![s.val, 0, 0] S1x128x512.size (slot_inb s)).toLoadRect (View.loadsAt_vmem h_S1x128x512))
def stSlot (b : Memref sig .tc .vmem S2x128x512 .bf16) (hb : b.IsWhole) (s : Fin 2) (v : FVec F S1x128x512 .bf16) : PG F PUnit :=
  Prog.lift (.store b (Rect.unit (s := S2x128x512) ![s.val, 0, 0] S1x128x512.size (slot_inb s)) v Finset.univ
    (View.stores_vmem h_S1x128x512 (hb.storeExact_slice rfl _ (slot_packed s)) (fun _ => rfl)) (.inl rfl))

/-- Rounding a block for the wire, and the wire's block in the output's format. -/
def toWire (v : Vec F S128x512 .f32) : FVec F S1x128x512 .bf16 :=
  shapeCast S1x128x512 (truncf .bf16 (shapeCast S128x512 v shapeCasts_S128x512_S128x512 : FVec F S128x512 .f32) bitsLt_bf16_f32) shapeCasts_S128x512_S1x128x512
def fromWire (v : Vec F S1x128x512 .bf16) : FVec F S128x512 .f32 :=
  extf .f32 (shapeCast S128x512 v shapeCasts_S1x128x512_S128x512 : FVec F S128x512 .bf16) bitsLt_bf16_f32

/-- The activation as the kernel computes it. -/
def geluV (v : Vec F S128x512 .f32) : FVec F S128x512 .f32 :=
  have y : FVec F S128x512 .f32 := shapeCast S128x512 v shapeCasts_S128x512_S128x512
  mulf (mulf (broadcast S128x512 (Scalar.ofBits .f32 0x3F000000#32)) y)
    (addf (broadcast S128x512 (Scalar.ofBits .f32 0x3F800000#32))
      (tanh (mulf (broadcast S128x512 (Scalar.ofBits .f32 0x3F4C422A#32))
        (addf y (mulf (mulf (mulf (broadcast S128x512 (Scalar.ofBits .f32 0x3D372713#32)) y) y) y)))))

/-- Stage a block of the output in a send slot. -/
def stage (out : Memref sig .tc .vmem S4096x2048 .f32) (o : Fin 2 → Nat) (h : Inb o)
    (L : Lane) (s : Fin 2) : PG F PUnit := do
  let v ← ldOut out o h
  let _ ← ldSlot L.sb s
  stSlot L.sb L.hsb s (toWire v)

/-- Start a lane's transfer of a slot to device `d'`. -/
def start (L : Lane) (s : Fin 2) (d' : Dev nD) : PG F PUnit :=
  Prog.lift (.enqueueDma (slot L.sb s) (.remote (Dev.tc d') (slot L.rb s) (.dma (semAt L.ss s))) (.dma (semAt L.rs s))
    ((L.hsb.wordExact_slice rfl _ (slot_words s)).reshape _ _) ((L.hrb.wordExact_slice rfl _ (slot_words s)).reshape _ _) ⟨⟨rfl, Or.inl rfl⟩, trivial⟩)

/-- Wait for a lane's own transfer to have left, and for its neighbour's to have arrived. -/
def waitLane (L : Lane) (s : Fin 2) : PG F PUnit := do
  Prog.lift (.waitDma2 (semAt L.ss s) (slot L.rb s) (slot L.sb s) ((L.hrb.wordExact_slice rfl _ (slot_words s)).reshape _ _) ((L.hsb.wordExact_slice rfl _ (slot_words s)).reshape _ _))
  Prog.lift (.waitDma2 (semAt L.rs s) (slot L.sb s) (slot L.rb s) ((L.hsb.wordExact_slice rfl _ (slot_words s)).reshape _ _) ((L.hrb.wordExact_slice rfl _ (slot_words s)).reshape _ _))

/-- Add the received block to the output; put it there. -/
def addOut (out : Memref sig .tc .vmem S4096x2048 .f32) (o : Fin 2 → Nat) (h : Inb o) (L : Lane) (s : Fin 2) : PG F PUnit := do
  let v ← ldOut out o h
  let w ← ldSlot L.rb s
  let _ ← ldOut out o h
  stOut out o h (addf (shapeCast S128x512 v shapeCasts_S128x512_S128x512 : FVec F S128x512 .f32) (fromWire w))
def setOut (out : Memref sig .tc .vmem S4096x2048 .f32) (o : Fin 2 → Nat) (h : Inb o) (L : Lane) (s : Fin 2) : PG F PUnit := do
  let w ← ldSlot L.rb s
  let _ ← ldOut out o h
  stOut out o h (fromWire w)
/-- The activation of a block of the output, in place. -/
def geluOut (out : Memref sig .tc .vmem S4096x2048 .f32) (o : Fin 2 → Nat) (h : Inb o) : PG F PUnit := do
  let v ← ldOut out o h
  let _ ← ldOut out o h
  stOut out o h (geluV v)

/-- The slot of message `t`. -/
def par (t : Nat) : Fin 2 := ⟨t % 2, Nat.mod_lt _ (by decide)⟩

/-- A chain's two lanes: rightwards and leftwards. -/
structure Chain where
  r : Lane
  l : Lane

/-- The chain's message `t` sent, both ways. -/
def sendC (d : Dev nD) (out : Memref sig .tc .vmem S4096x2048 .f32) (k : Fin 4) (C : Chain) (t : Fin 30) : PG F PUnit := do
  bif Nat.blt t.val 2 then pure ⟨⟩ else do
    semWaitWord C.r.cr.sem 1#32
    semWaitWord C.l.cr.sem 1#32
  stage out (topOff (bSR d t) (512 * k.val)) (topOff_inb (sr_lt d t) k) C.r (par t)
  stage out (botOff (bSL d t) (512 * k.val)) (botOff_inb (sl_lt d t) k) C.l (par t)
  start C.r (par t) (rightD d)
  start C.l (par t) (leftD d)

/-- The chain's message `t` taken up, both ways. -/
def takeC (d : Dev nD) (out : Memref sig .tc .vmem S4096x2048 .f32) (k : Fin 4) (C : Chain) (t : Fin 30) : PG F PUnit := do
  waitLane C.r (par t)
  waitLane C.l (par t)
  bif Nat.blt t.val 15 then do
    addOut out (topOff (bRR d t) (512 * k.val)) (topOff_inb (rr_lt d t) k) C.r (par t)
    addOut out (botOff (bRL d t) (512 * k.val)) (botOff_inb (rl_lt d t) k) C.l (par t)
  else do
    setOut out (topOff (bRR d t) (512 * k.val)) (topOff_inb (rr_lt d t) k) C.r (par t)
    setOut out (botOff (bRL d t) (512 * k.val)) (botOff_inb (rl_lt d t) k) C.l (par t)
  bif Nat.beq t.val 14 then do
    geluOut out (topOff (bGR d) (512 * k.val)) (topOff_inb (gr_lt d) k)
    geluOut out (botOff (bGL d) (512 * k.val)) (botOff_inb (gl_lt d) k)
  else pure ⟨⟩
  bif Nat.blt t.val 28 then do
    semSignalWord (leftD d) C.r.cr.sem 1#32
    semSignalWord (rightD d) C.l.cr.sem 1#32
  else pure ⟨⟩

end Cert.KernelIdeal.Ring

end
-- ==== Proof.KernelIdeal.Align.lean ====
module

public import proofs.«01_k».proof.Proof.KernelIdeal.Prog
public import Idealize.ShloMosaic.Lib.Pipeline.Regions

@[expose] public section

noncomputable section

namespace Cert.KernelIdeal.Ring

open Idealize.ShloMosaic Idealize.SL.Sem
open Cert.KernelIdeal Cert.KernelIdeal.Gen

variable {F : FTy → Type} [FloatOps F]

/-- The device's own product, into the output. -/
def product (x : Memref sig .tc .vmem S4096x256 .bf16) (w : Memref sig .tc .vmem S256x2048 .bf16)
    (out : Memref sig .tc .vmem S4096x2048 .f32) : PG F PUnit := do
  let a : Vec F S4096x256 .bf16 ← Prog.lift (.load x (Rect.unit (s := S4096x256) ![0, 0] S4096x256.size inb_S4096x256_S4096x256_0_0).toLoadRect (View.loadsAt_vmem h_S4096x256))
  let b : Vec F S256x2048 .bf16 ← Prog.lift (.load w (Rect.unit (s := S256x2048) ![0, 0] S256x2048.size inb_S256x2048_S256x2048_0_0).toLoadRect (View.loadsAt_vmem h_S256x2048))
  let _ : Vec F S4096x2048 .f32 ← Prog.lift (.load out (Rect.unit (s := S4096x2048) ![0, 0] S4096x2048.size inb_S4096x2048_S4096x2048_0_0).toLoadRect (View.loadsAt_vmem h_S4096x2048))
  Prog.lift (.store out (Rect.unit (s := S4096x2048) ![0, 0] S4096x2048.size inb_S4096x2048_S4096x2048_0_0)
    (matmul dot_S4096x256_S256x2048_S4096x2048_1_0_0_1_n_n none
      (shapeCast S4096x256 a shapeCasts_S4096x256_S4096x256 : FVec F S4096x256 .bf16)
      (shapeCast S256x2048 b shapeCasts_S256x2048_S256x2048 : FVec F S256x2048 .bf16)
      (constant S4096x2048 .f32 0x00000000#32) : FVec F S4096x2048 .f32)
    Finset.univ (View.stores_vmem_bits_univ h_S4096x2048 rfl) (.inl rfl))

/-- The barrier's semaphore. -/
def barS : Sem sig := (SemArray.scalar (sig.barrier 0 rfl) : Sems sig S_).sem

/-- Meet the two neighbours. -/
def meet (d : Dev nD) : PG F PUnit := do
  semSignalWord (leftD d) barS 1#32
  semSignalWord (rightD d) barS 1#32
  semWaitWord barS 2#32

/-- What follows message `t` of a chain: it is taken up, and the next is sent. -/
def roundC (d : Dev nD) (out : Memref sig .tc .vmem S4096x2048 .f32) (k : Fin 4) (C : Chain) (t : Fin 30) : PG F PUnit := do
  takeC d out k C t
  if h : t.val + 1 < 30 then sendC d out k C ⟨t.val + 1, h⟩ else pure ⟨⟩

/-- A round of all four chains. -/
def roundAll (d : Dev nD) (out : Memref sig .tc .vmem S4096x2048 .f32) (C : Fin 4 → Chain) (t : Fin 30) : PG F PUnit := do
  roundC d out 0 (C 0) t
  roundC d out 1 (C 1) t
  roundC d out 2 (C 2) t
  roundC d out 3 (C 3) t

/-- `n` rounds from round `t` on. -/
def rounds (d : Dev nD) (out : Memref sig .tc .vmem S4096x2048 .f32) (C : Fin 4 → Chain) : Nat → Nat → PG F PUnit
  | 0, _ => pure ⟨⟩
  | n + 1, t => do
    if h : t < 30 then roundAll d out C ⟨t, h⟩ else pure ⟨⟩
    rounds d out C n (t + 1)

/-- The kernel's body, by rounds. -/
def body (x : Memref sig .tc .vmem S4096x256 .bf16) (w : Memref sig .tc .vmem S256x2048 .bf16)
    (out : Memref sig .tc .vmem S4096x2048 .f32) (C : Fin 4 → Chain) : PG F PUnit := do
  let d ← Prog.lift .deviceId
  meet d
  product x w out
  sendC d out 0 (C 0) 0
  sendC d out 1 (C 1) 0
  sendC d out 2 (C 2) 0
  sendC d out 3 (C 3) 0
  rounds d out C 30 0

set_option maxRecDepth 100000 in
/-- The printed body is the body by rounds. -/
theorem body_eq
    (arg0 : Memref sig .tc .vmem S4096x256 .bf16) (harg0 : arg0.IsWhole) (arg1 : Memref sig .tc .vmem S256x2048 .bf16) (harg1 : arg1.IsWhole) (arg2 : Memref sig .tc .vmem S4096x2048 .f32) (harg2 : arg2.IsWhole) (arg3 : Memref sig .tc .vmem S2x128x512 .bf16) (harg3 : arg3.IsWhole) (arg4 : Memref sig .tc .vmem S2x128x512 .bf16) (harg4 : arg4.IsWhole) (arg5 : Memref sig .tc .vmem S2x128x512 .bf16) (harg5 : arg5.IsWhole) (arg6 : Memref sig .tc .vmem S2x128x512 .bf16) (harg6 : arg6.IsWhole) (arg7 : Memref sig .tc .vmem S2x128x512 .bf16) (harg7 : arg7.IsWhole) (arg8 : Memref sig .tc .vmem S2x128x512 .bf16) (harg8 : arg8.IsWhole) (arg9 : Memref sig .tc .vmem S2x128x512 .bf16) (harg9 : arg9.IsWhole) (arg10 : Memref sig .tc .vmem S2x128x512 .bf16) (harg10 : arg10.IsWhole) (arg11 : Memref sig .tc .vmem S2x128x512 .bf16) (harg11 : arg11.IsWhole) (arg12 : Memref sig .tc .vmem S2x128x512 .bf16) (harg12 : arg12.IsWhole) (arg13 : Memref sig .tc .vmem S2x128x512 .bf16) (harg13 : arg13.IsWhole) (arg14 : Memref sig .tc .vmem S2x128x512 .bf16) (harg14 : arg14.IsWhole) (arg15 : Memref sig .tc .vmem S2x128x512 .bf16) (harg15 : arg15.IsWhole) (arg16 : Memref sig .tc .vmem S2x128x512 .bf16) (harg16 : arg16.IsWhole) (arg17 : Memref sig .tc .vmem S2x128x512 .bf16) (harg17 : arg17.IsWhole) (arg18 : Memref sig .tc .vmem S2x128x512 .bf16) (harg18 : arg18.IsWhole)
    (arg19 arg20 arg21 arg22 arg23 arg24 arg25 arg26 arg27 arg28 arg29 arg30 arg31 arg32 arg33 arg34 : DmaSems sig S2)
    (arg35 arg36 arg37 arg38 arg39 arg40 arg41 arg42 : Sems sig S_) :
    cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 arg25 arg26 arg27 arg28 arg29 arg30 arg31 arg32 arg33 arg34 arg35 arg36 arg37 arg38 arg39 arg40 arg41 arg42
      = body arg0 arg1 arg2 ![ ⟨⟨arg3, harg3, arg4, harg4, arg19, arg20, arg35⟩,
            ⟨arg5, harg5, arg6, harg6, arg21, arg22, arg36⟩⟩,
          ⟨⟨arg7, harg7, arg8, harg8, arg23, arg24, arg37⟩,
            ⟨arg9, harg9, arg10, harg10, arg25, arg26, arg38⟩⟩,
          ⟨⟨arg11, harg11, arg12, harg12, arg27, arg28, arg39⟩,
            ⟨arg13, harg13, arg14, harg14, arg29, arg30, arg40⟩⟩,
          ⟨⟨arg15, harg15, arg16, harg16, arg31, arg32, arg41⟩,
            ⟨arg17, harg17, arg18, harg18, arg33, arg34, arg42⟩⟩ ] := by
  chain_rfl

end Cert.KernelIdeal.Ring

end
-- ==== Proof.KernelIdeal.Proto.lean ====
module

public import proofs.«01_k».proof.Proof.KernelIdeal.Align
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

/-! # The protocol of the two-way ring

Each device has, per lane, two cells for its sends, two for its receives (one per slot) and a credit cell, and one
barrier cell. Message `t` of a lane uses slot `t % 2` and is round `t / 2` of that slot's cells. The right to write a
neighbour's receive slot travels with the messages of the opposite lane: message `t` of a lane hands its receiver
the sender's own slot for message `t + 1` of the other lane. -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) ℕ
abbrev UU : Type := UR sig nD τ × UB
local notation "𝕄" => MT nD τ sig ℕ (Elt F) ℕ UU ℕ
abbrev EP : Emb (UR sig nD τ) (MT nD τ sig ℕ (Elt F) ℕ UU ℕ) := embL
abbrev ER : Emb UB (MT nD τ sig ℕ (Elt F) ℕ UU ℕ) := embR

/-! ## Lanes and neighbours -/

/-- A lane: its chain of columns, and whether it runs rightwards. -/
abbrev LI : Type := Fin 4 × Bool
/-- The lane of the same columns running the other way. -/
def op (l : LI) : LI := (l.1, !l.2)
theorem op_op (l : LI) : op (op l) = l := by simp [op]

/-- A lane's buffers and semaphores. -/
def lane : LI → Lane
  | (0, true) => ⟨Memref.whole cc0_scratch0, Memref.isWhole_whole _, Memref.whole cc0_scratch1, Memref.isWhole_whole _, cc0_scratch16, cc0_scratch17, cc0_scratch32⟩
  | (0, false) => ⟨Memref.whole cc0_scratch2, Memref.isWhole_whole _, Memref.whole cc0_scratch3, Memref.isWhole_whole _, cc0_scratch18, cc0_scratch19, cc0_scratch33⟩
  | (1, true) => ⟨Memref.whole cc0_scratch4, Memref.isWhole_whole _, Memref.whole cc0_scratch5, Memref.isWhole_whole _, cc0_scratch20, cc0_scratch21, cc0_scratch34⟩
  | (1, false) => ⟨Memref.whole cc0_scratch6, Memref.isWhole_whole _, Memref.whole cc0_scratch7, Memref.isWhole_whole _, cc0_scratch22, cc0_scratch23, cc0_scratch35⟩
  | (2, true) => ⟨Memref.whole cc0_scratch8, Memref.isWhole_whole _, Memref.whole cc0_scratch9, Memref.isWhole_whole _, cc0_scratch24, cc0_scratch25, cc0_scratch36⟩
  | (2, false) => ⟨Memref.whole cc0_scratch10, Memref.isWhole_whole _, Memref.whole cc0_scratch11, Memref.isWhole_whole _, cc0_scratch26, cc0_scratch27, cc0_scratch37⟩
  | (3, true) => ⟨Memref.whole cc0_scratch12, Memref.isWhole_whole _, Memref.whole cc0_scratch13, Memref.isWhole_whole _, cc0_scratch28, cc0_scratch29, cc0_scratch38⟩
  | (3, false) => ⟨Memref.whole cc0_scratch14, Memref.isWhole_whole _, Memref.whole cc0_scratch15, Memref.isWhole_whole _, cc0_scratch30, cc0_scratch31, cc0_scratch39⟩

/-- A chain's two lanes. -/
def chain (k : Fin 4) : Chain := ⟨lane (k, true), lane (k, false)⟩

/-- The neighbour a lane of direction `b` sends to. -/
def fwd (b : Bool) (d : Dev nD) : Dev nD := cond b (rightD d) (leftD d)
theorem right_left : ∀ d : Dev nD, rightD (leftD d) = d := by decide +kernel
theorem left_right : ∀ d : Dev nD, leftD (rightD d) = d := by decide +kernel
theorem fwd_back (b : Bool) (d : Dev nD) : fwd b (fwd (!b) d) = d := by cases b <;> [exact left_right d; exact right_left d]
theorem back_fwd (b : Bool) (d : Dev nD) : fwd (!b) (fwd b d) = d := by cases b <;> [exact right_left d; exact left_right d]
/-- One step round the ring, as a permutation of the devices. -/
def turn (b : Bool) : Dev nD ≃ Dev nD := ⟨fwd b, fwd (!b), back_fwd b, fwd_back b⟩

/-! ## Cells -/

/-- A device's cells: its barrier; per lane a send cell and a receive cell for each slot, and a credit cell. -/
abbrev Cell : Type := Option (LI × (Fin 2 ⊕ Fin 2 ⊕ Unit))
abbrev bar : Cell := none
abbrev snd (l : LI) (s : Fin 2) : Cell := some (l, .inl s)
abbrev rcv (l : LI) (s : Fin 2) : Cell := some (l, .inr (.inl s))
abbrev crd (l : LI) : Cell := some (l, .inr (.inr ()))

/-- The scoped cells' semaphores, and every cell's. -/
def osem : LI × (Fin 2 ⊕ Fin 2 ⊕ Unit) → SemLoc sig
  | (l, .inl s) => .dma (semAt (lane l).ss s)
  | (l, .inr (.inl s)) => .dma (semAt (lane l).rs s)
  | (l, .inr (.inr _)) => .reg (lane l).cr.sem
def csem : Cell → SemLoc sig
  | none => .reg barS
  | some k => osem k

theorem csem_injective : Function.Injective csem := by decide +kernel

/-- The cell a semaphore is, if any. -/
def keyOf (sm : SemLoc sig) : Option Cell := by
  classical exact if h : ∃ κ, csem κ = sm then some h.choose else none
theorem keyOf_csem (κ : Cell) : keyOf (csem κ) = some κ := by
  have h : ∃ κ', csem κ' = csem κ := ⟨κ, rfl⟩
  unfold keyOf; rw [dif_pos h]; exact congrArg some (csem_injective h.choose_spec)

/-- Device `d`'s cell. -/
abbrev cell (d : Dev nD) (κ : Cell) : GSem nD τ sig := ((d : Thread nD τ), csem κ)

/-- What a slot's transfer credits. -/
def N : ℕ := (slot (lane (0, true)).rb 0).view.dmaCredit
theorem N_pos : 0 < N := View.dmaCredit_pos _ (by decide)
theorem credit_slot_r (l : LI) (s : Fin 2) : (slot (lane l).rb s).view.dmaCredit = N := by
  obtain ⟨k, b⟩ := l; fin_cases k <;> cases b <;> rfl
theorem credit_slot_s (l : LI) (s : Fin 2) : (slot (lane l).sb s).view.dmaCredit = N := by
  obtain ⟨k, b⟩ := l; fin_cases k <;> cases b <;> rfl

/-! ## The schedule -/

/-- A slot at some contents. -/
def slotAny (d : Dev nD) (m : Memref sig .tc .vmem S2x128x512 .bf16) (s : Fin 2) : sProp 𝕄 :=
  iprop(∃ X, owns (d : Thread nD τ) (slot m s) fullShare X)

/-- The right to send message `t` of a lane to device `d`: its slot there, and that the slot's cell is at that round. -/
def pass (l : LI) (d : Dev nD) (t : ℕ) : sProp 𝕄 :=
  iprop(slotAny d (lane l).rb (par t) ∗ reached ER (cell d (rcv l (par t))) (t / 2))

variable (wire : LI → Dev nD → ℕ → (S128x512.Idx → Elt F .bf16))

/-- What message `t` of a lane brings device `d`: the sender's block, and the right to send it the next message of the
    other lane. -/
def arrived (l : LI) (d : Dev nD) (t : ℕ) : sProp 𝕄 :=
  iprop(owns (d : Thread nD τ) (slot (lane l).rb (par t)) fullShare (wire l (fwd (!l.2) d) t)
    ∗ if t < 29 then pass (op l) (fwd (!l.2) d) (t + 1) else iprop(emp))

/-- What a neighbour's barrier signal brings: the right to send it the first message of every chain. -/
def met (b : Bool) (d : Dev nD) : sProp 𝕄 := bigSep Finset.univ fun k : Fin 4 => pass (k, b) (fwd b d) 0

def rd : Rounds.Schedule (GSem nD τ sig) ℕ 𝕄 where
  duties g r := match keyOf g.2 with
    | none => ∅
    | some none => if r = 0 then {0, 1} else ∅
    | some (some (_, .inl _)) => if r < 15 then {0} else ∅
    | some (some (_, .inr (.inl _))) => if r < 15 then {0} else ∅
    | some (some (_, .inr (.inr _))) => if r = 0 then Finset.range 28 else ∅
  amount g _ _ := match keyOf g.2 with
    | some (some (_, .inl _)) => N
    | some (some (_, .inr (.inl _))) => N
    | _ => 1
  payload g r d := match keyOf g.2 with
    | none => iprop(emp)
    | some none => met (decide (d = 0)) g.1.1
    | some (some (l, .inl s)) => slotAny g.1.1 (lane l).sb s
    | some (some (l, .inr (.inl s))) => arrived wire l g.1.1 (2 * r + s.val)
    | some (some (_, .inr (.inr _))) => iprop(emp)
  amount_pos g _ _ _ := by split <;> first | exact N_pos | exact Nat.one_pos

instance rd_storable (g : GSem nD τ sig) (r : ℕ) (d : ℕ) :
    BI.Storable (upEmb : UEmb _ 𝕄) ((rd wire).payload g r d) := by
  dsimp only [rd]
  unfold arrived met pass slotAny
  (repeat' split) <;> infer_instance

section Tables
variable (d : Dev nD) (l : LI) (s : Fin 2) (r i : ℕ)

theorem par_add (t : ℕ) : 2 * (t / 2) + (par t).val = t := by show 2 * (t / 2) + t % 2 = t; omega

theorem duties_bar : (rd wire).duties (cell d bar) 0 = {0, 1} := by
  simp only [rd, cell, keyOf_csem]; rfl
theorem duties_bar' (h : r ≠ 0) : (rd wire).duties (cell d bar) r = ∅ := by
  simp only [rd, cell, keyOf_csem]; exact if_neg h
theorem duties_snd (h : r < 15) : (rd wire).duties (cell d (snd l s)) r = {0} := by
  simp only [rd, cell, keyOf_csem]; exact if_pos h
theorem duties_snd' (h : 15 ≤ r) : (rd wire).duties (cell d (snd l s)) r = ∅ := by
  simp only [rd, cell, keyOf_csem]; exact if_neg (by omega)
theorem duties_rcv (h : r < 15) : (rd wire).duties (cell d (rcv l s)) r = {0} := by
  simp only [rd, cell, keyOf_csem]; exact if_pos h
theorem duties_rcv' (h : 15 ≤ r) : (rd wire).duties (cell d (rcv l s)) r = ∅ := by
  simp only [rd, cell, keyOf_csem]; exact if_neg (by omega)
theorem duties_crd : (rd wire).duties (cell d (crd l)) 0 = Finset.range 28 := by
  simp only [rd, cell, keyOf_csem]; rfl
theorem duties_crd' (h : r ≠ 0) : (rd wire).duties (cell d (crd l)) r = ∅ := by
  simp only [rd, cell, keyOf_csem]; exact if_neg h
theorem amount_bar : (rd wire).amount (cell d bar) r i = 1 := by simp only [rd, cell, keyOf_csem]
theorem amount_snd : (rd wire).amount (cell d (snd l s)) r i = N := by simp only [rd, cell, keyOf_csem]
theorem amount_rcv : (rd wire).amount (cell d (rcv l s)) r i = N := by simp only [rd, cell, keyOf_csem]
theorem amount_crd : (rd wire).amount (cell d (crd l)) r i = 1 := by simp only [rd, cell, keyOf_csem]
theorem payload_bar : (rd wire).payload (cell d bar) r i = met (decide (i = 0)) d := by simp only [rd, cell, keyOf_csem]
theorem payload_snd : (rd wire).payload (cell d (snd l s)) r i = slotAny d (lane l).sb s := by simp only [rd, cell, keyOf_csem]
theorem payload_rcv (t : ℕ) : (rd wire).payload (cell d (rcv l (par t))) (t / 2) i = arrived wire l d t := by
  simp only [rd, cell, keyOf_csem, par_add]
theorem payload_crd : (rd wire).payload (cell d (crd l)) r i = iprop(emp) := by simp only [rd, cell, keyOf_csem]

theorem expect_bar : (rd wire).expect (cell d bar) 0 = 2 := by
  unfold Schedule.expect Schedule.amountOf; rw [duties_bar, Finset.sum_congr rfl fun i _ => amount_bar wire d 0 i]; rfl
theorem expect_snd (h : r < 15) : (rd wire).expect (cell d (snd l s)) r = N := by
  unfold Schedule.expect Schedule.amountOf; rw [duties_snd wire d l s r h, Finset.sum_singleton, amount_snd]
theorem expect_rcv (h : r < 15) : (rd wire).expect (cell d (rcv l s)) r = N := by
  unfold Schedule.expect Schedule.amountOf; rw [duties_rcv wire d l s r h, Finset.sum_singleton, amount_rcv]
theorem expect_crd : (rd wire).expect (cell d (crd l)) 0 = 28 := by
  unfold Schedule.expect Schedule.amountOf; rw [duties_crd, Finset.sum_congr rfl fun i _ => amount_crd wire d l 0 i]; simp
end Tables

/-! ## What a device owes; the levels -/

/-- Message `t` of a chain, both ways; its credit `j`, both ways. -/
def owesMsg (d : Dev nD) (k : Fin 4) (t : ℕ) : CellTallies nD τ sig ℕ :=
  tallyAt (cell (fwd false d) (rcv (k, false) (par t))) t N + tallyAt (cell (fwd true d) (rcv (k, true) (par t))) t N
def owesCrd (d : Dev nD) (k : Fin 4) (j : ℕ) : CellTallies nD τ sig ℕ :=
  tallyAt (cell (fwd true d) (crd (k, false))) j 1 + tallyAt (cell (fwd false d) (crd (k, true))) j 1
/-- What a chain's round pays. -/
def owesRound (d : Dev nD) (k : Fin 4) (t : ℕ) : CellTallies nD τ sig ℕ :=
  (if t < 29 then owesMsg d k (t + 1) else 0) + (if t < 28 then owesCrd d k t else 0)
/-- What `n` rounds from round `t` on pay, the first outermost. -/
def owesRounds (d : Dev nD) : ℕ → ℕ → CellTallies nD τ sig ℕ
  | 0, _ => 0
  | n + 1, t => owesRounds d n (t + 1) + owesRound d 3 t + owesRound d 2 t + owesRound d 1 t + owesRound d 0 t
/-- The two barrier signals. -/
def owesBar (d : Dev nD) : CellTallies nD τ sig ℕ := tallyAt (cell (rightD d) bar) 0 1 + tallyAt (cell (leftD d) bar) 0 1
/-- What is owed once the neighbours are met, and at the start. -/
def owesMet (d : Dev nD) : CellTallies nD τ sig ℕ :=
  owesRounds d 30 0 + owesMsg d 3 0 + owesMsg d 2 0 + owesMsg d 1 0 + owesMsg d 0 0
def owesAll (d : Dev nD) : CellTallies nD τ sig ℕ := owesMet d + owesBar d

def Lx (g : GSem nD τ sig) : Finset ℕ := if g.1.2 = .tc then Finset.range 30 else ∅
def lv (g : GSem nD τ sig) (i : ℕ) : ℕ := match keyOf g.2 with
  | some none => 1
  | some (some (_, .inr (.inl _))) => 2 * i + 2
  | some (some (_, .inr (.inr _))) => 2 * i + 3
  | _ => 0

theorem lv_bar (d : Dev nD) (i : ℕ) : lv (cell d bar) i = 1 := by simp only [lv, cell, keyOf_csem]
theorem lv_snd (d : Dev nD) (l : LI) (s : Fin 2) (i : ℕ) : lv (cell d (snd l s)) i = 0 := by simp only [lv, cell, keyOf_csem]
theorem lv_rcv (d : Dev nD) (l : LI) (s : Fin 2) (i : ℕ) : lv (cell d (rcv l s)) i = 2 * i + 2 := by simp only [lv, cell, keyOf_csem]
theorem lv_crd (d : Dev nD) (l : LI) (i : ℕ) : lv (cell d (crd l)) i = 2 * i + 3 := by simp only [lv, cell, keyOf_csem]

theorem L_of_ne (g : GSem nD τ sig) (h : g.1.2 ≠ .tc) : Lx g = ∅ := if_neg h
theorem mem_L (d : Dev nD) (sm : SemLoc sig) {i : ℕ} (h : i < 30) : i ∈ Lx ((d : Thread nD τ), sm) := by
  unfold Lx; rw [if_pos rfl]; exact Finset.mem_range.mpr h

/-- Everything owed sits above level `b`. -/
def Above (b : ℕ) (O : CellTallies nD τ sig ℕ) : Prop := ∀ g i, 0 < O g i → i ∈ Lx g ∧ b < lv g i

theorem Above.mono {b b' : ℕ} {O : CellTallies nD τ sig ℕ} (h : Above b O) (hb : b' ≤ b) : Above b' O :=
  fun g i hg => ⟨(h g i hg).1, lt_of_le_of_lt hb (h g i hg).2⟩
theorem above_zero (b : ℕ) : Above b 0 := fun g i h => absurd h (by simp)
theorem Above.add {b : ℕ} {O O' : CellTallies nD τ sig ℕ} (h : Above b O) (h' : Above b O') : Above b (O + O') := by
  intro g i hg
  rw [Pi.add_apply, Finsupp.add_apply] at hg
  rcases Nat.eq_zero_or_pos (O g i) with h0 | h0
  · exact h' g i (by omega)
  · exact h g i h0
theorem above_tally {b : ℕ} (g : GSem nD τ sig) (i n : ℕ) (hi : i ∈ Lx g) (hb : b < lv g i) : Above b (tallyAt g i n) := by
  intro g' i' hg
  rw [tallyAt_apply] at hg
  by_cases h : g' = g ∧ i' = i
  · obtain ⟨rfl, rfl⟩ := h; exact ⟨hi, hb⟩
  · rw [if_neg h] at hg; exact absurd hg (by omega)

theorem above_msg {b : ℕ} (d : Dev nD) (k : Fin 4) {t : ℕ} (ht : t < 30) (hb : b < 2 * t + 2) : Above b (owesMsg d k t) :=
  (above_tally _ _ _ (mem_L _ _ ht) (by rw [lv_rcv]; exact hb)).add (above_tally _ _ _ (mem_L _ _ ht) (by rw [lv_rcv]; exact hb))
theorem above_crd {b : ℕ} (d : Dev nD) (k : Fin 4) {j : ℕ} (hj : j < 30) (hb : b < 2 * j + 3) : Above b (owesCrd d k j) :=
  (above_tally _ _ _ (mem_L _ _ hj) (by rw [lv_crd]; exact hb)).add (above_tally _ _ _ (mem_L _ _ hj) (by rw [lv_crd]; exact hb))
theorem above_round (d : Dev nD) (k : Fin 4) (t : ℕ) : Above (2 * t + 2) (owesRound d k t) := by
  unfold owesRound
  refine Above.add ?_ ?_ <;> split
  · exact above_msg d k (by omega) (by omega)
  · exact above_zero _
  · exact above_crd d k (by omega) (by omega)
  · exact above_zero _
theorem above_rounds (d : Dev nD) (n t : ℕ) : Above (2 * t + 2) (owesRounds d n t) := by
  induction n generalizing t with
  | zero => exact above_zero _
  | succ n ih =>
    exact (((((ih (t + 1)).mono (by omega)).add (above_round d 3 t)).add (above_round d 2 t)).add (above_round d 1 t)).add (above_round d 0 t)
theorem above_met (d : Dev nD) : Above 1 (owesMet d) :=
  (((((above_rounds d 30 0).mono (by omega)).add (above_msg d 3 (by omega) (by omega))).add (above_msg d 2 (by omega) (by omega))).add
    (above_msg d 1 (by omega) (by omega))).add (above_msg d 0 (by omega) (by omega))
theorem above_all (d : Dev nD) : Above 0 (owesAll d) :=
  ((above_met d).mono (by omega)).add ((above_tally _ _ _ (mem_L _ _ (by omega)) (by rw [lv_bar]; omega)).add
    (above_tally _ _ _ (mem_L _ _ (by omega)) (by rw [lv_bar]; omega)))

omit [FloatOps F] in
/-- A device may wait on a cell of its own below everything it owes. -/
theorem mayWait (d : Dev nD) (sm : SemLoc sig) (i : ℕ) (hi : i < 30) {O : CellTallies nD τ sig ℕ} (hO : Above (lv ((d : Thread nD τ), sm) i) O) :
    (levAts Lx lv : sProp 𝕄) ⊢ MayWait (d : Thread nD τ) sm i O :=
  MayOwe.of_cut (L := Lx) (lev := lv) (lv ((d : Thread nD τ), sm) i)
    (fun p hp => by rw [Finset.mem_singleton.mp hp]; exact mem_L d sm hi) (fun g i hg => (hO g i hg).1)
    (fun p hp => by rw [Finset.mem_singleton.mp hp]) (fun g i hg => (hO g i hg).2)

end Cert.KernelIdeal.Ring

end
-- ==== Proof.KernelIdeal.Lane.lean ====
module

public import proofs.«01_k».proof.Proof.KernelIdeal.Proto

@[expose] public section

noncomputable section

/-! # What each piece of a lane does

One statement per piece of the program: from the resources it takes, the program runs to the resources it leaves. -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

def 𝒱₀ : Variants := Variants.none

/-- Running a piece of device `d`'s program. -/
abbrev WP (d : Dev nD) {α : Type} (p : PG F α) (Q : α → sProp 𝕄) : sProp 𝕄 :=
  wp frame (wpE (defs₀ (F := F)) 𝒱₀ (d : Thread nD τ) none) Set.univ p Q

/-! ## The output's rectangles -/

/-- The output's buffer and its contents. -/
abbrev outM : Memref sig .tc .vmem S4096x2048 .f32 := Memref.whole cc0_stg2_0
abbrev Out (F : FTy → Type) : Type := S4096x2048.Idx → Elt F .f32
/-- A rectangle read and written. -/
def getB (f : Out F) (o : Fin 2 → Nat) (h : Inb o) : Vec F S128x512 .f32 :=
  outM.view.readAt (Elt F) (Rect.unit (s := S4096x2048) o S128x512.size h).toLoadRect f
def putB (f : Out F) (o : Fin 2 → Nat) (h : Inb o) (v : Vec F S128x512 .f32) : Out F :=
  (outM.access (Rect.unit (s := S4096x2048) o S128x512.size h)).write (Elt F) f v Finset.univ
def outP (d : Dev nD) (f : Out F) : sProp 𝕄 := (((d : Thread nD τ).loc cc0_stg2_0) ↦{fullShare} (f : Buf (Elt F) ((d : Thread nD τ).loc cc0_stg2_0)))

theorem ldOut_run (d : Dev nD) (o : Fin 2 → Nat) (h : Inb o) (f : Out F) (Q : Vec F S128x512 .f32 → sProp 𝕄) :
    outP d f ⊢ iprop((outP d f -∗ Q (getB f o h)) -∗ WP d (ldOut outM o h) Q) := by
  unfold ldOut outP WP getB
  simp only [Prog.lift]
  iintro H Hk
  iapply (wp_load 𝒱₀ (d : Thread nD τ) none Set.univ (m := outM) (Finset.subset_univ _)) $$ H; iintro H
  rw [wp_ret]; imodintro
  iapply Hk; iexact H

theorem stOut_run (d : Dev nD) (o : Fin 2 → Nat) (h : Inb o) (v : FVec F S128x512 .f32) (f : Out F) (Q : PUnit → sProp 𝕄) :
    outP d f ⊢ iprop((outP d (putB f o h v) -∗ Q ⟨⟩) -∗ WP d (stOut outM o h v) Q) := by
  unfold stOut outP WP putB
  simp only [Prog.lift]
  iintro H Hk
  iapply (wp_store 𝒱₀ (d : Thread nD τ) none Set.univ (m := outM) (r := Rect.unit (s := S4096x2048) o S128x512.size h) (Mk := Finset.univ) (S := Finset.univ) (f := f) (Finset.subset_univ _)) $$ H; iintro H
  rw [wp_ret]; imodintro
  iapply Hk; iexact H

/-! ## A slot -/

/-- A slot's vector in the shape the program loads and stores. -/
abbrev flat (v : Vec F S1x128x512 .bf16) : S128x512.Idx → Elt F .bf16 := shapeCast S128x512 v shapeCasts_S1x128x512_S128x512

theorem slot_set (m : Memref sig .tc .vmem S2x128x512 .bf16) (s : Fin 2) :
    (slot m s).view.set = (m.access (Rect.unit (s := S2x128x512) ![s.val, 0, 0] S1x128x512.size (slot_inb s))).set :=
  Memref.set_view_squeeze _ squeezes_S1x128x512_S128x512

theorem slot_pts (d : Dev nD) (m : Memref sig .tc .vmem S2x128x512 .bf16) (s : Fin 2) (f : (slot m s).view.ty.Contents (Elt F)) :
    ((slot m s).view.loc (d : Thread nD τ) ↦[(slot m s).view.set]{fullShare} f : sProp 𝕄)
      = ((m.access (Rect.unit (s := S2x128x512) ![s.val, 0, 0] S1x128x512.size (slot_inb s))).loc (d : Thread nD τ)
          ↦[(m.access (Rect.unit (s := S2x128x512) ![s.val, 0, 0] S1x128x512.size (slot_inb s))).set]{fullShare} f) := by
  rw [slot_set]; rfl

theorem ldSlot_run (d : Dev nD) (m : Memref sig .tc .vmem S2x128x512 .bf16) (s : Fin 2) (X : S128x512.Idx → Elt F .bf16)
    (Q : Vec F S1x128x512 .bf16 → sProp 𝕄) :
    owns (d : Thread nD τ) (slot m s) fullShare X
      ⊢ iprop((∀ v, ⌜flat v = X⌝ -∗ owns (d : Thread nD τ) (slot m s) fullShare X -∗ Q v) -∗ WP d (ldSlot m s) Q) := by
  unfold ldSlot WP owns
  simp only [Prog.lift, slot_pts]
  iintro ⟨%f, %hf, H⟩ Hk
  iapply (wp_load_rect 𝒱₀ (d : Thread nD τ) none Set.univ (m := m) (r := Rect.unit (s := S2x128x512) ![s.val, 0, 0] S1x128x512.size (slot_inb s)) (f := f) subset_rfl) $$ H; iintro H
  rw [wp_ret]; imodintro
  iapply Hk $$ %_
  · ipureintro; rw [← hf]; rfl
  iexists f; isplitr
  · ipureintro; exact hf
  iexact H

theorem stSlot_run (d : Dev nD) (m : Memref sig .tc .vmem S2x128x512 .bf16) (hm : m.IsWhole) (s : Fin 2) (v : FVec F S1x128x512 .bf16)
    (X : S128x512.Idx → Elt F .bf16) (Q : PUnit → sProp 𝕄) :
    owns (d : Thread nD τ) (slot m s) fullShare X
      ⊢ iprop((owns (d : Thread nD τ) (slot m s) fullShare (flat v) -∗ Q ⟨⟩) -∗ WP d (stSlot m hm s v) Q) := by
  unfold stSlot WP owns
  simp only [Prog.lift, slot_pts]
  iintro ⟨%f, %hf, H⟩ Hk
  iapply (wp_store 𝒱₀ (d : Thread nD τ) none Set.univ (m := m) (r := Rect.unit (s := S2x128x512) ![s.val, 0, 0] S1x128x512.size (slot_inb s)) (Mk := Finset.univ) (S := (m.access (Rect.unit (s := S2x128x512) ![s.val, 0, 0] S1x128x512.size (slot_inb s))).set) (f := f)
    subset_rfl) $$ H; iintro H
  rw [wp_ret]; imodintro
  iapply Hk
  iexists _; isplitr
  · ipureintro
    exact congrArg (fun z => shapeCast S128x512 z shapeCasts_S1x128x512_S128x512)
      (View.read_write_univ (v := m.access (Rect.unit (s := S2x128x512) ![s.val, 0, 0] S1x128x512.size (slot_inb s))) f v)
  iexact H

/-! ## Staging a block, adding and putting a received one, the activation -/

/-- A block rounded for the wire; the wire's block in the output's format. -/
def toW (v : Vec F S128x512 .f32) : S128x512.Idx → Elt F .bf16 := (truncf .bf16 (v : FVec F S128x512 .f32) bitsLt_bf16_f32 : FVec F S128x512 .bf16)
def ofW (X : S128x512.Idx → Elt F .bf16) : FVec F S128x512 .f32 := extf .f32 (X : FVec F S128x512 .bf16) bitsLt_bf16_f32

theorem flat_toWire (v : Vec F S128x512 .f32) : flat (toWire v) = toW v := by
  unfold flat toWire toW; rw [shapeCast_shapeCast, shapeCast_self]
theorem fromWire_flat (v : Vec F S1x128x512 .bf16) : fromWire v = ofW (flat v) := rfl

theorem stage_run (d : Dev nD) (o : Fin 2 → Nat) (h : Inb o) (L : Lane) (s : Fin 2) (f : Out F) (Q : PUnit → sProp 𝕄) :
    iprop(outP d f ∗ slotAny d L.sb s)
      ⊢ iprop((outP d f ∗ owns (d : Thread nD τ) (slot L.sb s) fullShare (toW (getB f o h)) -∗ Q ⟨⟩) -∗ WP d (stage outM o h L s) Q) := by
  unfold stage slotAny
  simp only [WP, wp_bind]
  iintro ⟨Ho, ⟨%X, Hs⟩⟩ Hk
  iapply (ldOut_run d o h f _) $$ Ho; iintro Ho
  iapply (ldSlot_run d L.sb s X _) $$ Hs; iintro %v %hv Hs
  iapply (stSlot_run d L.sb L.hsb s _ X _) $$ Hs; iintro Hs
  iapply Hk
  rw [flat_toWire]
  isplitl [Ho] <;> iassumption

theorem addOut_run (d : Dev nD) (o : Fin 2 → Nat) (h : Inb o) (L : Lane) (s : Fin 2) (f : Out F) (X : S128x512.Idx → Elt F .bf16)
    (Q : PUnit → sProp 𝕄) :
    iprop(outP d f ∗ owns (d : Thread nD τ) (slot L.rb s) fullShare X)
      ⊢ iprop((outP d (putB f o h (addf (getB f o h : FVec F S128x512 .f32) (ofW X))) ∗ owns (d : Thread nD τ) (slot L.rb s) fullShare X -∗ Q ⟨⟩)
        -∗ WP d (addOut outM o h L s) Q) := by
  unfold addOut
  simp only [WP, wp_bind]
  iintro ⟨Ho, Hs⟩ Hk
  iapply (ldOut_run d o h f _) $$ Ho; iintro Ho
  iapply (ldSlot_run d L.rb s X _) $$ Hs; iintro %v %hv Hs
  iapply (ldOut_run d o h f _) $$ Ho; iintro Ho
  rw [shapeCast_self, fromWire_flat, hv]
  iapply (stOut_run d o h _ f _) $$ Ho; iintro Ho
  iapply Hk
  isplitl [Ho] <;> iassumption

theorem setOut_run (d : Dev nD) (o : Fin 2 → Nat) (h : Inb o) (L : Lane) (s : Fin 2) (f : Out F) (X : S128x512.Idx → Elt F .bf16)
    (Q : PUnit → sProp 𝕄) :
    iprop(outP d f ∗ owns (d : Thread nD τ) (slot L.rb s) fullShare X)
      ⊢ iprop((outP d (putB f o h (ofW X)) ∗ owns (d : Thread nD τ) (slot L.rb s) fullShare X -∗ Q ⟨⟩)
        -∗ WP d (setOut outM o h L s) Q) := by
  unfold setOut
  simp only [WP, wp_bind]
  iintro ⟨Ho, Hs⟩ Hk
  iapply (ldSlot_run d L.rb s X _) $$ Hs; iintro %v %hv Hs
  iapply (ldOut_run d o h f _) $$ Ho; iintro Ho
  rw [fromWire_flat, hv]
  iapply (stOut_run d o h _ f _) $$ Ho; iintro Ho
  iapply Hk
  isplitl [Ho] <;> iassumption

theorem geluOut_run (d : Dev nD) (o : Fin 2 → Nat) (h : Inb o) (f : Out F) (Q : PUnit → sProp 𝕄) :
    outP d f ⊢ iprop((outP d (putB f o h (geluV (getB f o h))) -∗ Q ⟨⟩) -∗ WP d (geluOut outM o h) Q) := by
  unfold geluOut
  simp only [WP, wp_bind]
  iintro Ho Hk
  iapply (ldOut_run d o h f _) $$ Ho; iintro Ho
  iapply (ldOut_run d o h f _) $$ Ho; iintro Ho
  iapply (stOut_run d o h _ f _) $$ Ho; iintro Ho
  iapply Hk; iexact Ho

/-! ## Records, and what a device owes -/

variable (wire : LI → Dev nD → ℕ → (S128x512.Idx → Elt F .bf16)) (K : Dev nD × Cell → ℕ)

instance : DecidableEq (Dev nD × Cell) := instDecidableEqProd

/-- Every cell's invariant, and that every cell has begun. -/
def records : sProp 𝕄 :=
  iprop(bigSep Finset.univ (fun x : Dev nD × Cell => cellInv ER (rd wire) (K x) (cell x.1 x.2))
    ∗ bigSep Finset.univ (fun x : Dev nD × Cell => reached ER (cell x.1 x.2) 0))
instance records_persistent : Persistent (records (F := F) wire K) := by unfold records; infer_instance

theorem records_inv (d : Dev nD) (κ : Cell) : records wire K ⊢ cellInv ER (rd wire) (K (d, κ)) (cell d κ) :=
  sep_elim_left.trans (bigSep_elim (Φ := fun x : Dev nD × Cell => cellInv ER (rd wire) (K x) (cell x.1 x.2)) (Finset.mem_univ (d, κ)))
theorem records_reached (d : Dev nD) (κ : Cell) : records wire K ⊢ (reached ER (cell d κ) 0 : sProp 𝕄) :=
  sep_elim_right.trans (bigSep_elim (Φ := fun x : Dev nD × Cell => (reached ER (cell x.1 x.2) 0 : sProp 𝕄)) (Finset.mem_univ (d, κ)))

/-- Device `d` owes `O`. -/
def ow (d : Dev nD) (O : CellTallies nD τ sig ℕ) : sProp 𝕄 := iprop(∃ W, owes (d : Thread nD τ) O W)

/-! ## Sends and waits -/

/-- A cell of a lane is at message `t`'s round. -/
def atMsg (κ : LI → Fin 2 → Cell) (d : Dev nD) (l : LI) (t : ℕ) : sProp 𝕄 :=
  iprop(atPos ER (cell d (κ l (par t))) (t / 2) ∅ 0 ∗ reached ER (cell d (κ l (par t))) (t / 2))
/-- The two duties of sending message `t`. -/
def sendTok (d : Dev nD) (l : LI) (t : ℕ) : sProp 𝕄 :=
  iprop(dutyTok ER (cell d (snd l (par t))) (t / 2) 0 ∗ dutyTok ER (cell (fwd l.2 d) (rcv l (par t))) (t / 2) 0)
/-- The right to wait for message `t` to have left, and to have arrived. -/
def leftCr (d : Dev nD) (l : LI) (t : ℕ) : sProp 𝕄 := cred (tallyAt (cell d (snd l (par t))) 0 N)
def rcvCr (d : Dev nD) (l : LI) (t : ℕ) : sProp 𝕄 := cred (tallyAt (cell d (rcv l (par t))) t N)
/-- What message `t` brings, or hands over, besides its block. -/
def brought (d : Dev nD) (l : LI) (t : ℕ) : sProp 𝕄 := if t < 29 then pass (op l) (fwd (!l.2) d) (t + 1) else iprop(emp)
def handed (d : Dev nD) (l : LI) (t : ℕ) : sProp 𝕄 := if t < 29 then pass (op l) d (t + 1) else iprop(emp)

theorem par_two (t : ℕ) : par (t + 2) = par t := by unfold par; congr 1; exact Nat.add_mod_right t 2
theorem half_two (t : ℕ) : (t + 2) / 2 = t / 2 + 1 := Nat.add_div_right t (by decide)

theorem start_run (d : Dev nD) (l : LI) (t : ℕ) (ht : t < 30) (O : CellTallies nD τ sig ℕ) (Q : PUnit → sProp 𝕄) :
    iprop(records wire K ∗ owns (d : Thread nD τ) (slot (lane l).sb (par t)) fullShare (wire l d t) ∗ pass l (fwd l.2 d) t ∗ handed d l t
        ∗ ow d (O + tallyAt (cell (fwd l.2 d) (rcv l (par t))) t N) ∗ sendTok d l t ∗ reached ER (cell d (snd l (par t))) (t / 2))
      ⊢ iprop((leftCr d l t ∗ ow d O -∗ Q ⟨⟩) -∗ WP d (start (lane l) (par t) (fwd l.2 d)) Q) := by
  unfold start WP pass slotAny sendTok ow owns
  simp only [Prog.lift]
  iintro ⟨#HR, ⟨%fs, %hfs, Hs⟩, ⟨⟨%X, %fd, %hfd, Hd⟩, #Hr⟩, Hh, ⟨%W, HO⟩, ⟨Ht1, Ht2⟩, #Hr1⟩ Hk
  iapply (Rounds.wp_send_pointsTo_with 𝒱₀ ER (rd wire) (d : Thread nD τ) none (c' := ((fwd l.2 d : Dev nD) : Thread nD τ))
      (src := slot (lane l).sb (par t)) (dst := slot (lane l).rb (par t))
      (sS := csem (snd l (par t))) (sem := csem (rcv l (par t)))
      (κ₁ := K (d, snd l (par t))) (κ₂ := K (fwd l.2 d, rcv l (par t)))
      (r₁ := t / 2) (r₂ := t / 2) (d₁ := 0) (d₂ := 0) (fs := fs) (fd := fd) (F := handed d l t)
      (by rw [duties_snd wire d l (par t) (t / 2) (by omega)]; exact Finset.mem_singleton_self _)
      (by rw [duties_rcv wire (fwd l.2 d) l (par t) (t / 2) (by omega)]; exact Finset.mem_singleton_self _)
      t 0 N (credit_slot_r l (par t)) (amount_snd wire d l (par t) (t / 2) 0) (amount_rcv wire (fwd l.2 d) l (par t) (t / 2) 0)
      O rfl
      (by rw [payload_snd]; unfold slotAny; iintro H; iexists _; iapply (owns_intro (d : Thread nD τ) (slot (lane l).sb (par t)) fullShare fs); iexact H)
      (by
        show _ ⊢ (rd wire).payload (cell (fwd l.2 d) (rcv l (par t))) (t / 2) 0
        rw [payload_rcv wire (fwd l.2 d) l (t := t)]; unfold arrived handed
        rw [back_fwd, hfs]
        iintro ⟨H, HF⟩
        isplitl [H]
        · unfold owns; iexists ((slot (lane l).rb (par t)).view.write (Elt F) fd (wire l d t) Finset.univ); isplitr
          · ipureintro; exact View.read_write_univ _ _
          iexact H
        iexact HF)) $$ [Hs Hd Hh HO Ht1 Ht2]
  · isplitr; · iapply (records_inv wire K d (snd l (par t))); iexact HR
    isplitr; · iapply (records_inv wire K (fwd l.2 d) (rcv l (par t))); iexact HR
    isplitl [Hs]; · iexact Hs
    isplitl [Hd Hh]
    · isplitl [Hd] <;> iassumption
    isplitl [HO]; · iexact HO
    isplitl [Ht1]; · iexact Ht1
    isplitr; · iexact Hr1
    isplitl [Ht2]; · iexact Ht2
    iexact Hr
  iintro ⟨Hc, HO⟩
  rw [wp_ret]; imodintro
  iapply Hk
  isplitl [Hc]; · unfold leftCr; iexact Hc
  iexists W; iexact HO

/-- A wait for a transfer on one of the device's cells. -/
theorem dmaWait_run (d : Dev nD) (κ : Cell) (q : DmaSem sig) (hq : csem κ = .dma q) (r i : ℕ) (hi : i < 30)
    {src dst : Memref sig .tc .vmem S128x512 .bf16} {hsrc : src.view.WordExact} {hdst : dst.view.WordExact}
    (hN : dst.view.dmaCredit = N) (hx : (rd wire).expect (cell d κ) r = N)
    (O : CellTallies nD τ sig ℕ) (hO : Above (lv (cell d κ) i) O) (Q : PUnit → sProp 𝕄) :
    iprop(records wire K ∗ levAts Lx lv ∗ cred (tallyAt (cell d κ) i N) ∗ ow d O ∗ atPos ER (cell d κ) r ∅ 0)
      ⊢ iprop((ow d O ∗ atPos ER (cell d κ) (r + 1) ∅ 0 ∗ reached ER (cell d κ) (r + 1)
            ∗ bigSep ((rd wire).duties (cell d κ) r) (fun e => (rd wire).payload (cell d κ) r e) -∗ Q ⟨⟩)
        -∗ WP d (Prog.lift (.waitDma2 q src dst hsrc hdst)) Q) := by
  unfold WP ow
  simp only [Prog.lift]
  have hI := records_inv wire K d κ
  have hM := mayWait (F := F) d (csem κ) i hi hO
  unfold cell at *
  rw [hq] at *
  iintro ⟨#HR, #HL, Hc, ⟨%W, HO⟩, Ha⟩ Hk
  iapply (Rounds.wp_wait_rest_token 𝒱₀ ER (rd wire) (d : Thread nD τ) none (sm := .dma q) (κ := K (d, κ))
      (wpE_waitDma2_eq 𝒱₀ (d : Thread nD τ) none Set.univ) (Set.mem_univ _) i (O := O) (W := W) (R := r) (m := 0) (T := ∅)
      (by rw [hx, Nat.zero_add, hN])) $$ [Hc HO Ha]
  · isplitr; · iapply hI; iexact HR
    isplitl [Hc]; · rw [hN]; iexact Hc
    isplitl [HO]; · iexact HO
    isplitr; · iapply hM; iexact HL
    iexact Ha
  rw [Finset.sdiff_empty]
  iintro ⟨HO, Ha, Hr, Hp⟩
  rw [wp_ret]; imodintro
  iapply Hk
  isplitl [HO]; · iexists _; iexact HO
  isplitl [Ha]; · iexact Ha
  isplitl [Hr]; · iexact Hr
  iexact Hp

theorem waitLane_run (d : Dev nD) (l : LI) (t : ℕ) (ht : t < 30) (O : CellTallies nD τ sig ℕ) (hO : Above (2 * t + 2) O) (Q : PUnit → sProp 𝕄) :
    iprop(records wire K ∗ levAts Lx lv ∗ leftCr d l t ∗ rcvCr d l t ∗ ow d O ∗ atMsg snd d l t ∗ atMsg rcv d l t)
      ⊢ iprop((ow d O ∗ atMsg snd d l (t + 2) ∗ atMsg rcv d l (t + 2) ∗ slotAny d (lane l).sb (par t)
            ∗ owns (d : Thread nD τ) (slot (lane l).rb (par t)) fullShare (wire l (fwd (!l.2) d) t) ∗ brought d l t -∗ Q ⟨⟩)
        -∗ WP d (waitLane (lane l) (par t)) Q) := by
  unfold waitLane atMsg leftCr rcvCr
  simp only [WP, wp_bind, par_two, half_two]
  iintro ⟨#HR, #HL, Hc1, Hc2, HO, ⟨Ha1, -⟩, ⟨Ha2, -⟩⟩ Hk
  iapply (dmaWait_run wire K d (snd l (par t)) (semAt (lane l).ss (par t)) rfl (t / 2) 0 (by omega) (src := slot (lane l).rb (par t)) (dst := slot (lane l).sb (par t))
      (hsrc := ((lane l).hrb.wordExact_slice rfl _ (slot_words (par t))).reshape _ _) (hdst := ((lane l).hsb.wordExact_slice rfl _ (slot_words (par t))).reshape _ _) (credit_slot_s l (par t))
      (expect_snd wire d l (par t) (t / 2) (by omega)) O (by rw [lv_snd]; exact hO.mono (by omega)) _) $$ [Hc1 HO Ha1]
  · isplitr; · iexact HR
    isplitr; · iexact HL
    isplitl [Hc1]; · iexact Hc1
    isplitl [HO] <;> iassumption
  rw [duties_snd wire d l (par t) (t / 2) (by omega), bigSep_singleton, payload_snd]
  iintro ⟨HO, Ha1, #Hr1, Hs⟩
  iapply (dmaWait_run wire K d (rcv l (par t)) (semAt (lane l).rs (par t)) rfl (t / 2) t ht (src := slot (lane l).sb (par t)) (dst := slot (lane l).rb (par t))
      (hsrc := ((lane l).hsb.wordExact_slice rfl _ (slot_words (par t))).reshape _ _) (hdst := ((lane l).hrb.wordExact_slice rfl _ (slot_words (par t))).reshape _ _) (credit_slot_r l (par t))
      (expect_rcv wire d l (par t) (t / 2) (by omega)) O (by rw [lv_rcv]; exact hO) _) $$ [Hc2 HO Ha2]
  · isplitr; · iexact HR
    isplitr; · iexact HL
    isplitl [Hc2]; · iexact Hc2
    isplitl [HO] <;> iassumption
  rw [duties_rcv wire d l (par t) (t / 2) (by omega), bigSep_singleton, payload_rcv]
  unfold arrived
  iintro ⟨HO, Ha2, #Hr2, ⟨Hx, Hb⟩⟩
  iapply Hk
  isplitl [HO]; · iexact HO
  isplitl [Ha1]
  · isplitl [Ha1]; · iexact Ha1
    iexact Hr1
  isplitl [Ha2]
  · isplitl [Ha2]; · iexact Ha2
    iexact Hr2
  isplitl [Hs]; · iexact Hs
  isplitl [Hx]; · iexact Hx
  unfold brought; iexact Hb

/-! ## Credits -/

/-- `w` waits on a lane's credit cell are done. -/
def credAt (d : Dev nD) (l : LI) (w : ℕ) : sProp 𝕄 :=
  iprop(∃ T : Finset ℕ, ⌜w + (Finset.range 28 \ T).card ≤ 28⌝ ∗ atPos ER (cell d (crd l)) 0 T w)
/-- The right to wait for credit `j`; the duty of paying it. -/
def waitCr (d : Dev nD) (l : LI) (j : ℕ) : sProp 𝕄 := cred (tallyAt (cell d (crd l)) j 1)
def payTok (d : Dev nD) (l : LI) (j : ℕ) : sProp 𝕄 := dutyTok ER (cell (fwd (!l.2) d) (crd l)) 0 j

theorem credit_wait_run (d : Dev nD) (l : LI) (j w : ℕ) (hj : j < 28) (O : CellTallies nD τ sig ℕ) (hO : Above (2 * j + 3) O) (Q : PUnit → sProp 𝕄) :
    iprop(records wire K ∗ levAts Lx lv ∗ waitCr d l j ∗ ow d O ∗ credAt d l w)
      ⊢ iprop((ow d O ∗ credAt d l (w + 1) -∗ Q ⟨⟩) -∗ WP d (semWaitWord (lane l).cr.sem 1#32) Q) := by
  unfold WP ow credAt waitCr
  simp only [semWaitWord]
  iintro ⟨#HR, #HL, Hc, ⟨%W, HO⟩, ⟨%T, %hT, Ha⟩⟩ Hk
  iapply (Rounds.wp_wait 𝒱₀ ER (rd wire) (d : Thread nD τ) none (sm := csem (crd l)) (κ := K (d, crd l))
      (wpE_semWait_eq 𝒱₀ (d : Thread nD τ) none Set.univ) (Set.mem_univ _) (cr := Finsupp.single j 1) (O := O) (W := W)
      {(csem (crd l), j)} (R := 0) (m := w) (T := T)
      (by rw [Util.total_single]; decide) (image_single_subset (csem (crd l)) j 1)) $$ [Hc HO Ha]
  · isplitr; · iapply (records_inv wire K d (crd l)); iexact HR
    isplitl [Hc]; · iexact Hc
    isplitl [HO]; · iexact HO
    isplitr; · iapply (mayWait d (csem (crd l)) j (by omega) (by rw [lv_crd]; exact hO)); iexact HL
    iexact Ha
  iintro %S ⟨%hS, HO, Ha, -⟩
  rw [wp_ret]; imodintro
  iapply Hk
  isplitl [HO]; · iexists _; iexact HO
  iexists S
  isplitr
  · ipureintro
    have := hS.2.2
    rw [expect_crd wire d l, duties_crd wire d l] at this
    exact this
  iexact Ha

theorem credit_pay_run (d : Dev nD) (l : LI) (j : ℕ) (hj : j < 28) (O : CellTallies nD τ sig ℕ) (Q : PUnit → sProp 𝕄) :
    iprop(records wire K ∗ ow d (O + tallyAt (cell (fwd (!l.2) d) (crd l)) j 1) ∗ payTok d l j)
      ⊢ iprop((ow d O -∗ Q ⟨⟩) -∗ WP d (semSignalWord (fwd (!l.2) d) (lane l).cr.sem 1#32) Q) := by
  unfold WP ow payTok
  simp only [semSignalWord]
  iintro ⟨#HR, ⟨%W, HO⟩, Ht⟩ Hk
  iapply (Rounds.wp_signal 𝒱₀ ER (rd wire) (d : Thread nD τ) none (dst := ((fwd (!l.2) d : Dev nD) : Thread nD τ)) (sem := (lane l).cr.sem)
      (κ := K (fwd (!l.2) d, crd l)) (d := j) (r := 0)
      (by rw [show ((((fwd (!l.2) d : Dev nD) : Thread nD τ), SemLoc.reg (lane l).cr.sem) : GSem nD τ sig) = cell (fwd (!l.2) d) (crd l) from rfl,
            duties_crd]; exact Finset.mem_range.mpr hj)
      ((amount_crd wire (fwd (!l.2) d) l 0 j).trans (by decide)) j O rfl) $$ [HO Ht]
  · isplitr; · iapply (records_inv wire K (fwd (!l.2) d) (crd l)); iexact HR
    isplitl [HO]; · iexact HO
    isplitl [Ht]; · iexact Ht
    isplitr
    · rw [show (rd wire).payload (((fwd (!l.2) d : Dev nD) : Thread nD τ), SemLoc.reg (lane l).cr.sem) 0 j = iprop(emp) from payload_crd wire _ l 0 j]
      iempintro
    iapply (records_reached wire K (fwd (!l.2) d) (crd l)); iexact HR
  iintro HO
  rw [wp_ret]; imodintro
  iapply Hk; iexists W; iexact HO

end Cert.KernelIdeal.Ring

end
-- ==== Proof.KernelIdeal.Rounds.lean ====
module

public import proofs.«01_k».proof.Proof.KernelIdeal.Lane

@[expose] public section

noncomputable section

/-! # A chain's message sent and taken up; the rounds -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## The values the rounds go through -/

/-- A block taken up: added in the first half, put in place in the second. -/
def takeB (t : ℕ) (f : Out F) (o : Fin 2 → Nat) (h : Inb o) (X : S128x512.Idx → Elt F .bf16) : Out F :=
  bif Nat.blt t 15 then putB f o h (addf (getB f o h : FVec F S128x512 .f32) (ofW X)) else putB f o h (ofW X)
/-- The activation of a block, after message 14 only. -/
def actB (t : ℕ) (f : Out F) (o : Fin 2 → Nat) (h : Inb o) : Out F :=
  bif Nat.beq t 14 then putB f o h (geluV (getB f o h)) else f
/-- The output after message `t` of a chain is taken up, both ways. -/
def taken (d : Dev nD) (k : Fin 4) (t : Fin 30) (f : Out F) (X Y : S128x512.Idx → Elt F .bf16) : Out F :=
  actB t (actB t (takeB t (takeB t f (topOff (bRR d t) (512 * k.val)) (topOff_inb (rr_lt d t) k) X)
    (botOff (bRL d t) (512 * k.val)) (botOff_inb (rl_lt d t) k) Y)
    (topOff (bGR d) (512 * k.val)) (topOff_inb (gr_lt d) k)) (botOff (bGL d) (512 * k.val)) (botOff_inb (gl_lt d) k)

/-- The values of a run: device `d`'s output once `cnt k` messages of each chain `k` are taken up, and the blocks on the wire;
    with what each message does to them. -/
structure Vals (F : FTy → Type) [FloatOps F] where
  st : Dev nD → (Fin 4 → ℕ) → Out F
  wire : LI → Dev nD → ℕ → (S128x512.Idx → Elt F .bf16)
  sendR : ∀ d cnt k (t : Fin 30), cnt k = t.val →
    toW (getB (st d cnt) (topOff (bSR d t) (512 * k.val)) (topOff_inb (sr_lt d t) k)) = wire (k, true) d t
  sendL : ∀ d cnt k (t : Fin 30), cnt k = t.val →
    toW (getB (st d cnt) (botOff (bSL d t) (512 * k.val)) (botOff_inb (sl_lt d t) k)) = wire (k, false) d t
  take : ∀ d cnt k (t : Fin 30), cnt k = t.val →
    taken d k t (st d cnt) (wire (k, true) (fwd false d) t) (wire (k, false) (fwd true d) t) = st d (Function.update cnt k (t + 1))

/-! ## A lane before and after a send -/

/-- A family's members from `a` up to `n`. -/
def rest (Φ : ℕ → sProp 𝕄) (a n : ℕ) : sProp 𝕄 := bigSep (Finset.Ico a n) Φ
theorem rest_peel (Φ : ℕ → sProp 𝕄) {a n : ℕ} (h : a < n) : rest Φ a n = iprop(Φ a ∗ rest Φ (a + 1) n) := by
  unfold rest
  rw [show Finset.Ico a n = insert a (Finset.Ico (a + 1) n) by ext x; simp only [Finset.mem_Ico, Finset.mem_insert]; omega,
    bigSep_insert (by simp)]; rfl
theorem rest_over (Φ : ℕ → sProp 𝕄) {a b n : ℕ} (h : n ≤ a) (h' : n ≤ b) : rest Φ a n = rest Φ b n := by
  unfold rest; rw [Finset.Ico_eq_empty (by omega), Finset.Ico_eq_empty (by omega)]

/-- The four cells at their rounds. -/
def cellsAt (d : Dev nD) (l : LI) (t : ℕ) : sProp 𝕄 :=
  iprop(atMsg snd d l t ∗ atMsg snd d l (t + 1) ∗ atMsg rcv d l t ∗ atMsg rcv d l (t + 1))
/-- The right to send message `t`, while there is one; the slot itself afterwards. -/
def door (d : Dev nD) (l : LI) (t : ℕ) : sProp 𝕄 :=
  if t < 30 then pass l (fwd l.2 d) t else slotAny d (lane l).rb (par t)
/-- What the last message leaves with the sender. -/
def held (d : Dev nD) (l : LI) (t : ℕ) : sProp 𝕄 := if t < 29 then iprop(emp) else slotAny d (lane l).rb (par (t + 1))

def ready (d : Dev nD) (l : LI) (t : ℕ) : sProp 𝕄 :=
  iprop(cellsAt d l t ∗ slotAny d (lane l).sb (par t) ∗ slotAny d (lane l).sb (par (t + 1)) ∗ slotAny d (lane l).rb (par (t + 1))
    ∗ door d l t ∗ rest (sendTok d l) t 30 ∗ rest (rcvCr d l) t 30)
def flight (d : Dev nD) (l : LI) (t : ℕ) : sProp 𝕄 :=
  iprop(cellsAt d l t ∗ slotAny d (lane l).sb (par (t + 1)) ∗ held d l t ∗ leftCr d l t
    ∗ rest (sendTok d l) (t + 1) 30 ∗ rest (rcvCr d l) t 30)
/-- `w` credits waited for, the others to come. -/
def crdSt (d : Dev nD) (l : LI) (w : ℕ) : sProp 𝕄 := iprop(credAt d l w ∗ rest (waitCr d l) w 28)

/-- A receive slot given up: handed over with the other lane's message, or kept after the last. -/
theorem give_slot (d : Dev nD) (l : LI) (t : ℕ) :
    iprop(slotAny d (lane l).rb (par (t + 1)) ∗ reached ER (cell d (rcv l (par (t + 1)))) ((t + 1) / 2))
      ⊢ (iprop(handed d (op l) t ∗ held d l t) : sProp 𝕄) := by
  unfold handed held pass
  rw [op_op]
  by_cases h : t < 29
  · simp only [if_pos h]
    iintro ⟨H, #Hr⟩
    isplitl [H]
    · isplitl [H]; · iexact H
      iexact Hr
    iempintro
  · simp only [if_neg h]
    iintro ⟨H, -⟩
    isplitr; · iempintro
    iexact H

/-- What a message brings opens the other lane's door. -/
theorem open_door (d : Dev nD) (l : LI) (t : ℕ) (ht : t < 30) :
    iprop(held d l t ∗ brought d (op l) t) ⊢ (door d l (t + 1) : sProp 𝕄) := by
  unfold held brought door
  rw [op_op]
  by_cases h : t < 29
  · rw [if_pos h, if_pos h, if_pos (by omega), show (!(op l).2) = l.2 from Bool.not_not _]
    iintro ⟨-, H⟩; iexact H
  · rw [if_neg h, if_neg h, if_neg (by omega)]
    iintro ⟨H, -⟩; iexact H

variable (V : Vals F) (K : Dev nD × Cell → ℕ)

theorem reached_half_zero (d : Dev nD) (κ : LI → Fin 2 → Cell) (l : LI) (t : ℕ) : (atMsg κ d l t : sProp 𝕄) ⊢ iprop(atMsg κ d l t ∗ reached ER (cell d (κ l (par t))) (t / 2)) := by
  unfold atMsg
  iintro ⟨H, #Hr⟩
  isplitl [H]
  · isplitl [H]; · iexact H
    iexact Hr
  iexact Hr

/-- The credits waited for before message `t`: none for the first two. -/
theorem credits_run (d : Dev nD) (k : Fin 4) (t : Fin 30) (O : CellTallies nD τ sig ℕ) (hO : Above (2 * t.val - 1) O) (Q : PUnit → sProp 𝕄) :
    iprop(records V.wire K ∗ levAts Lx lv ∗ ow d O ∗ crdSt d (k, true) (t.val - 2) ∗ crdSt d (k, false) (t.val - 2))
      ⊢ iprop((ow d O ∗ crdSt d (k, true) (t.val + 1 - 2) ∗ crdSt d (k, false) (t.val + 1 - 2) -∗ Q ⟨⟩)
        -∗ WP d (bif Nat.blt t.val 2 then (pure ⟨⟩ : PG F PUnit) else do
            semWaitWord (chain k).r.cr.sem 1#32
            semWaitWord (chain k).l.cr.sem 1#32) Q) := by
  cases hb : Nat.blt t.val 2
  · have ht : 2 ≤ t.val := Nat.le_of_not_lt fun h => by rw [Nat.blt_eq.mpr h] at hb; cases hb
    have ht' := t.isLt
    have e : t.val + 1 - 2 = t.val - 2 + 1 := by omega
    simp only [cond_false]
    unfold crdSt
    rw [e, rest_peel (waitCr d (k, true)) (show t.val - 2 < 28 by omega), rest_peel (waitCr d (k, false)) (show t.val - 2 < 28 by omega)]
    simp only [WP, wp_bind]
    iintro ⟨#HR, #HL, HO, ⟨Ha, Hc, Hr⟩, ⟨Ha', Hc', Hr'⟩⟩ Hk
    iapply (credit_wait_run V.wire K d (k, true) (t.val - 2) (t.val - 2) (by omega) O (hO.mono (by omega)) _) $$ [Hc HO Ha]
    · isplitr; · iexact HR
      isplitr; · iexact HL
      isplitl [Hc]; · iexact Hc
      isplitl [HO] <;> iassumption
    iintro ⟨HO, Ha⟩
    iapply (credit_wait_run V.wire K d (k, false) (t.val - 2) (t.val - 2) (by omega) O (hO.mono (by omega)) _) $$ [Hc' HO Ha']
    · isplitr; · iexact HR
      isplitr; · iexact HL
      isplitl [Hc']; · iexact Hc'
      isplitl [HO] <;> iassumption
    iintro ⟨HO, Ha'⟩
    iapply Hk
    isplitl [HO]; · iexact HO
    isplitl [Ha Hr]
    · isplitl [Ha] <;> iassumption
    isplitl [Ha'] <;> iassumption
  · have ht : t.val < 2 := Nat.blt_eq.mp hb
    have e : t.val + 1 - 2 = 0 := by omega
    have e' : t.val - 2 = 0 := by omega
    simp only [cond_true, WP, Prog.pure_eq_ret, wp_ret, e, e']
    iintro ⟨-, -, HO, H1, H2⟩ Hk
    imodintro
    iapply Hk
    isplitl [HO]; · iexact HO
    isplitl [H1] <;> iassumption

theorem sendC_run (d : Dev nD) (k : Fin 4) (t : Fin 30) (cnt : Fin 4 → ℕ) (hc : cnt k = t.val) (O : CellTallies nD τ sig ℕ)
    (hO : Above (2 * t.val - 1) O) (Q : PUnit → sProp 𝕄) :
    iprop(records V.wire K ∗ levAts Lx lv ∗ outP d (V.st d cnt) ∗ ow d (O + owesMsg d k t.val)
        ∗ (ready d (k, true) t.val ∗ ready d (k, false) t.val) ∗ (crdSt d (k, true) (t.val - 2) ∗ crdSt d (k, false) (t.val - 2)))
      ⊢ iprop((outP d (V.st d cnt) ∗ ow d O ∗ (flight d (k, true) t.val ∗ flight d (k, false) t.val)
            ∗ (crdSt d (k, true) (t.val + 1 - 2) ∗ crdSt d (k, false) (t.val + 1 - 2)) -∗ Q ⟨⟩)
        -∗ WP d (sendC d outM k (chain k) t) Q) := by
  have ht := t.isLt
  unfold sendC
  simp only [WP, wp_bind]
  unfold ready flight door
  simp only [if_pos ht]
  rw [rest_peel (sendTok d (k, true)) ht, rest_peel (sendTok d (k, false)) ht]
  iintro ⟨#HR, #HL, Ho, HO, ⟨⟨Hat, Hs, Hs1, Hr1, Hd, ⟨Htok, Hts⟩, Hrc⟩, ⟨Hat', Hs', Hs1', Hr1', Hd', ⟨Htok', Hts'⟩, Hrc'⟩⟩, Hcr, Hcr'⟩ Hk
  iapply (credits_run V K d k t (O + owesMsg d k t.val) (hO.add (above_msg d k ht (by omega))) _) $$ [HO Hcr Hcr']
  · isplitr; · iexact HR
    isplitr; · iexact HL
    isplitl [HO]; · iexact HO
    isplitl [Hcr] <;> iassumption
  iintro ⟨HO, Hcr, Hcr'⟩
  iapply (stage_run d _ (topOff_inb (sr_lt d t) k) (lane (k, true)) (par t.val) (V.st d cnt) _) $$ [Ho Hs]
  · isplitl [Ho] <;> iassumption
  iintro ⟨Ho, Hs⟩
  iapply (stage_run d _ (botOff_inb (sl_lt d t) k) (lane (k, false)) (par t.val) (V.st d cnt) _) $$ [Ho Hs']
  · isplitl [Ho] <;> iassumption
  iintro ⟨Ho, Hs'⟩
  rw [V.sendR d cnt k t hc, V.sendL d cnt k t hc]
  unfold cellsAt
  icases Hat with ⟨Ha1, Ha2, Ha3, Ha4⟩
  icases Hat' with ⟨Ha1', Ha2', Ha3', Ha4'⟩
  ihave Hx := (reached_half_zero d snd (k, true) t.val) $$ Ha1
  icases Hx with ⟨Ha1, #Hsr⟩
  ihave Hx := (reached_half_zero d snd (k, false) t.val) $$ Ha1'
  icases Hx with ⟨Ha1', #Hsr'⟩
  ihave Hx := (reached_half_zero d rcv (k, true) (t.val + 1)) $$ Ha4
  icases Hx with ⟨Ha4, #Hrr⟩
  ihave Hx := (reached_half_zero d rcv (k, false) (t.val + 1)) $$ Ha4'
  icases Hx with ⟨Ha4', #Hrr'⟩
  ihave Hx := (give_slot d (k, true) t.val) $$ [Hr1]
  · isplitl [Hr1]; · iexact Hr1
    iexact Hrr
  icases Hx with ⟨Hg, Hh⟩
  ihave Hx := (give_slot d (k, false) t.val) $$ [Hr1']
  · isplitl [Hr1']; · iexact Hr1'
    iexact Hrr'
  icases Hx with ⟨Hg', Hh'⟩
  unfold owesMsg
  rw [← add_assoc]
  iapply (start_run V.wire K d (k, true) t.val ht (O + tallyAt (cell (fwd false d) (rcv (k, false) (par t.val))) t.val N) _) $$ [Hs Hd Hg' HO Htok]
  · isplitr; · iexact HR
    isplitl [Hs]; · iexact Hs
    isplitl [Hd]; · iexact Hd
    isplitl [Hg']; · iexact Hg'
    isplitl [HO]; · iexact HO
    isplitl [Htok]; · iexact Htok
    iexact Hsr
  iintro ⟨Hl, HO⟩
  iapply (start_run V.wire K d (k, false) t.val ht O _) $$ [Hs' Hd' Hg HO Htok']
  · isplitr; · iexact HR
    isplitl [Hs']; · iexact Hs'
    isplitl [Hd']; · iexact Hd'
    isplitl [Hg]; · iexact Hg
    isplitl [HO]; · iexact HO
    isplitl [Htok']; · iexact Htok'
    iexact Hsr'
  iintro ⟨Hl', HO⟩
  iapply Hk
  isplitl [Ho]; · iexact Ho
  isplitl [HO]; · iexact HO
  isplitr [Hcr Hcr']
  · isplitl [Ha1 Ha2 Ha3 Ha4 Hs1 Hh Hl Hts Hrc]
    · isplitl [Ha1 Ha2 Ha3 Ha4]
      · isplitl [Ha1]; · iexact Ha1
        isplitl [Ha2]; · iexact Ha2
        isplitl [Ha3] <;> iassumption
      isplitl [Hs1]; · iexact Hs1
      isplitl [Hh]; · iexact Hh
      isplitl [Hl]; · iexact Hl
      isplitl [Hts] <;> iassumption
    · isplitl [Ha1' Ha2' Ha3' Ha4']
      · isplitl [Ha1']; · iexact Ha1'
        isplitl [Ha2']; · iexact Ha2'
        isplitl [Ha3'] <;> iassumption
      isplitl [Hs1']; · iexact Hs1'
      isplitl [Hh']; · iexact Hh'
      isplitl [Hl']; · iexact Hl'
      isplitl [Hts'] <;> iassumption
  isplitl [Hcr] <;> iassumption

/-- A block taken up. -/
theorem takeB_run (d : Dev nD) (t : ℕ) (o o' : Fin 2 → Nat) (h : Inb o) (h' : Inb o') (L L' : Lane) (s : Fin 2) (f : Out F)
    (X Y : S128x512.Idx → Elt F .bf16) (Q : PUnit → sProp 𝕄) :
    iprop(outP d f ∗ owns (d : Thread nD τ) (slot L.rb s) fullShare X ∗ owns (d : Thread nD τ) (slot L'.rb s) fullShare Y)
      ⊢ iprop((outP d (takeB t (takeB t f o h X) o' h' Y) ∗ slotAny d L.rb s ∗ slotAny d L'.rb s -∗ Q ⟨⟩)
        -∗ WP d (bif Nat.blt t 15 then (do addOut outM o h L s; addOut outM o' h' L' s : PG F PUnit)
            else do setOut outM o h L s; setOut outM o' h' L' s) Q) := by
  unfold takeB slotAny
  cases Nat.blt t 15
  · simp only [cond_false, WP, wp_bind]
    iintro ⟨Ho, H, H'⟩ Hk
    iapply (setOut_run d o h L s f X _) $$ [Ho H]
    · isplitl [Ho] <;> iassumption
    iintro ⟨Ho, H⟩
    iapply (setOut_run d o' h' L' s _ Y _) $$ [Ho H']
    · isplitl [Ho] <;> iassumption
    iintro ⟨Ho, H'⟩
    iapply Hk
    isplitl [Ho]; · iexact Ho
    isplitl [H]
    · iexists X; iexact H
    iexists Y; iexact H'
  · simp only [cond_true, WP, wp_bind]
    iintro ⟨Ho, H, H'⟩ Hk
    iapply (addOut_run d o h L s f X _) $$ [Ho H]
    · isplitl [Ho] <;> iassumption
    iintro ⟨Ho, H⟩
    iapply (addOut_run d o' h' L' s _ Y _) $$ [Ho H']
    · isplitl [Ho] <;> iassumption
    iintro ⟨Ho, H'⟩
    iapply Hk
    isplitl [Ho]; · iexact Ho
    isplitl [H]
    · iexists X; iexact H
    iexists Y; iexact H'

/-- The activation of the two blocks, after message 14. -/
theorem actB_run (d : Dev nD) (t : ℕ) (o o' : Fin 2 → Nat) (h : Inb o) (h' : Inb o') (f : Out F) (Q : PUnit → sProp 𝕄) :
    outP d f
      ⊢ iprop((outP d (actB t (actB t f o h) o' h') -∗ Q ⟨⟩)
        -∗ WP d (bif Nat.beq t 14 then (do geluOut outM o h; geluOut outM o' h' : PG F PUnit) else pure ⟨⟩) Q) := by
  unfold actB
  cases Nat.beq t 14
  · simp only [cond_false, WP, Prog.pure_eq_ret, wp_ret]
    iintro Ho Hk
    imodintro
    iapply Hk; iexact Ho
  · simp only [cond_true, WP, wp_bind]
    iintro Ho Hk
    iapply (geluOut_run d o h f _) $$ Ho
    iintro Ho
    iapply (geluOut_run d o' h' _ _) $$ Ho
    iintro Ho
    iapply Hk; iexact Ho

/-- What a chain's credits of round `t` come to. -/
def owesPay (d : Dev nD) (k : Fin 4) (t : ℕ) : CellTallies nD τ sig ℕ := if t < 28 then owesCrd d k t else 0
theorem above_pay (d : Dev nD) (k : Fin 4) (t : ℕ) : Above (2 * t + 2) (owesPay d k t) := by
  unfold owesPay
  split
  · exact above_crd d k (by omega) (by omega)
  · exact above_zero _

/-- The credits paid after message `t`, while a message is to come that needs them. -/
theorem pay_run (d : Dev nD) (k : Fin 4) (t : ℕ) (O : CellTallies nD τ sig ℕ) (Q : PUnit → sProp 𝕄) :
    iprop(records V.wire K ∗ ow d (O + owesPay d k t) ∗ (rest (payTok d (k, true)) t 28 ∗ rest (payTok d (k, false)) t 28))
      ⊢ iprop((ow d O ∗ (rest (payTok d (k, true)) (t + 1) 28 ∗ rest (payTok d (k, false)) (t + 1) 28) -∗ Q ⟨⟩)
        -∗ WP d (bif Nat.blt t 28 then (do
            semSignalWord (leftD d) (chain k).r.cr.sem 1#32
            semSignalWord (rightD d) (chain k).l.cr.sem 1#32 : PG F PUnit) else pure ⟨⟩) Q) := by
  unfold owesPay
  cases hb : Nat.blt t 28
  · have ht : 28 ≤ t := Nat.le_of_not_lt fun h => by rw [Nat.blt_eq.mpr h] at hb; cases hb
    rw [if_neg (by omega), add_zero, rest_over (payTok d (k, true)) (b := t + 1) ht (by omega), rest_over (payTok d (k, false)) (b := t + 1) ht (by omega)]
    simp only [cond_false, WP, Prog.pure_eq_ret, wp_ret]
    iintro ⟨-, H⟩ Hk
    imodintro
    iapply Hk; iexact H
  · have ht : t < 28 := Nat.blt_eq.mp hb
    rw [if_pos ht, rest_peel (payTok d (k, true)) ht, rest_peel (payTok d (k, false)) ht]
    simp only [cond_true, WP, wp_bind]
    unfold owesCrd
    rw [← add_assoc]
    iintro ⟨#HR, HO, ⟨Ht, Hr⟩, Ht', Hr'⟩ Hk
    iapply (credit_pay_run V.wire K d (k, true) t ht (O + tallyAt (cell (fwd true d) (crd (k, false))) t 1) _) $$ [HO Ht]
    · isplitr; · iexact HR
      isplitl [HO]; · iexact HO
      iexact Ht
    iintro HO
    iapply (credit_pay_run V.wire K d (k, false) t ht O _) $$ [HO Ht']
    · isplitr; · iexact HR
      isplitl [HO]; · iexact HO
      iexact Ht'
    iintro HO
    iapply Hk
    isplitl [HO]; · iexact HO
    isplitl [Hr] <;> iassumption

theorem takeC_run (d : Dev nD) (k : Fin 4) (t : Fin 30) (cnt : Fin 4 → ℕ) (hc : cnt k = t.val) (O : CellTallies nD τ sig ℕ)
    (hO : Above (2 * t.val + 2) O) (Q : PUnit → sProp 𝕄) :
    iprop(records V.wire K ∗ levAts Lx lv ∗ outP d (V.st d cnt) ∗ ow d (O + owesPay d k t.val)
        ∗ (flight d (k, true) t.val ∗ flight d (k, false) t.val) ∗ (rest (payTok d (k, true)) t.val 28 ∗ rest (payTok d (k, false)) t.val 28))
      ⊢ iprop((outP d (V.st d (Function.update cnt k (t.val + 1))) ∗ ow d O ∗ (ready d (k, true) (t.val + 1) ∗ ready d (k, false) (t.val + 1))
            ∗ (rest (payTok d (k, true)) (t.val + 1) 28 ∗ rest (payTok d (k, false)) (t.val + 1) 28) -∗ Q ⟨⟩)
        -∗ WP d (takeC d outM k (chain k) t) Q) := by
  have ht := t.isLt
  unfold takeC
  simp only [WP, wp_bind]
  unfold flight ready cellsAt
  rw [rest_peel (rcvCr d (k, true)) ht, rest_peel (rcvCr d (k, false)) ht, show par (t.val + 1 + 1) = par t.val from par_two t.val]
  iintro ⟨#HR, #HL, Ho, HO, ⟨⟨⟨Ha1, Ha2, Ha3, Ha4⟩, Hs, Hh, Hl, Hts, ⟨Hrc, Hrs⟩⟩, ⟨⟨Ha1', Ha2', Ha3', Ha4'⟩, Hs', Hh', Hl', Hts', ⟨Hrc', Hrs'⟩⟩⟩, Hpay⟩ Hk
  have hA := hO.add (above_pay d k t.val)
  iapply (waitLane_run V.wire K d (k, true) t.val ht (O + owesPay d k t.val) hA _) $$ [Hl Hrc HO Ha1 Ha3]
  · isplitr; · iexact HR
    isplitr; · iexact HL
    isplitl [Hl]; · iexact Hl
    isplitl [Hrc]; · iexact Hrc
    isplitl [HO]; · iexact HO
    isplitl [Ha1] <;> iassumption
  iintro ⟨HO, Ha1, Ha3, Hsl, Hx, Hb⟩
  iapply (waitLane_run V.wire K d (k, false) t.val ht (O + owesPay d k t.val) hA _) $$ [Hl' Hrc' HO Ha1' Ha3']
  · isplitr; · iexact HR
    isplitr; · iexact HL
    isplitl [Hl']; · iexact Hl'
    isplitl [Hrc']; · iexact Hrc'
    isplitl [HO]; · iexact HO
    isplitl [Ha1'] <;> iassumption
  iintro ⟨HO, Ha1', Ha3', Hsl', Hx', Hb'⟩
  iapply (takeB_run d t.val _ _ (topOff_inb (rr_lt d t) k) (botOff_inb (rl_lt d t) k) (lane (k, true)) (lane (k, false)) (par t.val)
    (V.st d cnt) _ _ _) $$ [Ho Hx Hx']
  · isplitl [Ho]; · iexact Ho
    isplitl [Hx] <;> iassumption
  iintro ⟨Ho, Hx, Hx'⟩
  iapply (actB_run d t.val _ _ (topOff_inb (gr_lt d) k) (botOff_inb (gl_lt d) k) _ _) $$ Ho
  iintro Ho
  iapply (pay_run V K d k t.val O _) $$ [HO Hpay]
  · isplitr; · iexact HR
    isplitl [HO] <;> iassumption
  iintro ⟨HO, Hpay⟩
  ihave Hd := (open_door d (k, true) t.val ht) $$ [Hh Hb']
  · isplitl [Hh]; · iexact Hh
    iexact Hb'
  ihave Hd' := (open_door d (k, false) t.val ht) $$ [Hh' Hb]
  · isplitl [Hh']; · iexact Hh'
    iexact Hb
  iapply Hk
  rw [← V.take d cnt k t hc]
  isplitl [Ho]; · unfold taken; iexact Ho
  isplitl [HO]; · iexact HO
  isplitr [Hpay]
  · isplitl [Ha1 Ha2 Ha3 Ha4 Hs Hsl Hx Hd Hts Hrs]
    · isplitl [Ha1 Ha2 Ha3 Ha4]
      · isplitl [Ha2]; · iexact Ha2
        isplitl [Ha1]; · iexact Ha1
        isplitl [Ha4] <;> iassumption
      isplitl [Hs]; · iexact Hs
      isplitl [Hsl]; · iexact Hsl
      isplitl [Hx]; · iexact Hx
      isplitl [Hd]; · iexact Hd
      isplitl [Hts] <;> iassumption
    · isplitl [Ha1' Ha2' Ha3' Ha4']
      · isplitl [Ha2']; · iexact Ha2'
        isplitl [Ha1']; · iexact Ha1'
        isplitl [Ha4'] <;> iassumption
      isplitl [Hs']; · iexact Hs'
      isplitl [Hsl']; · iexact Hsl'
      isplitl [Hx']; · iexact Hx'
      isplitl [Hd']; · iexact Hd'
      isplitl [Hts'] <;> iassumption
  iexact Hpay

/-! ## Rounds -/

/-- A chain with `t` messages taken up: message `t` under way, or everything done. -/
def chainAt (d : Dev nD) (k : Fin 4) (t : ℕ) : sProp 𝕄 :=
  iprop((if t < 30 then iprop((flight d (k, true) t ∗ flight d (k, false) t) ∗ (crdSt d (k, true) (t + 1 - 2) ∗ crdSt d (k, false) (t + 1 - 2)))
      else iprop((ready d (k, true) t ∗ ready d (k, false) t) ∗ (crdSt d (k, true) (t - 2) ∗ crdSt d (k, false) (t - 2))))
    ∗ (rest (payTok d (k, true)) t 28 ∗ rest (payTok d (k, false)) t 28))

theorem roundC_run (d : Dev nD) (k : Fin 4) (t : Fin 30) (cnt : Fin 4 → ℕ) (hc : cnt k = t.val) (O : CellTallies nD τ sig ℕ)
    (hO : Above (2 * t.val + 2) O) (Q : PUnit → sProp 𝕄) :
    iprop(records V.wire K ∗ levAts Lx lv ∗ outP d (V.st d cnt) ∗ ow d (O + owesRound d k t.val) ∗ chainAt d k t.val)
      ⊢ iprop((outP d (V.st d (Function.update cnt k (t.val + 1))) ∗ ow d O ∗ chainAt d k (t.val + 1) -∗ Q ⟨⟩)
        -∗ WP d (roundC d outM k (chain k) t) Q) := by
  have ht := t.isLt
  unfold roundC
  simp only [WP, wp_bind]
  unfold chainAt
  rw [if_pos ht]
  unfold owesRound
  rw [← add_assoc]
  iintro ⟨#HR, #HL, Ho, HO, ⟨Hf, Hc⟩, Hp⟩ Hk
  have hM : Above (2 * t.val + 2) (O + if t.val < 29 then owesMsg d k (t.val + 1) else 0) := by
    refine hO.add ?_
    split
    · exact above_msg d k (by omega) (by omega)
    · exact above_zero _
  iapply (takeC_run V K d k t cnt hc (O + if t.val < 29 then owesMsg d k (t.val + 1) else 0) hM _) $$ [Ho HO Hf Hp]
  · isplitr; · iexact HR
    isplitr; · iexact HL
    isplitl [Ho]; · iexact Ho
    isplitl [HO]; · unfold owesPay; iexact HO
    isplitl [Hf] <;> iassumption
  iintro ⟨Ho, HO, Hr, Hp⟩
  by_cases h : t.val + 1 < 30
  · rw [dif_pos h, if_pos h, if_pos (show t.val < 29 by omega)]
    iapply (sendC_run V K d k ⟨t.val + 1, h⟩ (Function.update cnt k (t.val + 1)) (Function.update_self ..) O (hO.mono (by show 2 * (t.val + 1) - 1 ≤ _; omega)) _)
      $$ [Ho HO Hr Hc]
    · isplitr; · iexact HR
      isplitr; · iexact HL
      isplitl [Ho]; · iexact Ho
      isplitl [HO]; · iexact HO
      isplitl [Hr]; · iexact Hr
      iexact Hc
    iintro ⟨Ho, HO, Hf, Hc⟩
    iapply Hk
    isplitl [Ho]; · iexact Ho
    isplitl [HO]; · iexact HO
    isplitr [Hp]
    · isplitl [Hf]; · iexact Hf
      iexact Hc
    iexact Hp
  · rw [dif_neg h, if_neg h, if_neg (show ¬ t.val < 29 by omega), add_zero]
    simp only [Prog.pure_eq_ret, wp_ret]
    imodintro
    iapply Hk
    isplitl [Ho]; · iexact Ho
    isplitl [HO]; · iexact HO
    isplitr [Hp]
    · isplitl [Hr]; · iexact Hr
      iexact Hc
    iexact Hp

def chainsAt (d : Dev nD) (t : ℕ) : sProp 𝕄 := iprop(chainAt d 0 t ∗ chainAt d 1 t ∗ chainAt d 2 t ∗ chainAt d 3 t)

theorem roundAll_run (d : Dev nD) (t : Fin 30) (O : CellTallies nD τ sig ℕ) (hO : Above (2 * t.val + 2) O) (Q : PUnit → sProp 𝕄) :
    iprop(records V.wire K ∗ levAts Lx lv ∗ outP d (V.st d fun _ => t.val)
        ∗ ow d (O + owesRound d 3 t.val + owesRound d 2 t.val + owesRound d 1 t.val + owesRound d 0 t.val) ∗ chainsAt d t.val)
      ⊢ iprop((outP d (V.st d fun _ => t.val + 1) ∗ ow d O ∗ chainsAt d (t.val + 1) -∗ Q ⟨⟩)
        -∗ WP d (roundAll d outM chain t) Q) := by
  unfold roundAll chainsAt
  simp only [WP, wp_bind]
  have hr := fun k => above_round d k t.val
  iintro ⟨#HR, #HL, Ho, HO, H0, H1, H2, H3⟩ Hk
  iapply (roundC_run V K d 0 t (fun _ => t.val) rfl _ (((hO.add (hr 3)).add (hr 2)).add (hr 1)) _) $$ [Ho HO H0]
  · isplitr; · iexact HR
    isplitr; · iexact HL
    isplitl [Ho]; · iexact Ho
    isplitl [HO] <;> iassumption
  iintro ⟨Ho, HO, H0⟩
  iapply (roundC_run V K d 1 t (Function.update (fun _ : Fin 4 => t.val) 0 (t.val + 1)) (by rfl) _ ((hO.add (hr 3)).add (hr 2)) _) $$ [Ho HO H1]
  · isplitr; · iexact HR
    isplitr; · iexact HL
    isplitl [Ho]; · iexact Ho
    isplitl [HO] <;> iassumption
  iintro ⟨Ho, HO, H1⟩
  iapply (roundC_run V K d 2 t (Function.update (Function.update (fun _ : Fin 4 => t.val) 0 (t.val + 1)) 1 (t.val + 1)) (by rfl) _ (hO.add (hr 3)) _) $$ [Ho HO H2]
  · isplitr; · iexact HR
    isplitr; · iexact HL
    isplitl [Ho]; · iexact Ho
    isplitl [HO] <;> iassumption
  iintro ⟨Ho, HO, H2⟩
  iapply (roundC_run V K d 3 t (Function.update (Function.update (Function.update (fun _ : Fin 4 => t.val) 0 (t.val + 1)) 1 (t.val + 1)) 2 (t.val + 1)) (by rfl) _ hO _) $$ [Ho HO H3]
  · isplitr; · iexact HR
    isplitr; · iexact HL
    isplitl [Ho]; · iexact Ho
    isplitl [HO] <;> iassumption
  iintro ⟨Ho, HO, H3⟩
  iapply Hk
  have e : Function.update (Function.update (Function.update (Function.update (fun _ : Fin 4 => t.val) 0 (t.val + 1)) 1 (t.val + 1)) 2 (t.val + 1)) 3 (t.val + 1)
      = fun _ => t.val + 1 := by funext k; fin_cases k <;> rfl
  rw [e]
  isplitl [Ho]; · iexact Ho
  isplitl [HO]; · iexact HO
  isplitl [H0]; · iexact H0
  isplitl [H1]; · iexact H1
  isplitl [H2] <;> iassumption

theorem rounds_run (d : Dev nD) (n t : ℕ) (hn : t + n = 30) (Q : PUnit → sProp 𝕄) :
    iprop(records V.wire K ∗ levAts Lx lv ∗ outP d (V.st d fun _ => t) ∗ ow d (owesRounds d n t) ∗ chainsAt d t)
      ⊢ iprop((outP d (V.st d fun _ => 30) ∗ ow d 0 ∗ chainsAt d 30 -∗ Q ⟨⟩) -∗ WP d (rounds d outM chain n t) Q) := by
  induction n generalizing t with
  | zero =>
    obtain rfl : t = 30 := hn
    unfold rounds
    simp only [WP, Prog.pure_eq_ret, wp_ret]
    iintro ⟨-, -, H⟩ Hk
    imodintro
    iapply Hk; iexact H
  | succ n ih =>
    have ht : t < 30 := by omega
    unfold rounds
    rw [dif_pos ht]
    simp only [WP, wp_bind]
    unfold owesRounds
    iintro ⟨#HR, #HL, Ho, HO, Hc⟩ Hk
    iapply (roundAll_run V K d ⟨t, ht⟩ (owesRounds d n (t + 1)) ((above_rounds d n (t + 1)).mono (by show 2 * t + 2 ≤ _; omega)) _) $$ [Ho HO Hc]
    · isplitr; · iexact HR
      isplitr; · iexact HL
      isplitl [Ho]; · iexact Ho
      isplitl [HO] <;> iassumption
    iintro ⟨Ho, HO, Hc⟩
    iapply (ih (t + 1) (by omega)) $$ [Ho HO Hc]
    · isplitr; · iexact HR
      isplitr; · iexact HL
      isplitl [Ho]; · iexact Ho
      isplitl [HO] <;> iassumption
    iexact Hk

end Cert.KernelIdeal.Ring

end
-- ==== Proof.KernelIdeal.Body.lean ====
module

public import proofs.«01_k».proof.Proof.KernelIdeal.Rounds

@[expose] public section

noncomputable section

/-! # The body, from a device's share of the launch to all its cells closed -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## A buffer is its two slots -/

abbrev slotR (s : Fin 2) : Rect S2x128x512 := Rect.unit (s := S2x128x512) ![s.val, 0, 0] S1x128x512.size (slot_inb s)

theorem mem_slotR (s : Fin 2) (i : S2x128x512.Idx) : i ∈ (slotR s).set ↔ (i 0).val = s.val := by
  rw [Rect.mem_set_unit]
  have h1 : (i 1).val < 128 := (i 1).isLt
  have h2 : (i 2).val < 512 := (i 2).isLt
  constructor
  · intro h
    have h0 : s.val ≤ (i 0).val ∧ (i 0).val < s.val + 1 := h 0
    omega
  · intro h a
    fin_cases a
    · show s.val ≤ (i 0).val ∧ (i 0).val < s.val + 1
      omega
    · show 0 ≤ (i 1).val ∧ (i 1).val < 0 + 128
      omega
    · show 0 ≤ (i 2).val ∧ (i 2).val < 0 + 512
      omega

/-- Slot `s` of a buffer, as elements of the buffer. -/
def part (m : Memref sig .tc .vmem S2x128x512 .bf16) (s : Fin 2) : Finset m.view.ty.Idx := (slotR s).set.map m.view.emb

theorem slot_pts' (d : Dev nD) (m : Memref sig .tc .vmem S2x128x512 .bf16) (s : Fin 2) (f : Buf (Elt F) (m.view.loc (d : Thread nD τ))) :
    ((slot m s).view.loc (d : Thread nD τ) ↦[(slot m s).view.set]{fullShare} f : sProp 𝕄) = (m.view.loc (d : Thread nD τ) ↦[part m s]{fullShare} f) := by
  rw [slot_set, View.set_slice]; rfl

theorem slotAny_intro (d : Dev nD) (m : Memref sig .tc .vmem S2x128x512 .bf16) (s : Fin 2) (f : Buf (Elt F) (m.view.loc (d : Thread nD τ))) :
    (m.view.loc (d : Thread nD τ) ↦[part m s]{fullShare} f) ⊢ (slotAny d m s : sProp 𝕄) := by
  rw [← slot_pts' d m s f]
  unfold slotAny
  iintro H
  iexists _; iapply (owns_intro (d : Thread nD τ) (slot m s) fullShare f); iexact H

theorem slotAny_elim (d : Dev nD) (m : Memref sig .tc .vmem S2x128x512 .bf16) (s : Fin 2) :
    (slotAny d m s : sProp 𝕄) ⊢ iprop(∃ f : Buf (Elt F) (m.view.loc (d : Thread nD τ)), m.view.loc (d : Thread nD τ) ↦[part m s]{fullShare} f) := by
  unfold slotAny owns
  iintro ⟨%X, %f, -, H⟩
  iexists f
  iapply (Entails.of_eq (slot_pts' d m s f)); iexact H

theorem parts_disjoint (m : Memref sig .tc .vmem S2x128x512 .bf16) : Disjoint (part m 0) (part m 1) := by
  unfold part
  rw [Finset.disjoint_map, Finset.disjoint_left]
  intro i h0 h1
  have h0 := (mem_slotR 0 i).mp h0
  have h1 := (mem_slotR 1 i).mp h1
  rw [h0] at h1; exact absurd h1 (by decide)

theorem parts_union (m : Memref sig .tc .vmem S2x128x512 .bf16) : m.view.set = part m 0 ∪ part m 1 := by
  have h : (Finset.univ : Finset S2x128x512.Idx) = (slotR 0).set ∪ (slotR 1).set := by
    ext i
    have hi : (i 0).val < 2 := (i 0).isLt
    simp only [Finset.mem_univ, Finset.mem_union, mem_slotR, true_iff]
    show (i 0).val = 0 ∨ (i 0).val = 1
    omega
  unfold part
  rw [← Finset.map_union, ← h]; rfl

/-- A buffer of two slots, at some contents. -/
def bufAny (d : Dev nD) (m : Memref sig .tc .vmem S2x128x512 .bf16) : sProp 𝕄 := iprop(slotAny d m 0 ∗ slotAny d m 1)

theorem bufAny_intro (d : Dev nD) (m : Memref sig .tc .vmem S2x128x512 .bf16) :
    iprop(∃ f : Buf (Elt F) (m.view.loc (d : Thread nD τ)), (m.view.loc (d : Thread nD τ)) ↦[m.view.set]{fullShare} f) ⊢ (bufAny d m : sProp 𝕄) := by
  unfold bufAny
  rw [parts_union]
  iintro ⟨%f, H⟩
  ihave H := (pointsTo_union (ℓ := m.view.loc (d : Thread nD τ)) (q := fullShare) (f := f) (parts_disjoint m)).1 $$ H
  icases H with ⟨H0, H1⟩
  isplitl [H0]
  · iapply (slotAny_intro d m 0 f); iexact H0
  · iapply (slotAny_intro d m 1 f); iexact H1

theorem bufAny_elim (d : Dev nD) (m : Memref sig .tc .vmem S2x128x512 .bf16) :
    (bufAny d m : sProp 𝕄) ⊢ iprop(∃ f : Buf (Elt F) (m.view.loc (d : Thread nD τ)), (m.view.loc (d : Thread nD τ)) ↦[m.view.set]{fullShare} f) := by
  unfold bufAny
  rw [parts_union]
  iintro ⟨H0, H1⟩
  ihave H0 := (slotAny_elim d m 0) $$ H0
  ihave H1 := (slotAny_elim d m 1) $$ H1
  icases H0 with ⟨%f, H0⟩
  icases H1 with ⟨%g, H1⟩
  iexists ((part m 1).piecewise g f)
  iapply (pointsTo_join (ℓ := m.view.loc (d : Thread nD τ)) (q := fullShare) (f := f) (g := g) (parts_disjoint m))
  isplitl [H0]; · iexact H0
  iexact H1

/-! ## A lane's start and end -/

def laneStart (d : Dev nD) (l : LI) : sProp 𝕄 :=
  iprop((atPos ER (cell d (snd l 0)) 0 ∅ 0 ∗ atPos ER (cell d (snd l 1)) 0 ∅ 0 ∗ atPos ER (cell d (rcv l 0)) 0 ∅ 0 ∗ atPos ER (cell d (rcv l 1)) 0 ∅ 0
      ∗ atPos ER (cell d (crd l)) 0 ∅ 0)
    ∗ (rest (sendTok d l) 0 30 ∗ rest (payTok d l) 0 28) ∗ (rest (rcvCr d l) 0 30 ∗ rest (waitCr d l) 0 28)
    ∗ bufAny d (lane l).sb ∗ bufAny d (lane l).rb)
def laneEnd (d : Dev nD) (l : LI) : sProp 𝕄 :=
  iprop((semVal (cell d (snd l 0)) 0 ∗ semVal (cell d (snd l 1)) 0 ∗ semVal (cell d (rcv l 0)) 0 ∗ semVal (cell d (rcv l 1)) 0
      ∗ semVal (cell d (crd l)) 0)
    ∗ bufAny d (lane l).sb ∗ bufAny d (lane l).rb)
/-- A lane at its start, its first receive slot given up and the neighbour's to come. -/
def laneOpen (d : Dev nD) (l : LI) : sProp 𝕄 :=
  iprop((pass l (fwd l.2 d) 0 -∗ ready d l 0) ∗ crdSt d l 0 ∗ rest (payTok d l) 0 28)

variable (V : Vals F) (K : Dev nD × Cell → ℕ)

theorem lane_begin (d : Dev nD) (l : LI) :
    iprop(records V.wire K ∗ laneStart d l) ⊢ (iprop(laneOpen d l ∗ pass l d 0) : sProp 𝕄) := by
  unfold laneStart laneOpen ready cellsAt atMsg crdSt credAt bufAny door
  rw [if_pos (show (0 : ℕ) < 30 by decide)]
  iintro ⟨#HR, ⟨Ha1, Ha2, Ha3, Ha4, Ha5⟩, ⟨Hts, Hps⟩, ⟨Hrs, Hws⟩, ⟨Hs0, Hs1⟩, ⟨Hr0, Hr1⟩⟩
  isplitr [Hr0]
  · isplitr [Ha5 Hps Hws]
    · iintro Hp
      isplitl [Ha1 Ha2 Ha3 Ha4]
      · isplitl [Ha1]
        · isplitl [Ha1]; · iexact Ha1
          iapply (records_reached V.wire K d (snd l 0)); iexact HR
        isplitl [Ha2]
        · isplitl [Ha2]; · iexact Ha2
          iapply (records_reached V.wire K d (snd l 1)); iexact HR
        isplitl [Ha3]
        · isplitl [Ha3]; · iexact Ha3
          iapply (records_reached V.wire K d (rcv l 0)); iexact HR
        isplitl [Ha4]; · iexact Ha4
        iapply (records_reached V.wire K d (rcv l 1)); iexact HR
      isplitl [Hs0]; · iexact Hs0
      isplitl [Hs1]; · iexact Hs1
      isplitl [Hr1]; · iexact Hr1
      isplitl [Hp]; · iexact Hp
      isplitl [Hts] <;> iassumption
    isplitr [Hps]
    · isplitl [Ha5]
      · iexists ∅
        isplitr; · ipureintro; decide
        iexact Ha5
      iexact Hws
    iexact Hps
  unfold pass
  isplitl [Hr0]; · iexact Hr0
  iapply (records_reached V.wire K d (rcv l 0)); iexact HR

theorem close_at (d : Dev nD) (κ : Cell) (R : ℕ) (hR : ∀ r, R ≤ r → (rd V.wire).duties (cell d κ) r = ∅) :
    iprop(records V.wire K ∗ atPos ER (cell d κ) R ∅ 0) ⊢ (iprop(|={Set.univ}=> semVal (cell d κ) 0) : sProp 𝕄) := by
  iintro ⟨#HR, H⟩
  iapply (Rounds.cell_close ER (rd V.wire) (Set.mem_univ (K (d, κ))) (fun h => h) (R := R) hR)
  isplitr; · iapply (records_inv V.wire K d κ); iexact HR
  iexact H

theorem lane_end (d : Dev nD) (l : LI) :
    iprop(records V.wire K ∗ ready d l 30 ∗ crdSt d l 28) ⊢ (iprop(|={Set.univ}=> laneEnd d l) : sProp 𝕄) := by
  unfold laneEnd ready cellsAt atMsg crdSt credAt bufAny door
  rw [if_neg (show ¬ (30 : ℕ) < 30 by decide)]
  iintro ⟨#HR, ⟨⟨⟨Ha1, -⟩, ⟨Ha2, -⟩, ⟨Ha3, -⟩, ⟨Ha4, -⟩⟩, Hs0, Hs1, Hr1, Hr0, -, -⟩, ⟨⟨%T, %hT, Ha5⟩, -⟩⟩
  imod (close_at V K d (snd l 0) 15 fun r h => duties_snd' V.wire d l 0 r h) $$ [Ha1] with Hz1
  · isplitr; · iexact HR
    iexact Ha1
  imod (close_at V K d (snd l 1) 15 fun r h => duties_snd' V.wire d l 1 r h) $$ [Ha2] with Hz2
  · isplitr; · iexact HR
    iexact Ha2
  imod (close_at V K d (rcv l 0) 15 fun r h => duties_rcv' V.wire d l 0 r h) $$ [Ha3] with Hz3
  · isplitr; · iexact HR
    iexact Ha3
  imod (close_at V K d (rcv l 1) 15 fun r h => duties_rcv' V.wire d l 1 r h) $$ [Ha4] with Hz4
  · isplitr; · iexact HR
    iexact Ha4
  have hsub : Finset.range 28 ⊆ T := by
    have h0 : (Finset.range 28 \ T).card = 0 := by omega
    exact Finset.sdiff_eq_empty_iff_subset.mp (Finset.card_eq_zero.mp h0)
  imod (Rounds.fupd_skip ER (rd V.wire) (κ := K (d, crd l)) (g := cell d (crd l)) (R := 0) (m := 28) (T := T)
    (by rw [duties_crd]; exact hsub) (expect_crd V.wire d l).symm (Set.mem_univ _)) $$ [Ha5] with ⟨Ha5, -⟩
  · isplitr; · iapply (records_inv V.wire K d (crd l)); iexact HR
    iexact Ha5
  imod (close_at V K d (crd l) 1 fun r h => duties_crd' V.wire d l r (by omega)) $$ [Ha5] with Hz5
  · isplitr; · iexact HR
    iexact Ha5
  imodintro
  isplitl [Hz1 Hz2 Hz3 Hz4 Hz5]
  · isplitl [Hz1]; · iexact Hz1
    isplitl [Hz2]; · iexact Hz2
    isplitl [Hz3]; · iexact Hz3
    isplitl [Hz4] <;> iassumption
  isplitl [Hs0 Hs1]
  · isplitl [Hs0]; · iexact Hs0
    iexact Hs1
  isplitl [Hr0]; · iexact Hr0
  iexact Hr1

/-! ## Meeting the neighbours -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem signal_bar_run (d : Dev nD) (b : Bool) (i : ℕ) (hi : i ∈ ({0, 1} : Finset ℕ)) (hb : decide (i = 0) = b) (O : CellTallies nD τ sig ℕ) (Q : PUnit → sProp 𝕄) :
    iprop(records V.wire K ∗ ow d (O + tallyAt (cell (fwd (!b) d) bar) 0 1) ∗ dutyTok ER (cell (fwd (!b) d) bar) 0 i
        ∗ bigSep Finset.univ (fun k : Fin 4 => pass (k, b) d 0))
      ⊢ iprop((ow d O -∗ Q ⟨⟩) -∗ WP d (semSignalWord (fwd (!b) d) barS 1#32) Q) := by
  unfold WP ow
  simp only [semSignalWord]
  iintro ⟨#HR, ⟨%W, HO⟩, Ht, Hp⟩ Hk
  iapply (Rounds.wp_signal 𝒱₀ ER (rd V.wire) (d : Thread nD τ) none (dst := ((fwd (!b) d : Dev nD) : Thread nD τ)) (sem := barS)
      (κ := K (fwd (!b) d, bar)) (d := i) (r := 0)
      (by rw [show ((((fwd (!b) d : Dev nD) : Thread nD τ), SemLoc.reg barS) : GSem nD τ sig) = cell (fwd (!b) d) bar from rfl,
            duties_bar]; exact hi)
      ((amount_bar V.wire (fwd (!b) d) 0 i).trans (by decide)) 0 O rfl) $$ [HO Ht Hp]
  · isplitr; · iapply (records_inv V.wire K (fwd (!b) d) bar); iexact HR
    isplitl [HO]; · iexact HO
    isplitl [Ht]; · iexact Ht
    isplitl [Hp]
    · rw [show (rd V.wire).payload (((fwd (!b) d : Dev nD) : Thread nD τ), SemLoc.reg barS) 0 i = met (decide (i = 0)) (fwd (!b) d) from payload_bar V.wire _ 0 i,
        hb]
      unfold met; rw [fwd_back]; iexact Hp
    iapply (records_reached V.wire K (fwd (!b) d) bar); iexact HR
  iintro HO
  rw [wp_ret]; imodintro
  iapply Hk; iexists W; iexact HO

/-- What the two neighbours' signals bring. -/
theorem bar_pays (d : Dev nD) :
    bigSep ((rd V.wire).duties ((d : Thread nD τ), csem bar) 0 \ ∅) (fun i => (rd V.wire).payload ((d : Thread nD τ), csem bar) 0 i)
      = (iprop(bigSep Finset.univ (fun k : Fin 4 => pass (k, true) (fwd true d) 0) ∗ bigSep Finset.univ (fun k : Fin 4 => pass (k, false) (fwd false d) 0)) : sProp 𝕄) := by
  rw [Finset.sdiff_empty, show (rd V.wire).duties ((d : Thread nD τ), csem bar) 0 = {0, 1} from duties_bar V.wire d,
    bigSep_insert (by decide), bigSep_singleton,
    show (rd V.wire).payload ((d : Thread nD τ), csem bar) 0 0 = met true d from payload_bar V.wire d 0 0,
    show (rd V.wire).payload ((d : Thread nD τ), csem bar) 0 1 = met false d from payload_bar V.wire d 0 1]
  rfl

theorem meet_run (d : Dev nD) (O : CellTallies nD τ sig ℕ) (hO : Above 1 O) (Q : PUnit → sProp 𝕄) :
    iprop(records V.wire K ∗ levAts Lx lv ∗ ow d (O + owesBar d)
        ∗ (dutyTok ER (cell (leftD d) bar) 0 0 ∗ dutyTok ER (cell (rightD d) bar) 0 1 ∗ cred (tallyAt (cell d bar) 0 2) ∗ atPos ER (cell d bar) 0 ∅ 0)
        ∗ bigSep Finset.univ (fun k : Fin 4 => pass (k, true) d 0) ∗ bigSep Finset.univ (fun k : Fin 4 => pass (k, false) d 0))
      ⊢ iprop((ow d O ∗ atPos ER (cell d bar) 1 ∅ 0
            ∗ bigSep Finset.univ (fun k : Fin 4 => pass (k, true) (fwd true d) 0) ∗ bigSep Finset.univ (fun k : Fin 4 => pass (k, false) (fwd false d) 0) -∗ Q ⟨⟩)
        -∗ WP d (meet d) Q) := by
  unfold meet
  simp only [WP, wp_bind]
  unfold owesBar
  rw [← add_assoc]
  iintro ⟨#HR, #HL, HO, ⟨Ht, Ht', Hc, Ha⟩, Hp, Hp'⟩ Hk
  iapply (signal_bar_run V K d true 0 (by decide) rfl (O + tallyAt (cell (rightD d) bar) 0 1) _) $$ [HO Ht Hp]
  · isplitr; · iexact HR
    isplitl [HO]; · iexact HO
    isplitl [Ht]; · iexact Ht
    iexact Hp
  iintro HO
  iapply (signal_bar_run V K d false 1 (by decide) rfl O _) $$ [HO Ht' Hp']
  · isplitr; · iexact HR
    isplitl [HO]; · iexact HO
    isplitl [Ht']; · iexact Ht'
    iexact Hp'
  iintro HO
  unfold ow
  icases HO with ⟨%W, HO⟩
  simp only [semWaitWord]
  iapply (Rounds.wp_wait_rest_token 𝒱₀ ER (rd V.wire) (d : Thread nD τ) none (sm := csem bar) (κ := K (d, bar))
      (wpE_semWait_eq 𝒱₀ (d : Thread nD τ) none Set.univ) (Set.mem_univ _) 0 (O := O) (W := W) (R := 0) (m := 0) (T := ∅)
      (by rw [expect_bar]; decide)) $$ [Hc HO Ha]
  · isplitr; · iapply (records_inv V.wire K d bar); iexact HR
    isplitl [Hc]; · iexact Hc
    isplitl [HO]; · iexact HO
    isplitr; · iapply (mayWait d (csem bar) 0 (by omega) (by rw [lv_bar]; exact hO)); iexact HL
    iexact Ha
  iintro ⟨HO, Ha, -, Hm⟩
  ihave Hm := (Entails.of_eq (bar_pays V d)) $$ Hm
  icases Hm with ⟨Hm, Hm'⟩
  rw [wp_ret]; imodintro
  iapply Hk
  isplitl [HO]; · iexists _; iexact HO
  isplitl [Ha]; · iexact Ha
  isplitl [Hm]; · iexact Hm
  iexact Hm'

/-! ## The product -/

abbrev xM : Memref sig .tc .vmem S4096x256 .bf16 := Memref.whole cc0_stg0_0
abbrev wM : Memref sig .tc .vmem S256x2048 .bf16 := Memref.whole cc0_stg1_0
def xP (d : Dev nD) (x : FVec F S4096x256 .bf16) : sProp 𝕄 := (((d : Thread nD τ).loc cc0_stg0_0) ↦{fullShare} (x : Buf (Elt F) ((d : Thread nD τ).loc cc0_stg0_0)))
def wP (d : Dev nD) (w : FVec F S256x2048 .bf16) : sProp 𝕄 := (((d : Thread nD τ).loc cc0_stg1_0) ↦{fullShare} (w : Buf (Elt F) ((d : Thread nD τ).loc cc0_stg1_0)))
/-- A device's own product. -/
def prodV (x : FVec F S4096x256 .bf16) (w : FVec F S256x2048 .bf16) : Out F :=
  matmul dot_S4096x256_S256x2048_S4096x2048_1_0_0_1_n_n none x w (constant S4096x2048 .f32 0x00000000#32)

theorem zeros2 : (![0, 0] : Fin 2 → Nat) = fun _ => 0 := by decide

theorem product_run (d : Dev nD) (x : FVec F S4096x256 .bf16) (w : FVec F S256x2048 .bf16) (f : Out F) (Q : PUnit → sProp 𝕄) :
    iprop(xP d x ∗ wP d w ∗ outP d f)
      ⊢ iprop((xP d x ∗ wP d w ∗ outP d (prodV x w) -∗ Q ⟨⟩) -∗ WP d (product xM wM outM) Q) := by
  unfold product xP wP outP
  simp only [WP, Prog.lift, Prog.bind_op, Prog.bind_ret]
  iintro ⟨Hx, Hw, Ho⟩ Hk
  iapply (wp_load 𝒱₀ (d : Thread nD τ) none Set.univ (m := xM) (Finset.subset_univ _)) $$ Hx; iintro Hx
  iapply (wp_load 𝒱₀ (d : Thread nD τ) none Set.univ (m := wM) (Finset.subset_univ _)) $$ Hw; iintro Hw
  iapply (wp_load 𝒱₀ (d : Thread nD τ) none Set.univ (m := outM) (Finset.subset_univ _)) $$ Ho; iintro Ho
  iapply (wp_store 𝒱₀ (d : Thread nD τ) none Set.univ (m := outM)
    (r := Rect.unit (s := S4096x2048) ![0, 0] S4096x2048.size inb_S4096x2048_S4096x2048_0_0) (Mk := Finset.univ) (S := Finset.univ) (f := f)
    (Finset.subset_univ _)) $$ Ho; iintro Ho
  rw [wp_ret]; imodintro
  iapply Hk
  isplitl [Hx]; · iexact Hx
  isplitl [Hw]; · iexact Hw
  have e : (outM.access (Rect.unit (s := S4096x2048) ![0, 0] S4096x2048.size inb_S4096x2048_S4096x2048_0_0)).write (Elt F) f
      (matmul dot_S4096x256_S256x2048_S4096x2048_1_0_0_1_n_n none
        (shapeCast S4096x256 (xM.view.readAt (Elt F) (Rect.unit (s := S4096x256) ![0, 0] S4096x256.size inb_S4096x256_S4096x256_0_0).toLoadRect x) shapeCasts_S4096x256_S4096x256 : FVec F S4096x256 .bf16)
        (shapeCast S256x2048 (wM.view.readAt (Elt F) (Rect.unit (s := S256x2048) ![0, 0] S256x2048.size inb_S256x2048_S256x2048_0_0).toLoadRect w) shapeCasts_S256x2048_S256x2048 : FVec F S256x2048 .bf16)
        (constant S4096x2048 .f32 0x00000000#32) : FVec F S4096x2048 .f32) Finset.univ = prodV x w := by
    refine (Memref.write_access_unit_zero_univ (Elt F) cc0_stg2_0 zeros2 _ f _).trans ?_
    exact congrArg₂ (fun a b => matmul dot_S4096x256_S256x2048_S4096x2048_1_0_0_1_n_n none a b (constant S4096x2048 .f32 0x00000000#32))
      ((shapeCast_self _ _).trans (Memref.readAt_unit_zero (Elt F) cc0_stg0_0 zeros2 _ x))
      ((shapeCast_self _ _).trans (Memref.readAt_unit_zero (Elt F) cc0_stg1_0 zeros2 _ w))
  rw [← e]
  iexact Ho

/-! ## The body -/

/-- A device's share of the launch besides its windows. -/
def devStart (d : Dev nD) : sProp 𝕄 :=
  iprop((dutyTok ER (cell (leftD d) bar) 0 0 ∗ dutyTok ER (cell (rightD d) bar) 0 1 ∗ cred (tallyAt (cell d bar) 0 2) ∗ atPos ER (cell d bar) 0 ∅ 0)
    ∗ bigSep Finset.univ (fun k : Fin 4 => laneStart d (k, true)) ∗ bigSep Finset.univ (fun k : Fin 4 => laneStart d (k, false)))
def devEnd (d : Dev nD) : sProp 𝕄 :=
  iprop(semVal (cell d bar) 0
    ∗ bigSep Finset.univ (fun k : Fin 4 => laneEnd d (k, true)) ∗ bigSep Finset.univ (fun k : Fin 4 => laneEnd d (k, false)))

theorem bigSep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- All chains' lanes of one direction opened. -/
theorem lanes_begin (d : Dev nD) (b : Bool) :
    iprop(records V.wire K ∗ bigSep Finset.univ fun k : Fin 4 => laneStart d (k, b))
      ⊢ iprop((bigSep Finset.univ fun k : Fin 4 => laneOpen d (k, b)) ∗ bigSep Finset.univ fun k : Fin 4 => pass (k, b) d 0) := by
  rw [← bigSep_sep']
  exact bigSep_with fun k => lane_begin V K d (k, b)

/-- Both lanes of chain `k` before its first message. -/
theorem chain_ready (d : Dev nD) (k : Fin 4) :
    iprop((laneOpen d (k, true) ∗ pass (k, true) (fwd true d) 0) ∗ (laneOpen d (k, false) ∗ pass (k, false) (fwd false d) 0))
      ⊢ (iprop((ready d (k, true) 0 ∗ ready d (k, false) 0) ∗ (crdSt d (k, true) 0 ∗ crdSt d (k, false) 0)
          ∗ (rest (payTok d (k, true)) 0 28 ∗ rest (payTok d (k, false)) 0 28)) : sProp 𝕄) := by
  unfold laneOpen
  iintro ⟨⟨⟨H1, H2, H3⟩, Hp⟩, ⟨⟨H1', H2', H3'⟩, Hp'⟩⟩
  isplitl [H1 Hp H1' Hp']
  · isplitl [H1 Hp]
    · iapply H1; iexact Hp
    · iapply H1'; iexact Hp'
  isplitl [H2 H2']
  · isplitl [H2] <;> iassumption
  isplitl [H3] <;> iassumption

/-- The first message of a chain sent. -/
theorem first_run (d : Dev nD) (k : Fin 4) (O : CellTallies nD τ sig ℕ) (hO : Above 0 O) (Q : PUnit → sProp 𝕄) :
    iprop(records V.wire K ∗ levAts Lx lv ∗ outP d (V.st d fun _ => 0) ∗ ow d (O + owesMsg d k 0)
        ∗ ((laneOpen d (k, true) ∗ pass (k, true) (fwd true d) 0) ∗ (laneOpen d (k, false) ∗ pass (k, false) (fwd false d) 0)))
      ⊢ iprop((outP d (V.st d fun _ => 0) ∗ ow d O ∗ chainAt d k 0 -∗ Q ⟨⟩) -∗ WP d (sendC d outM k (chain k) 0) Q) := by
  iintro ⟨#HR, #HL, Ho, HO, H⟩ Hk
  ihave H := (chain_ready d k) $$ H
  icases H with ⟨Hr, Hc, Hp⟩
  iapply (sendC_run V K d k 0 (fun _ => 0) rfl O (hO.mono (by decide)) _) $$ [Ho HO Hr Hc]
  · isplitr; · iexact HR
    isplitr; · iexact HL
    isplitl [Ho]; · iexact Ho
    isplitl [HO]; · iexact HO
    isplitl [Hr]; · iexact Hr
    iexact Hc
  iintro ⟨Ho, HO, Hf, Hc⟩
  iapply Hk
  isplitl [Ho]; · iexact Ho
  isplitl [HO]; · iexact HO
  unfold chainAt
  rw [if_pos (show (0 : ℕ) < 30 by decide)]
  isplitr [Hp]
  · isplitl [Hf]; · iexact Hf
    iexact Hc
  iexact Hp

theorem chain_end (d : Dev nD) (k : Fin 4) :
    iprop(records V.wire K ∗ chainAt d k 30) ⊢ (iprop(|={Set.univ}=> (laneEnd d (k, true) ∗ laneEnd d (k, false))) : sProp 𝕄) := by
  unfold chainAt
  rw [if_neg (show ¬ (30 : ℕ) < 30 by decide)]
  iintro ⟨#HR, ⟨⟨Hr, Hr'⟩, Hc, Hc'⟩, -⟩
  imod (lane_end V K d (k, true)) $$ [Hr Hc] with H
  · isplitr; · iexact HR
    isplitl [Hr]; · iexact Hr
    iexact Hc
  imod (lane_end V K d (k, false)) $$ [Hr' Hc'] with H'
  · isplitr; · iexact HR
    isplitl [Hr']; · iexact Hr'
    iexact Hc'
  imodintro
  isplitl [H] <;> iassumption

/-- A device's cells when its program has ended. -/
def devDone (d : Dev nD) : sProp 𝕄 := iprop(atPos ER (cell d bar) 1 ∅ 0 ∗ chainAt d 0 30 ∗ chainAt d 1 30 ∗ chainAt d 2 30 ∗ chainAt d 3 30)

theorem body_run (d : Dev nD) (x : FVec F S4096x256 .bf16) (w : FVec F S256x2048 .bf16) (h0 : V.st d (fun _ => 0) = prodV x w) (Q : PUnit → sProp 𝕄) :
    iprop(records V.wire K ∗ levAts Lx lv ∗ ow d (owesAll d) ∗ devStart d ∗ xP d x ∗ wP d w ∗ (∃ f, outP d f))
      ⊢ iprop((ow d 0 ∗ devDone d ∗ xP d x ∗ wP d w ∗ outP d (V.st d fun _ => 30) -∗ Q ⟨⟩) -∗ WP d (body xM wM outM chain) Q) := by
  unfold body devStart owesAll
  simp only [WP, wp_bind]
  simp only [Prog.lift, wp_deviceId, wp_ret]
  iintro ⟨#HR, #HL, HO, ⟨Hb, Hs, Hs'⟩, Hx, Hw, ⟨%f, Ho⟩⟩ Hk
  imodintro
  ihave Hs := (lanes_begin V K d true) $$ [Hs]
  · isplitr; · iexact HR
    iexact Hs
  ihave Hs' := (lanes_begin V K d false) $$ [Hs']
  · isplitr; · iexact HR
    iexact Hs'
  icases Hs with ⟨Hs, Hp⟩
  icases Hs' with ⟨Hs', Hp'⟩
  iapply (meet_run V K d (owesMet d) (above_met d) _) $$ [HO Hb Hp Hp']
  · isplitr; · iexact HR
    isplitr; · iexact HL
    isplitl [HO]; · iexact HO
    isplitl [Hb]; · iexact Hb
    isplitl [Hp] <;> iassumption
  iintro ⟨HO, Ha, Hp, Hp'⟩
  iapply (product_run d x w f _) $$ [Hx Hw Ho]
  · isplitl [Hx]; · iexact Hx
    isplitl [Hw] <;> iassumption
  iintro ⟨Hx, Hw, Ho⟩
  rw [← h0]
  ihave Hs := (Entails.of_eq (bigSep_fin4 _)) $$ Hs
  ihave Hs' := (Entails.of_eq (bigSep_fin4 _)) $$ Hs'
  ihave Hp := (Entails.of_eq (bigSep_fin4 _)) $$ Hp
  ihave Hp' := (Entails.of_eq (bigSep_fin4 _)) $$ Hp'
  icases Hs with ⟨A0, A1, A2, A3⟩
  icases Hs' with ⟨B0, B1, B2, B3⟩
  icases Hp with ⟨P0, P1, P2, P3⟩
  icases Hp' with ⟨Q0, Q1, Q2, Q3⟩
  unfold owesMet
  have hA := (above_rounds d 30 0).mono (show 0 ≤ 2 * 0 + 2 by omega)
  have hm := fun k => above_msg (b := 0) d k (show 0 < 30 by omega) (by omega)
  iapply (first_run V K d 0 _ (((hA.add (hm 3)).add (hm 2)).add (hm 1)) _) $$ [HO Ho A0 B0 P0 Q0]
  · isplitr; · iexact HR
    isplitr; · iexact HL
    isplitl [Ho]; · iexact Ho
    isplitl [HO]; · iexact HO
    isplitl [A0 P0]
    · isplitl [A0] <;> iassumption
    isplitl [B0] <;> iassumption
  iintro ⟨Ho, HO, C0⟩
  iapply (first_run V K d 1 _ ((hA.add (hm 3)).add (hm 2)) _) $$ [HO Ho A1 B1 P1 Q1]
  · isplitr; · iexact HR
    isplitr; · iexact HL
    isplitl [Ho]; · iexact Ho
    isplitl [HO]; · iexact HO
    isplitl [A1 P1]
    · isplitl [A1] <;> iassumption
    isplitl [B1] <;> iassumption
  iintro ⟨Ho, HO, C1⟩
  iapply (first_run V K d 2 _ (hA.add (hm 3)) _) $$ [HO Ho A2 B2 P2 Q2]
  · isplitr; · iexact HR
    isplitr; · iexact HL
    isplitl [Ho]; · iexact Ho
    isplitl [HO]; · iexact HO
    isplitl [A2 P2]
    · isplitl [A2] <;> iassumption
    isplitl [B2] <;> iassumption
  iintro ⟨Ho, HO, C2⟩
  iapply (first_run V K d 3 _ hA _) $$ [HO Ho A3 B3 P3 Q3]
  · isplitr; · iexact HR
    isplitr; · iexact HL
    isplitl [Ho]; · iexact Ho
    isplitl [HO]; · iexact HO
    isplitl [A3 P3]
    · isplitl [A3] <;> iassumption
    isplitl [B3] <;> iassumption
  iintro ⟨Ho, HO, C3⟩
  iapply (rounds_run V K d 30 0 rfl _) $$ [Ho HO C0 C1 C2 C3]
  · isplitr; · iexact HR
    isplitr; · iexact HL
    isplitl [Ho]; · iexact Ho
    isplitl [HO]; · iexact HO
    unfold chainsAt
    isplitl [C0]; · iexact C0
    isplitl [C1]; · iexact C1
    isplitl [C2] <;> iassumption
  iintro ⟨Ho, HO, Hc⟩
  iapply Hk
  isplitl [HO]; · iexact HO
  isplitl [Ha Hc]
  · unfold chainsAt devDone
    icases Hc with ⟨C0, C1, C2, C3⟩
    isplitl [Ha]; · iexact Ha
    isplitl [C0]; · iexact C0
    isplitl [C1]; · iexact C1
    isplitl [C2] <;> iassumption
  isplitl [Hx]; · iexact Hx
  isplitl [Hw]; · iexact Hw
  iexact Ho

/-- They close. -/
theorem dev_close (d : Dev nD) : iprop(records V.wire K ∗ devDone d) ⊢ (iprop(|={Set.univ}=> devEnd d) : sProp 𝕄) := by
  unfold devDone devEnd
  rw [bigSep_fin4, bigSep_fin4]
  iintro ⟨#HR, Ha, C0, C1, C2, C3⟩
  imod (close_at V K d bar 1 fun r h => duties_bar' V.wire d r (by omega)) $$ [Ha] with Hz
  · isplitr; · iexact HR
    iexact Ha
  imod (chain_end V K d 0) $$ [C0] with ⟨A0, B0⟩
  · isplitr; · iexact HR
    iexact C0
  imod (chain_end V K d 1) $$ [C1] with ⟨A1, B1⟩
  · isplitr; · iexact HR
    iexact C1
  imod (chain_end V K d 2) $$ [C2] with ⟨A2, B2⟩
  · isplitr; · iexact HR
    iexact C2
  imod (chain_end V K d 3) $$ [C3] with ⟨A3, B3⟩
  · isplitr; · iexact HR
    iexact C3
  imodintro
  isplitl [Hz]; · iexact Hz
  isplitl [A0 A1 A2 A3]
  · isplitl [A0]; · iexact A0
    isplitl [A1]; · iexact A1
    isplitl [A2] <;> iassumption
  isplitl [B0]; · iexact B0
  isplitl [B1]; · iexact B1
  isplitl [B2] <;> iassumption

end Cert.KernelIdeal.Ring

end
-- ==== Proof.KernelIdeal.Deal.lean ====
module

public import proofs.«01_k».proof.Proof.KernelIdeal.Body

@[expose] public section

noncomputable section

/-! # The launch's tokens, credits and cells, dealt to the devices -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Conjunctions over lanes, cells and rounds -/

theorem bigSep_lanes (Φ : LI → sProp 𝕄) :
    bigSep Finset.univ Φ = iprop((bigSep Finset.univ fun k : Fin 4 => Φ (k, true)) ∗ bigSep Finset.univ fun k : Fin 4 => Φ (k, false)) := by
  rw [bigSep_univ_prod, ← bigSep_sep']
  exact bigSep_congr fun k _ => bigSep_univ_eq_bigSepL [true, false] (by decide) (by decide) _

/-- A lane's five cells. -/
def five (Ψ : Cell → sProp 𝕄) (l : LI) : sProp 𝕄 :=
  iprop(Ψ (snd l 0) ∗ Ψ (snd l 1) ∗ Ψ (rcv l 0) ∗ Ψ (rcv l 1) ∗ Ψ (crd l))

theorem bigSep_five (Ψ : Cell → sProp 𝕄) (l : LI) : bigSep Finset.univ (fun x => Ψ (some (l, x))) = five Ψ l :=
  bigSep_univ_eq_bigSepL ([Sum.inl 0, Sum.inl 1, Sum.inr (Sum.inl 0), Sum.inr (Sum.inl 1), Sum.inr (Sum.inr ())] : List (Fin 2 ⊕ Fin 2 ⊕ Unit)) (by decide) (by decide) _

theorem bigSep_own (Ψ : Cell → sProp 𝕄) : bigSep Finset.univ (fun x => Ψ (some x)) = bigSep Finset.univ (five Ψ) := by
  rw [bigSep_univ_prod]; exact bigSep_congr fun l _ => bigSep_five Ψ l

theorem bigSep_cells (Ψ : Cell → sProp 𝕄) : bigSep Finset.univ Ψ = iprop(Ψ bar ∗ bigSep Finset.univ (five Ψ)) := by
  have h : (Finset.univ : Finset Cell) = insert none (Finset.univ.map Function.Embedding.some) := by ext x; cases x <;> simp
  rw [← bigSep_own, h, bigSep_insert (by simp), bigSep_map]; rfl

theorem rest_fin (Φ : ℕ → sProp 𝕄) (n : ℕ) : bigSep (Finset.univ : Finset (Fin n)) (fun i => Φ i.val) = rest Φ 0 n := by
  unfold rest
  rw [show Finset.Ico 0 n = (Finset.univ : Finset (Fin n)).map Fin.valEmbedding by ext x; simp [Fin.exists_iff], bigSep_map]; rfl

theorem rest_sep (Φ Ψ : ℕ → sProp 𝕄) (a n : ℕ) : rest (fun i => iprop(Φ i ∗ Ψ i)) a n = iprop(rest Φ a n ∗ rest Ψ a n) := bigSep_sep' _ _ _

/-- Every lane's neighbour, as a permutation of (device, lane) pairs. -/
def spin : Dev nD × LI ≃ Dev nD × LI where
  toFun x := (fwd x.2.2 x.1, x.2)
  invFun x := (fwd (!x.2.2) x.1, x.2)
  left_inv x := by simp only [back_fwd]
  right_inv x := by simp only [fwd_back]

theorem bigSep_spin (f : Dev nD → LI → sProp 𝕄) :
    (bigSep Finset.univ fun c => bigSep Finset.univ fun l => f c l) = bigSep Finset.univ fun c => bigSep Finset.univ fun l : LI => f (fwd l.2 c) l := by
  rw [← bigSep_univ_prod (fun x : Dev nD × LI => f x.1 x.2), bigSep_univ_equiv spin, bigSep_univ_prod]; rfl
theorem bigSep_spin' (f : Dev nD → LI → sProp 𝕄) :
    (bigSep Finset.univ fun c => bigSep Finset.univ fun l => f c l) = bigSep Finset.univ fun c => bigSep Finset.univ fun l : LI => f (fwd (!l.2) c) l := by
  rw [← bigSep_univ_prod (fun x : Dev nD × LI => f x.1 x.2), bigSep_univ_equiv spin.symm, bigSep_univ_prod]; rfl

/-! ## Tokens -/

/-- The duties of a device's own cells: the barrier's two; per lane its messages', sent and received, and its credits'. -/
abbrev Duty : Type := Bool ⊕ LI × (Fin 30 ⊕ Fin 30 ⊕ Fin 28)
def dutyKey : Duty → Cell × ℕ × ℕ
  | .inl b => (bar, 0, cond b 0 1)
  | .inr (l, .inl t) => (snd l (par t), t.val / 2, 0)
  | .inr (l, .inr (.inl t)) => (rcv l (par t), t.val / 2, 0)
  | .inr (l, .inr (.inr j)) => (crd l, 0, j.val)

theorem par_half {t t' : Fin 30} (h : par t = par t') (h' : t.val / 2 = t'.val / 2) : t = t' := by
  have h1 : t.val % 2 = t'.val % 2 := congrArg Fin.val h
  exact Fin.ext (by omega)

theorem dutyKey_injective : Function.Injective dutyKey := by
  rintro (b | ⟨l, t | t | j⟩) (b' | ⟨l', t' | t' | j'⟩) h <;>
    simp only [dutyKey, Prod.mk.injEq, reduceCtorEq, false_and, Option.some.injEq, Sum.inl.injEq, Sum.inr.injEq, and_true, true_and, and_false] at h ⊢
  · revert h; cases b <;> cases b' <;> decide
  · exact ⟨h.1.1, par_half h.1.2 h.2⟩
  · exact ⟨h.1.1, par_half h.1.2 h.2⟩
  · exact ⟨h.1, Fin.ext h.2⟩

def tokOf (x : Dev nD × Duty) : GSem nD τ sig × ℕ × ℕ := (cell x.1 (dutyKey x.2).1, (dutyKey x.2).2.1, (dutyKey x.2).2.2)

theorem cell_injective {d d' : Dev nD} {κ κ' : Cell} (h : cell d κ = cell d' κ') : d = d' ∧ κ = κ' :=
  ⟨congrArg (fun g : GSem nD τ sig => g.1.1) h, csem_injective (congrArg Prod.snd h)⟩

theorem tokOf_injective : Function.Injective tokOf := by
  rintro ⟨d, x⟩ ⟨d', x'⟩ h
  obtain ⟨h1, h2⟩ := cell_injective (congrArg Prod.fst h)
  have h3 : dutyKey x = dutyKey x' := Prod.ext h2 (by have h4 := congrArg (fun y : GSem nD τ sig × ℕ × ℕ => y.2) h; exact h4)
  exact Prod.ext h1 (dutyKey_injective h3)

def ringToks : Finset (GSem nD τ sig × ℕ × ℕ) := Finset.univ.map ⟨tokOf, tokOf_injective⟩
def ringCells : Finset (GSem nD τ sig) :=
  Finset.univ.map ⟨fun x : Dev nD × Cell => cell x.1 x.2, fun x y h => Prod.ext (cell_injective h).1 (cell_injective h).2⟩

abbrev tok (d : Dev nD) (κ : Cell) (r i : ℕ) : sProp 𝕄 := dutyTok ER (cell d κ) r i

/-- The duty tokens of a device's own cells. -/
def toks (d : Dev nD) : sProp 𝕄 :=
  iprop((tok d bar 0 0 ∗ tok d bar 0 1)
    ∗ bigSep Finset.univ (fun l : LI => rest (fun t => tok d (snd l (par t)) (t / 2) 0) 0 30)
    ∗ bigSep Finset.univ (fun l : LI => rest (fun t => tok d (rcv l (par t)) (t / 2) 0) 0 30)
    ∗ bigSep Finset.univ (fun l : LI => rest (fun j => tok d (crd l) 0 j) 0 28))
/-- The tokens of the duties a device pays. -/
def payToks (d : Dev nD) : sProp 𝕄 :=
  iprop((tok (leftD d) bar 0 0 ∗ tok (rightD d) bar 0 1)
    ∗ bigSep Finset.univ (fun l : LI => iprop(rest (sendTok d l) 0 30 ∗ rest (payTok d l) 0 28)))

theorem toks_eq : bigSep ringToks (fun x => (dutyTok ER x.1 x.2.1 x.2.2 : sProp 𝕄)) = bigSep Finset.univ (fun d : Dev nD => toks d) := by
  unfold ringToks; rw [bigSep_map, bigSep_univ_prod]
  refine bigSep_congr fun d _ => ?_
  unfold toks
  rw [bigSep_univ_sum, ← bigSep_sep', ← bigSep_sep']
  refine congrArg₂ BI.sep ?_ ?_
  · exact bigSep_univ_eq_bigSepL [true, false] (by decide) (by decide) _
  · rw [bigSep_univ_prod]
    refine bigSep_congr fun l _ => ?_
    rw [bigSep_univ_sum, bigSep_univ_sum]
    exact congrArg₂ BI.sep (rest_fin (fun t => tok d (snd l (par t)) (t / 2) 0) 30)
      (congrArg₂ BI.sep (rest_fin (fun t => tok d (rcv l (par t)) (t / 2) 0) 30) (rest_fin (fun j => tok d (crd l) 0 j) 28))

/-- Every token goes to the device that pays its duty. -/
theorem toks_around : (bigSep Finset.univ fun d : Dev nD => (toks d : sProp 𝕄)) ⊢ bigSep Finset.univ fun d : Dev nD => payToks d := by
  unfold toks payToks sendTok payTok
  simp only [rest_sep, bigSep_sep']
  rw [bigSep_univ_equiv (turn false) (fun d : Dev nD => (tok d bar 0 0 : sProp 𝕄)),
    bigSep_univ_equiv (turn true) (fun d : Dev nD => (tok d bar 0 1 : sProp 𝕄)),
    bigSep_spin (fun d l => rest (fun t => tok d (rcv l (par t)) (t / 2) 0) 0 30),
    bigSep_spin' (fun d l => rest (fun j => tok d (crd l) 0 j) 0 28)]
  iintro ⟨⟨H1, H2⟩, H3, H4, H5⟩
  isplitl [H1 H2]
  · isplitl [H1]; · iexact H1
    iexact H2
  isplitl [H3 H4]
  · isplitl [H3]; · iexact H3
    iexact H4
  iexact H5

/-! ## Credits -/

def gotMsg (c : Dev nD) (k : Fin 4) (t : ℕ) : sProp 𝕄 := iprop(rcvCr c (k, false) t ∗ rcvCr c (k, true) t)
def gotCrd (c : Dev nD) (k : Fin 4) (j : ℕ) : sProp 𝕄 := iprop(waitCr c (k, false) j ∗ waitCr c (k, true) j)

theorem credit_one (b : Bool) (κ : Cell) (i n : ℕ) (c : Dev nD) :
    (Pipeline.launchCred (fun d => tallyAt (cell (fwd b d) κ) i n) c : sProp 𝕄) ⊢ cred (tallyAt (cell c κ) i n) :=
  Pipeline.launchCred_tallyAt (csem κ) (fwd b) (fwd (!b)) (fwd_back b) (back_fwd b) i n c

theorem credit_msg (k : Fin 4) (t : ℕ) (c : Dev nD) : (Pipeline.launchCred (fun d => owesMsg d k t) c : sProp 𝕄) ⊢ gotMsg c k t := by
  unfold owesMsg gotMsg
  rw [Pipeline.launchCred_add]
  exact BIClass.sep_mono (credit_one false _ t N c) (credit_one true _ t N c)
theorem credit_crd (k : Fin 4) (j : ℕ) (c : Dev nD) : (Pipeline.launchCred (fun d => owesCrd d k j) c : sProp 𝕄) ⊢ gotCrd c k j := by
  unfold owesCrd gotCrd
  rw [Pipeline.launchCred_add]
  exact BIClass.sep_mono (credit_one true _ j 1 c) (credit_one false _ j 1 c)

/-- One more of what is still to come. -/
theorem credit_step (O : Dev nD → ℕ → CellTallies nD τ sig ℕ) (Φ : ℕ → sProp 𝕄) (c : Dev nD) (a n s : ℕ)
    (h : ∀ t, (Pipeline.launchCred (fun d => O d t) c : sProp 𝕄) ⊢ Φ t) (hs : a < n → s = a) (p : Prop) [Decidable p] (hp : p ↔ a < n) :
    (iprop(Pipeline.launchCred (fun d => if p then O d s else 0) c ∗ rest Φ (a + 1) n) : sProp 𝕄) ⊢ rest Φ a n := by
  by_cases hpp : p
  · have ha := hp.mp hpp
    simp only [if_pos hpp]
    rw [rest_peel Φ ha, hs ha]
    exact BIClass.sep_mono (h a) .rfl
  · have ha : ¬ a < n := fun h => hpp (hp.mpr h)
    simp only [if_neg hpp]
    rw [rest_over Φ (a := a) (b := a + 1) (by omega) (by omega)]
    iintro ⟨-, H⟩; iexact H

/-- What the rounds from `t` on bring a chain. -/
def gotFrom (c : Dev nD) (t : ℕ) (k : Fin 4) : sProp 𝕄 := iprop(rest (gotMsg c k) (t + 1) 30 ∗ rest (gotCrd c k) t 28)

theorem credit_round (k : Fin 4) (t : ℕ) (c : Dev nD) :
    (iprop(Pipeline.launchCred (fun d => owesRound d k t) c ∗ gotFrom c (t + 1) k) : sProp 𝕄) ⊢ gotFrom c t k := by
  unfold gotFrom
  unfold owesRound
  rw [Pipeline.launchCred_add]
  iintro ⟨⟨H1, H2⟩, H3, H4⟩
  isplitl [H1 H3]
  · iapply (credit_step (fun d t => owesMsg d k t) (gotMsg c k) c (t + 1) 30 (t + 1) (fun t => credit_msg k t c) (fun _ => rfl) (t < 29) (by omega))
    isplitl [H1] <;> iassumption
  · iapply (credit_step (fun d t => owesCrd d k t) (gotCrd c k) c t 28 t (fun t => credit_crd k t c) (fun _ => rfl) (t < 28) Iff.rfl)
    isplitl [H2] <;> iassumption

theorem credit_rounds (c : Dev nD) (n t : ℕ) (h : t + n = 30) :
    (Pipeline.launchCred (fun d => owesRounds d n t) c : sProp 𝕄) ⊢ iprop(gotFrom c t 0 ∗ gotFrom c t 1 ∗ gotFrom c t 2 ∗ gotFrom c t 3) := by
  induction n generalizing t with
  | zero =>
    have e (k : Fin 4) : (gotFrom c t k : sProp 𝕄) = iprop(emp ∗ emp) := by
      unfold gotFrom rest
      rw [Finset.Ico_eq_empty (by omega), Finset.Ico_eq_empty (by omega), bigSep_empty, bigSep_empty]; rfl
    rw [e, e, e, e]
    iintro -
    (repeat' isplitr) <;> iempintro
  | succ n ih =>
    have h0 := ih (t + 1) (by omega)
    unfold owesRounds
    simp only [Pipeline.launchCred_add]
    iintro ⟨⟨⟨⟨H, R3⟩, R2⟩, R1⟩, R0⟩
    ihave H := h0 $$ H
    icases H with ⟨G0, G1, G2, G3⟩
    isplitl [R0 G0]
    · iapply (credit_round 0 t c); isplitl [R0]; · iexact R0
      iexact G0
    isplitl [R1 G1]
    · iapply (credit_round 1 t c); isplitl [R1]; · iexact R1
      iexact G1
    isplitl [R2 G2]
    · iapply (credit_round 2 t c); isplitl [R2]; · iexact R2
      iexact G2
    iapply (credit_round 3 t c); isplitl [R3]; · iexact R3
    iexact G3

/-- A lane's credits. -/
def laneCr (c : Dev nD) (l : LI) : sProp 𝕄 := iprop(rest (rcvCr c l) 0 30 ∗ rest (waitCr c l) 0 28)

theorem credit_chain (c : Dev nD) (k : Fin 4) :
    (iprop(Pipeline.launchCred (fun d => owesMsg d k 0) c ∗ gotFrom c 0 k) : sProp 𝕄) ⊢ iprop(laneCr c (k, true) ∗ laneCr c (k, false)) := by
  have e : (rest (gotMsg c k) 0 30 : sProp 𝕄) = _ := rest_sep (rcvCr c (k, false)) (rcvCr c (k, true)) 0 30
  have e' : (rest (gotCrd c k) 0 28 : sProp 𝕄) = _ := rest_sep (waitCr c (k, false)) (waitCr c (k, true)) 0 28
  refine (show _ ⊢ iprop(rest (gotMsg c k) 0 30 ∗ rest (gotCrd c k) 0 28) from ?_).trans ?_
  · unfold gotFrom
    rw [rest_peel (gotMsg c k) (show 0 < 30 by decide)]
    iintro ⟨H, H1, H2⟩
    isplitl [H H1]
    · isplitl [H]; · iapply (credit_msg k 0 c); iexact H
      iexact H1
    iexact H2
  · rw [e, e']
    unfold laneCr
    iintro ⟨⟨A, B⟩, C, D⟩
    isplitl [B D]
    · isplitl [B] <;> iassumption
    isplitl [A] <;> iassumption

theorem credits (c : Dev nD) :
    (Pipeline.launchCred owesAll c : sProp 𝕄)
      ⊢ iprop(cred (tallyAt (cell c bar) 0 2) ∗ bigSep Finset.univ (fun k : Fin 4 => laneCr c (k, true)) ∗ bigSep Finset.univ (fun k : Fin 4 => laneCr c (k, false))) := by
  have e : (owesAll : Dev nD → CellTallies nD τ sig ℕ) = fun d => ((((owesRounds d 30 0 + owesMsg d 3 0) + owesMsg d 2 0) + owesMsg d 1 0) + owesMsg d 0 0)
      + (tallyAt (cell (fwd true d) bar) 0 1 + tallyAt (cell (fwd false d) bar) 0 1) := rfl
  rw [e]
  simp only [Pipeline.launchCred_add, bigSep_fin4]
  iintro ⟨⟨⟨⟨⟨H, R3⟩, R2⟩, R1⟩, R0⟩, B1, B2⟩
  ihave H := (credit_rounds c 30 0 rfl) $$ H
  icases H with ⟨G0, G1, G2, G3⟩
  ihave H0 := (credit_chain c 0) $$ [R0 G0]
  · isplitl [R0] <;> iassumption
  ihave H1 := (credit_chain c 1) $$ [R1 G1]
  · isplitl [R1] <;> iassumption
  ihave H2 := (credit_chain c 2) $$ [R2 G2]
  · isplitl [R2] <;> iassumption
  ihave H3 := (credit_chain c 3) $$ [R3 G3]
  · isplitl [R3] <;> iassumption
  icases H0 with ⟨A0, C0⟩
  icases H1 with ⟨A1, C1⟩
  icases H2 with ⟨A2, C2⟩
  icases H3 with ⟨A3, C3⟩
  isplitl [B1 B2]
  · rw [show (2 : ℕ) = 1 + 1 from rfl, ← tallyAt_add]
    iapply (cred_add _ _).2
    isplitl [B1]
    · iapply (credit_one true bar 0 1 c); iexact B1
    · iapply (credit_one false bar 0 1 c); iexact B2
  isplitl [A0 A1 A2 A3]
  · isplitl [A0]; · iexact A0
    isplitl [A1]; · iexact A1
    isplitl [A2] <;> iassumption
  isplitl [C0]; · iexact C0
  isplitl [C1]; · iexact C1
  isplitl [C2] <;> iassumption

/-! ## Cells -/

variable (wire : LI → Dev nD → ℕ → (S128x512.Idx → Elt F .bf16))

abbrev kcell (x : Dev nD × Cell) : GSem nD τ sig := cell x.1 x.2

/-- What the launch element deals device `c`. -/
def G (c : Dev nD) : sProp 𝕄 :=
  iprop((bigSep Finset.univ fun κ : Cell => roundState ER (rd wire) (kcell (c, κ)) 0)
    ∗ (bigSep Finset.univ fun κ : Cell => iprop(atPos ER (kcell (c, κ)) 0 ∅ 0 ∗ reached ER (kcell (c, κ)) 0)) ∗ toks c)
/-- A device's positions and the tokens it pays. -/
def linear (c : Dev nD) : sProp 𝕄 := iprop((bigSep Finset.univ fun κ : Cell => atPos ER (kcell (c, κ)) 0 ∅ 0) ∗ payToks c)
def G' (c : Dev nD) : sProp 𝕄 := iprop(∃ K, records wire K ∗ linear c)

theorem fund_ring : BI.own (ER (initOf ringCells ringToks)) ⊢ (|==> bigSep Finset.univ (G wire) : sProp 𝕄) := by
  have hX (Φ : GSem nD τ sig → sProp 𝕄) : bigSep ringCells Φ = bigSep Finset.univ fun c : Dev nD => bigSep Finset.univ fun κ : Cell => Φ (kcell (c, κ)) := by
    unfold ringCells; rw [bigSep_map, bigSep_univ_prod]; rfl
  iintro HX
  imod (Rounds.fund ER (rd wire) ringCells ringToks) $$ HX with ⟨Hst, Hr, Hat, Htok⟩
  imodintro
  ihave Hst := (Entails.of_eq (hX fun g => roundState ER (rd wire) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := ℕ) (Name := ℕ) (U := UU) (Lvl := ℕ) (Val := Elt F) (τ := τ) osem c : sProp 𝕄)
    = bigSep Finset.univ (five fun κ => semVal (cell c κ) 0) := by
  rw [← bigSep_own]; rfl
theorem unscopedSems0_eq (c : Dev nD) : (unscopedSems0 c : sProp 𝕄) = semVal (cell c bar) 0 := by
  unfold unscopedSems0; rw [bigSep_eq_bigSepL_of_eq [SemLoc.reg barS] (by decide +kernel) (by decide)]; rfl

theorem core_alloc (c : Dev nD) :
    iprop(Pipeline.ownSems0 (Ix := ℕ) (Name := ℕ) (U := UU) (Lvl := ℕ) (Val := Elt F) (τ := τ) osem c ∗ unscopedSems0 c ∗ G wire c)
      ⊢ |={Set.univ}=> iprop((bigSep Finset.univ fun κ : Cell => iprop(∃ i : ℕ, cellInv ER (rd wire) i (kcell (c, κ))))
          ∗ (bigSep Finset.univ fun κ : Cell => iprop(atPos ER (kcell (c, κ)) 0 ∅ 0 ∗ reached ER (kcell (c, κ)) 0)) ∗ toks c) := by
  have hv : (bigSep Finset.univ fun κ : Cell => (semVal (kcell (c, κ)) 0 : sProp 𝕄))
      = iprop(unscopedSems0 c ∗ Pipeline.ownSems0 (Ix := ℕ) (Name := ℕ) (U := UU) (Lvl := ℕ) (Val := Elt F) (τ := τ) osem c) := by
    rw [ownSems0_eq, unscopedSems0_eq]; exact bigSep_cells fun κ => semVal (cell c κ) 0
  have hi : iprop((bigSep Finset.univ fun κ : Cell => semVal (kcell (c, κ)) 0) ∗ bigSep Finset.univ fun κ : Cell => roundState ER (rd wire) (kcell (c, κ)) 0)
      ⊢ (|={Set.univ}=> bigSep Finset.univ fun κ : Cell => iprop(∃ i : ℕ, cellInv ER (rd wire) i (kcell (c, κ))) : sProp 𝕄) := by
    rw [← bigSep_sep']
    exact (bigSep_mono fun κ _ => (Rounds.body_intro ER (rd wire) (kcell (c, κ))).trans inv_alloc).trans (bigSep_fupd _ _)
  unfold G
  iintro ⟨Hos, Hus, Hst, Hat, Htok⟩
  imod hi $$ [Hos Hus Hst] with Hinv
  · isplitl [Hos Hus]
    · rw [hv]; isplitl [Hus] <;> iassumption
    iexact Hst
  imodintro
  isplitl [Hinv]; · iexact Hinv
  isplitl [Hat]; · iexact Hat
  iexact Htok

theorem regroup :
    (bigSep Finset.univ fun c : Dev nD => iprop((bigSep Finset.univ fun κ : Cell => iprop(∃ i : ℕ, cellInv ER (rd wire) i (kcell (c, κ))))
          ∗ (bigSep Finset.univ fun κ : Cell => iprop(atPos ER (kcell (c, κ)) 0 ∅ 0 ∗ reached ER (kcell (c, κ)) 0)) ∗ toks c) : sProp 𝕄)
      ⊢ bigSep Finset.univ (G' wire) := by
  rw [bigSep_sep', bigSep_sep', ← bigSep_univ_prod (fun x : Dev nD × Cell => iprop(∃ i : ℕ, cellInv ER (rd wire) i (kcell x))),
    bigSep_congr (s := Finset.univ) (fun (c : Dev nD) _ => bigSep_sep' Finset.univ (fun κ : Cell => (atPos ER (kcell (c, κ)) 0 ∅ 0 : sProp 𝕄)) (fun κ => reached ER (kcell (c, κ)) 0)),
    bigSep_sep', ← bigSep_univ_prod (fun x : Dev nD × Cell => (reached ER (kcell x) 0 : sProp 𝕄))]
  iintro ⟨HI, ⟨Hat, #HR⟩, Htok⟩
  ihave HK := (BI.bigSep_exists_pi Finset.univ (fun (x : Dev nD × Cell) (i : ℕ) => (cellInv ER (rd wire) i (kcell x) : sProp 𝕄))) $$ HI
  icases HK with ⟨%K, #HI⟩
  ihave Htk := (toks_around (F := F)) $$ Htok
  iapply (bigSep_with (R := records wire K) (Φ := linear) fun c => show _ ⊢ G' wire c from by
    unfold G'; iintro H; iexists K; iexact H)
  isplitr
  · unfold records; isplitl; · iexact HI
    iexact HR
  · unfold linear
    rw [bigSep_sep']
    isplitl [Hat]; · iexact Hat
    iexact Htk

/-- The cells opened on every device at once. -/
theorem glob : (bigSep Finset.univ fun c => iprop(Pipeline.ownSems0 (Ix := ℕ) (Name := ℕ) (U := UU) (Lvl := ℕ) (Val := Elt F) (τ := τ) osem c ∗ unscopedSems0 c ∗ G wire c) : sProp 𝕄)
    ⊢ |={Set.univ}=> bigSep Finset.univ (G' wire) :=
  ((bigSep_mono fun c _ => core_alloc wire c).trans (bigSep_fupd _ _)).trans (BI.fupd_mono (regroup wire))

/-! ## Buffers -/

theorem bufs_lanes (d : Dev nD) (Φ : LI → sProp 𝕄) :
    bigSep Finset.univ Φ = iprop(Φ (0, true) ∗ Φ (0, false) ∗ Φ (1, true) ∗ Φ (1, false) ∗ Φ (2, true) ∗ Φ (2, false) ∗ Φ (3, true) ∗ Φ (3, false)) :=
  bigSep_univ_eq_bigSepL [(0, true), (0, false), (1, true), (1, false), (2, true), (2, false), (3, true), (3, false)] (by decide) (by decide) Φ

/-- A lane's two buffers. -/
def laneBufs (d : Dev nD) (l : LI) : sProp 𝕄 := iprop(bufAny d (lane l).sb ∗ bufAny d (lane l).rb)

theorem whole_any (d : Dev nD) (m : Memref sig .tc .vmem S2x128x512 .bf16) (hm : m.view.set = Finset.univ) :
    (iprop(∃ f : Buf (Elt F) (m.view.loc (d : Thread nD τ)), (m.view.loc (d : Thread nD τ)) ↦{fullShare} f) : sProp 𝕄) = bufAny d m := by
  refine BI.Entails.antisymm ?_ ?_
  · refine .trans ?_ (bufAny_intro d m); rw [hm]
  · refine (bufAny_elim d m).trans ?_; rw [hm]

/-- A lane's two buffers, each whole. -/
def lanePts (d : Dev nD) (l : LI) : sProp 𝕄 :=
  iprop((∃ f : Buf (Elt F) ((lane l).sb.view.loc (d : Thread nD τ)), ((lane l).sb.view.loc (d : Thread nD τ)) ↦{fullShare} f)
    ∗ ∃ f : Buf (Elt F) ((lane l).rb.view.loc (d : Thread nD τ)), ((lane l).rb.view.loc (d : Thread nD τ)) ↦{fullShare} f)

theorem lanePts_eq (d : Dev nD) (l : LI) : (lanePts d l : sProp 𝕄) = laneBufs d l := by
  have h : (lane l).sb.view.set = Finset.univ ∧ (lane l).rb.view.set = Finset.univ := by
    obtain ⟨k, b⟩ := l; fin_cases k <;> cases b <;> exact ⟨View.set_whole _, View.set_whole _⟩
  unfold lanePts laneBufs
  rw [whole_any d _ h.1, whole_any d _ h.2]

theorem scoped_to (d : Dev nD) :
    (Pipeline.scopedRest (Ix := ℕ) (Name := ℕ) (U := UU) (Lvl := ℕ) (Val := Elt F) cfg0.spec d : sProp 𝕄) ⊢ bigSep Finset.univ (lanePts d) := by
  rw [bufs_lanes d (lanePts d)]
  refine (Entails.of_eq (scopedRest0_eq d)).trans ?_
  unfold lanePts
  iintro ⟨H0, H1, H2, H3, H4, H5, H6, H7, H8, H9, H10, H11, H12, H13, H14, H15⟩
  isplitl [H0 H1]
  · isplitl [H0] <;> [iexact H0; iexact H1]
  isplitl [H2 H3]
  · isplitl [H2] <;> [iexact H2; iexact H3]
  isplitl [H4 H5]
  · isplitl [H4] <;> [iexact H4; iexact H5]
  isplitl [H6 H7]
  · isplitl [H6] <;> [iexact H6; iexact H7]
  isplitl [H8 H9]
  · isplitl [H8] <;> [iexact H8; iexact H9]
  isplitl [H10 H11]
  · isplitl [H10] <;> [iexact H10; iexact H11]
  isplitl [H12 H13]
  · isplitl [H12] <;> [iexact H12; iexact H13]
  isplitl [H14] <;> [iexact H14; iexact H15]

theorem scoped_from (d : Dev nD) :
    bigSep Finset.univ (lanePts d) ⊢ (Pipeline.scopedRest (Ix := ℕ) (Name := ℕ) (U := UU) (Lvl := ℕ) (Val := Elt F) cfg0.spec d : sProp 𝕄) := by
  rw [bufs_lanes d (lanePts d)]
  refine .trans ?_ (Entails.of_eq (scopedRest0_eq d).symm)
  unfold lanePts
  iintro ⟨⟨H0, H1⟩, ⟨H2, H3⟩, ⟨H4, H5⟩, ⟨H6, H7⟩, ⟨H8, H9⟩, ⟨H10, H11⟩, ⟨H12, H13⟩, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem scoped_bufs (d : Dev nD) :
    (Pipeline.scopedRest (Ix := ℕ) (Name := ℕ) (U := UU) (Lvl := ℕ) (Val := Elt F) cfg0.spec d : sProp 𝕄) = bigSep Finset.univ (laneBufs d) := by
  rw [← bigSep_congr fun l _ => lanePts_eq d l]
  exact BI.Entails.antisymm (scoped_to d) (scoped_from d)

/-! ## A device's share, assembled -/

theorem start_of (d : Dev nD) :
    (iprop(linear d ∗ (cred (tallyAt (cell d bar) 0 2) ∗ bigSep Finset.univ (fun k : Fin 4 => laneCr d (k, true)) ∗ bigSep Finset.univ (fun k : Fin 4 => laneCr d (k, false)))
        ∗ bigSep Finset.univ (laneBufs d)) : sProp 𝕄) ⊢ devStart d := by
  have e (l : LI) : (laneStart d l : sProp 𝕄)
      = iprop(five (fun κ => atPos ER (cell d κ) 0 ∅ 0) l ∗ (rest (sendTok d l) 0 30 ∗ rest (payTok d l) 0 28) ∗ laneCr d l ∗ laneBufs d l) := rfl
  unfold linear devStart payToks
  simp only [e, bigSep_sep', bigSep_cells, bigSep_lanes]
  iintro ⟨⟨⟨Hb, ⟨P, P'⟩⟩, ⟨T1, T2⟩, ⟨S, S'⟩, ⟨Y, Y'⟩⟩, ⟨Hc, C, C'⟩, ⟨B, B'⟩⟩
  isplitl [Hb T1 T2 Hc]
  · isplitl [T1]; · iexact T1
    isplitl [T2]; · iexact T2
    isplitl [Hc] <;> iassumption
  isplitl [P S Y C B]
  · isplitl [P]; · iexact P
    isplitl [S Y]
    · isplitl [S] <;> iassumption
    isplitl [C] <;> iassumption
  isplitl [P']; · iexact P'
  isplitl [S' Y']
  · isplitl [S'] <;> iassumption
  isplitl [C'] <;> iassumption

theorem end_of (d : Dev nD) :
    (devEnd d : sProp 𝕄) ⊢ iprop(unscopedSems0 d ∗ Pipeline.ownSems0 (Ix := ℕ) (Name := ℕ) (U := UU) (Lvl := ℕ) (Val := Elt F) (τ := τ) osem d
        ∗ bigSep Finset.univ (laneBufs d)) := by
  have e (l : LI) : (laneEnd d l : sProp 𝕄) = iprop(five (fun κ => semVal (cell d κ) 0) l ∗ laneBufs d l) := rfl
  rw [ownSems0_eq, unscopedSems0_eq]
  unfold devEnd
  simp only [e, bigSep_sep', bigSep_lanes]
  iintro ⟨Hb, ⟨P, B⟩, ⟨P', B'⟩⟩
  isplitl [Hb]; · iexact Hb
  isplitl [P P']
  · isplitl [P] <;> iassumption
  isplitl [B] <;> iassumption

end Cert.KernelIdeal.Ring

end
-- ==== Proof.KernelIdeal.Run.lean ====
module

public import proofs.«01_k».proof.Proof.KernelIdeal.Deal
public import proofs.«01_k».proof.Proof.KernelIdeal.Align
public import proofs.«01_k».proof.Proof.Gen.KernelIdeal.Points
public import Idealize.ShloMosaic.Lib.Pipeline.CollectiveSegs

@[expose] public section

noncomputable section

/-! # The run of the whole mesh -/

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg) (V : Vals F)

def s₀ : MemSt nD τ sig (Elt F) := ⟨m, fun _ => 0, ρ⟩

/-- A device's staged operands. -/
def xstg (c : Dev nD) : FVec F S4096x256 .bf16 := (win0_0.blk t0_0).view.read (Elt F) (m ((c : Thread nD τ).loc main_arg0))
def wstg (c : Dev nD) : FVec F S256x2048 .bf16 := (win0_1.blk t0_0).view.read (Elt F) (m ((c : Thread nD τ).loc main_arg1))

def begun (c : Dev nD) : sProp 𝕄 :=
  iprop(G' V.wire c ∗ (cred (tallyAt (cell c bar) 0 2) ∗ bigSep Finset.univ (fun k : Fin 4 => laneCr c (k, true)) ∗ bigSep Finset.univ (fun k : Fin 4 => laneCr c (k, false)))
    ∗ levAts Lx lv)

def Φ₀ (c : Dev nD) : sProp 𝕄 := iprop(begun V c ∗ bigSep Finset.univ (laneBufs c))
def Φ₁ (c : Dev nD) : sProp 𝕄 := devEnd c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => V.st c fun _ => 30
  Φ t := match t with
    | ⟨0, _⟩ => Φ₀ V c
    | ⟨_ + 1, _⟩ => Φ₁ c
  q _ := fullShare
  owed t := match t with
    | ⟨0, _⟩ => owesAll c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ V c ∗ (dats m ρ V 0 c).owesAt 0 t0_0.castSucc
    ∗ (∃ d, stg c cc0_stg0_0 ((dats m ρ V 0 c).before (0 : Fin 3) t0_0 d))
    ∗ (∃ d, stg c cc0_stg1_0 ((dats m ρ V 0 c).before (1 : Fin 3) t0_0 d))
    ∗ (∃ d, stg c cc0_stg2_0 ((dats m ρ V 0 c).before (2 : Fin 3) t0_0 d)))
def bodyPost (c : Dev nD) : sProp 𝕄 :=
  iprop(Φ₁ c ∗ (dats m ρ V 0 c).owesAt 0 t0_0.succ ∗ stg c cc0_stg0_0 (xstg m c) ∗ stg c cc0_stg1_0 (wstg m c) ∗ stg c cc0_stg2_0 (V.st c fun _ => 30))

theorem chain_family : (![
    ⟨⟨Memref.whole cc0_scratch0, Memref.isWhole_whole _, Memref.whole cc0_scratch1, Memref.isWhole_whole _, cc0_scratch16, cc0_scratch17, cc0_scratch32⟩,
      ⟨Memref.whole cc0_scratch2, Memref.isWhole_whole _, Memref.whole cc0_scratch3, Memref.isWhole_whole _, cc0_scratch18, cc0_scratch19, cc0_scratch33⟩⟩,
    ⟨⟨Memref.whole cc0_scratch4, Memref.isWhole_whole _, Memref.whole cc0_scratch5, Memref.isWhole_whole _, cc0_scratch20, cc0_scratch21, cc0_scratch34⟩,
      ⟨Memref.whole cc0_scratch6, Memref.isWhole_whole _, Memref.whole cc0_scratch7, Memref.isWhole_whole _, cc0_scratch22, cc0_scratch23, cc0_scratch35⟩⟩,
    ⟨⟨Memref.whole cc0_scratch8, Memref.isWhole_whole _, Memref.whole cc0_scratch9, Memref.isWhole_whole _, cc0_scratch24, cc0_scratch25, cc0_scratch36⟩,
      ⟨Memref.whole cc0_scratch10, Memref.isWhole_whole _, Memref.whole cc0_scratch11, Memref.isWhole_whole _, cc0_scratch26, cc0_scratch27, cc0_scratch37⟩⟩,
    ⟨⟨Memref.whole cc0_scratch12, Memref.isWhole_whole _, Memref.whole cc0_scratch13, Memref.isWhole_whole _, cc0_scratch28, cc0_scratch29, cc0_scratch38⟩,
      ⟨Memref.whole cc0_scratch14, Memref.isWhole_whole _, Memref.whole cc0_scratch15, Memref.isWhole_whole _, cc0_scratch30, cc0_scratch31, cc0_scratch39⟩⟩] : Fin 4 → Chain) = chain := by
  funext k; fin_cases k <;> rfl

theorem sound_body (hV : ∀ d, V.st d (fun _ => 0) = prodV (xstg m d) (wstg m d)) (c : Dev nD) :
    bodyPre m ρ V c ⊢ WP c (body xM wM outM chain) (fun _ => bodyPost m ρ V c) := by
  unfold bodyPre Φ₀ begun G' stg Dat.owesAt Pipeline.owesWithin
  rw [show (dats m ρ V 0 c).owed t0_0.castSucc = owesAll c from rfl]
  iintro ⟨⟨⟨⟨%K, #HR, Hl⟩, Hc, #HL⟩, HB⟩, ⟨%W, -, HO⟩, ⟨%d0, %g0, %hg0, Hx⟩, ⟨%d1, %g1, %hg1, Hw⟩, ⟨%d2, %g2, %hg2, Ho⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx hw
  ihave Hs := (start_of c) $$ [Hl Hc HB]
  · isplitl [Hl]; · iexact Hl
    isplitl [Hc] <;> iassumption
  iapply (wp_fupd frame (wpE (defs₀ (F := F)) 𝒱₀ (c : Thread nD τ) none) Set.univ)
  iapply (body_run V K c (xstg m c) (wstg m c) (hV c) _) $$ [HO Hs Hx Hw Ho]
  · isplitr; · iexact HR
    isplitr; · iexact HL
    isplitl [HO]; · unfold ow; iexists W; iexact HO
    isplitl [Hs]; · iexact Hs
    isplitl [Hx]; · unfold xP; iexact Hx
    isplitl [Hw]; · unfold wP; iexact Hw
    iexists g2; unfold outP; iexact Ho
  iintro ⟨HO, Hd, Hx, Hw, Ho⟩
  imod (dev_close V K c) $$ [Hd] with He
  · isplitr; · iexact HR
    iexact Hd
  imodintro
  unfold bodyPost Φ₁ stg Dat.owesAt Pipeline.owesWithin ow xP wP outP
  icases HO with ⟨%W', HO⟩
  rw [show (dats m ρ V 0 c).owed t0_0.succ = 0 from rfl]
  isplitl [He]; · iexact He
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The kernel's body on what the pipeline calls it with. -/
theorem called_eq (t : Fin cfg0.N) : defs₀ (F := F) .tc cfg0.body (cfg0.bodyArgs t (cfg0.slots t)) = body xM wM outM chain := by
  show bodyAt0 t = _
  unfold bodyAt0
  rw [body_eq, chain_family]

set_option maxRecDepth 20000 in
theorem body_obligation (hV : ∀ d, V.st d (fun _ => 0) = prodV (xstg m d) (wstg m d)) (c : Dev nD) :
    BodyObligation (dats m ρ V 0 c) (defs₀ (F := F)) 𝒱₀ 0 Set.univ := fun t => by
  rw [fin_N0 t]
  rw [called_eq, bigSep_W0, bigSep_W0]
  simp only [owns_whole_eq]
  have h1 : (dats m ρ V 0 c).Φ t0_0.castSucc = Φ₀ V c := rfl
  have h2 : (dats m ρ V 0 c).Φ t0_0.succ = Φ₁ c := rfl
  have h3 : (dats m ρ V 0 c).after 0 t0_0 = xstg m c := rfl
  have h4 : (dats m ρ V 0 c).after 1 t0_0 = wstg m c := rfl
  have h5 : (dats m ρ V 0 c).after 2 t0_0 = V.st c fun _ => 30 := rfl
  rw [h1, h2, h3, h4, h5]
  have h := sound_body m ρ V hV c
  unfold bodyPre bodyPost stg WP at h
  convert h using 2

/-! ## The launch -/

theorem ownSemFacts : Pipeline.OwnSemFacts cfg0.spec osem := by decide +kernel
theorem share_eq (c : Dev nD) (w : Fin cfg0.W) : (dats m ρ V 0 c).share w = fullShare := by unfold Dat.share; split <;> rfl

def u₀ : UU := (initOf (Pipeline.cells cfgs cellOf_inj) (Pipeline.launchToks cfgs cellOf_inj), initOf ringCells ringToks)

theorem start_intro (c : Dev nD) :
    iprop(Pipeline.unscopedRestP Pipeline.Prefetch.none cfg0.spec c (fun b => m ((c : Thread nD τ).loc b)) ∗ levAts Lx lv
        ∗ Pipeline.launchCred owesAll c ∗ prngReg c (ρ c) ∗ G' V.wire c)
      ⊢ |={Set.univ}=> iprop(begun V c ∗ emp) := by
  iintro ⟨-, #HL, Hcr, -, HG⟩
  ihave Hc := (credits (F := F) c) $$ Hcr
  imodintro
  unfold begun
  isplitl
  · isplitl [HG]; · iexact HG
    isplitl [Hc]; · iexact Hc
    iexact HL
  · iempintro

theorem phi0_intro (c : Dev nD) :
    iprop(begun V c ∗ Pipeline.prefHeld Pipeline.Prefetch.none c (fun _ => fullShare.right) (fun k => k.elim0) ∗ Pipeline.scopedRest cfg0.spec c)
      ⊢ (dats m ρ V 0 c).Φ 0 := by
  rw [show (dats m ρ V 0 c).Φ 0 = Φ₀ V c from rfl, scoped_bufs]
  unfold Φ₀
  iintro ⟨Hs, -, Hr⟩
  isplitl [Hs] <;> iassumption

theorem phi1_exit (c : Dev nD) :
    (dats m ρ V 0 c).Φ (Fin.last cfg0.N) ⊢ iprop(unscopedSems0 c ∗ Pipeline.ownSems0 osem c ∗ Pipeline.scopedRest cfg0.spec c) := by
  rw [show (dats m ρ V 0 c).Φ (Fin.last cfg0.N) = devEnd c from rfl, scoped_bufs]
  exact end_of c

theorem lv_stage (c : Dev nD) (sm : SemLoc sig) (h : ∀ κ : Cell, csem κ ≠ sm) (i : ℕ) : lv ((c : Thread nD τ), sm) i = 0 := by
  have : keyOf sm = none := by unfold keyOf; exact dif_neg fun ⟨κ, hκ⟩ => h κ hκ
  unfold lv; rw [this]

theorem stage_apart : ∀ (w : Fin 3) (s : Fin (cfg0.win w).nbuf) (κ : Cell), csem κ ≠ .dma ((cfg0.win w).sem s) := by decide +kernel

theorem waits (c : Dev nD) : (levAts Lx lv : sProp 𝕄) ⊢ Pipeline.cellsWaits cfgs (dats m ρ V) 0 0 c :=
  Pipeline.cellsWaits_intro cfgs (dats m ρ V) 0 0 c fun w s t =>
    mayWait c _ 0 (by decide) (by
      rw [lv_stage c _ (stage_apart w s)]
      rcases t with ⟨_ | _, ht⟩
      · exact above_all c
      · exact above_zero 0)

def finalA (c : Dev nD) (w : Fin cfg0.W) : Buf (Elt F) ((cfg0.win w).arr.view.loc (c : Thread nD τ)) := (dats m ρ V 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ V c w

set_option maxRecDepth 40000 in
/-- From any memory with zero counters every execution of the sixteen devices' programs ends, each device's arrays at the
    contents computed and every counter at zero. -/
theorem run_main (hV : ∀ d, V.st d (fun _ => 0) = prodV (xstg m d) (wstg m d)) :
    θ_run defs (onTc (τ := τ) (main (F := F))) (s₀ m ρ) (fun r => QC m ρ V r ∧ r.2.sem = fun _ => 0) :=
  Pipeline.θ_run_region_owing_glob_pf (fun p => (cfgs p).toPCfg) (fun p => (cfgs p).toPCfg_adm) (dats m ρ V) 0 cellOf_inj (0 : Fin 1)
    winFacts0.to₀ ownSemFacts (Pipeline.PreFacts.none _) EP defs₀ 𝒱₀ m ρ main
    (hmain := fun c => (main_chain c).trans rfl)
    (hbody := fun c => (body_obligation m ρ V hV c).loose) (hne := block_pos0) (harr := arr_whole0) (hstage := stage_whole0) (hshare := share_eq m ρ V)
    (hdistinct := winFacts0.arr_inj)
    (O₀ := owesAll) (howed₀ := fun _ => rfl) (howedN := fun _ => rfl)
    (L := Lx) (lv := lv) (hL := L_of_ne) (hwaits := waits m ρ V)
    (G := G V.wire) (G' := G' V.wire) (u₀ := u₀)
    (hu₀ := by
      unfold u₀
      iintro Hu
      ihave H := (ownU_pair _ _) $$ Hu
      icases H with ⟨HP, HX⟩
      imod (fund_ring V.wire) $$ HX with HG
      imodintro
      isplitl [HP] <;> iassumption)
    (hglob := glob V.wire)
    (hA := fun _ _ => rfl) (hpf := fun _ k => k.elim0)
    (X := begun V) (Y := fun c => unscopedSems0 c) (Z := fun _ => iprop(emp))
    (hX := start_intro m ρ V) (hin := phi0_intro m ρ V) (hout := phi1_exit m ρ V)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem finalA_x (c : Dev nD) : finalA m ρ V c (0 : Fin 3) = m ((c : Thread nD τ).loc main_arg0) :=
  (dats m ρ V 0 c).arrAt_in (0 : Fin 3) rfl _
theorem finalA_w (c : Dev nD) : finalA m ρ V c (1 : Fin 3) = m ((c : Thread nD τ).loc main_arg1) :=
  (dats m ρ V 0 c).arrAt_in (1 : Fin 3) rfl _

end Cert.KernelIdeal.Ring

end
-- ==== Proof.KernelIdeal.Values.lean ====
module

public import proofs.«01_k».proof.Proof.KernelIdeal.Rounds
public import Idealize.ShloMosaic.Lib.ValueIdxCore

@[expose] public section

noncomputable section

/-! # The values: what each device's output holds after each message, element by element -/

namespace Cert.KernelIdeal.Ring

open Idealize.ShloMosaic
open Idealize.ShloMosaic.TcCoe
open Idealize.ShloMosaic.ValueIdx
open Cert.KernelIdeal Cert.KernelIdeal.Gen

variable {F : FTy → Type} [FloatOps F]

/-! ## The element's place -/

/-- An element lies in the top half of its chunk (and travels to the right), or in the bottom half. -/
def half (i : S4096x2048.Idx) : Bool := Nat.blt ((i 0).val % 256) 128
def chunkOf (i : S4096x2048.Idx) : ℕ := (i 0).val / 256
def colOf (i : S4096x2048.Idx) : Fin 4 := ⟨(i 1).val / 512, Nat.div_lt_of_lt_mul (i 1).isLt⟩
/-- Its place within its block. -/
def locOf (i : S4096x2048.Idx) : S128x512.Idx := ix2 ⟨(i 0).val % 128, Nat.mod_lt _ (by decide)⟩ ⟨(i 1).val % 512, Nat.mod_lt _ (by decide)⟩

/-- The chunk device `d` receives with message `t`, and the one it sends. -/
def rc (b : Bool) (d : Dev nD) (t : ℕ) : ℕ := bif b then (d.val + 63 - t) % 16 else (d.val + t + 1) % 16
def sc (b : Bool) (d : Dev nD) (t : ℕ) : ℕ := bif b then (d.val + 64 - t) % 16 else (d.val + t) % 16

theorem row_rr : ∀ (d : Dev nD) (t : Fin 30), (rowW (bRR d t)).toNat = 256 * rc true d t := by decide +kernel
theorem row_rl : ∀ (d : Dev nD) (t : Fin 30), (rowW (bRL d t)).toNat = 256 * rc false d t := by decide +kernel
theorem row_sr : ∀ (d : Dev nD) (t : Fin 30), (rowW (bSR d t)).toNat = 256 * sc true d t := by decide +kernel
theorem row_sl : ∀ (d : Dev nD) (t : Fin 30), (rowW (bSL d t)).toNat = 256 * sc false d t := by decide +kernel
theorem row_gr : ∀ d : Dev nD, (rowW (bGR d)).toNat = 256 * rc true d 14 := by decide +kernel
theorem row_gl : ∀ d : Dev nD, (rowW (bGL d)).toNat = 256 * rc false d 14 := by decide +kernel
theorem sc_from : ∀ (b : Bool) (d : Dev nD) (t : Fin 30), sc b (fwd (!b) d) t = rc b d t := by decide +kernel
theorem rc_lt (b : Bool) (d : Dev nD) (t : ℕ) : rc b d t < 16 := by cases b <;> exact Nat.mod_lt _ (by decide)
theorem sc_lt (b : Bool) (d : Dev nD) (t : ℕ) : sc b d t < 16 := by cases b <;> exact Nat.mod_lt _ (by decide)

/-- Where the block of half `b` of chunk `ch` in column `k` starts. -/
def off (b : Bool) (ch : ℕ) (k : Fin 4) : Fin 2 → ℕ := ![256 * ch + bif b then 0 else 128, 512 * k.val]

theorem off_inb (b : Bool) {ch : ℕ} (h : ch < 16) (k : Fin 4) : Inb (off b ch k) := by
  have := k.isLt
  intro a; fin_cases a
  · cases b
    · show 256 * ch + 128 + 128 ≤ 4096; omega
    · show 256 * ch + 0 + 128 ≤ 4096; omega
  · show 512 * k.val + 512 ≤ 2048; omega

theorem topOff_eq {w : BitVec 32} {ch : ℕ} (h : (rowW w).toNat = 256 * ch) (k : Fin 4) : topOff w (512 * k.val) = off true ch k := by
  unfold topOff off
  rw [show (Scalar.indexCast (rowW w)).toNat = 256 * ch from h]; rfl
theorem botOff_eq {w : BitVec 32} {ch : ℕ} (h : (rowW w).toNat = 256 * ch) (hc : ch < 16) (k : Fin 4) : botOff w (512 * k.val) = off false ch k := by
  have e : (Scalar.addi (rowW w) 128#32).toNat = (rowW w).toNat + 128 := by
    show (rowW w + 128#32).toNat = _
    rw [BitVec.toNat_add]; show ((rowW w).toNat + 128) % 4294967296 = _
    omega
  unfold botOff off
  rw [show (Scalar.indexCast (Scalar.addi (rowW w) 128#32)).toNat = 256 * ch + 128 from e.trans (by rw [h])]; rfl

theorem getB_congr (f : Out F) {o o' : Fin 2 → ℕ} (e : o = o') (h : Inb o) (h' : Inb o') : getB f o h = getB f o' h' := by subst e; rfl
theorem putB_congr (f : Out F) {o o' : Fin 2 → ℕ} (e : o = o') (h : Inb o) (h' : Inb o') (v : Vec F S128x512 .f32) : putB f o h v = putB f o' h' v := by
  subst e; rfl

theorem takeB_congr (t : ℕ) (f : Out F) {o o' : Fin 2 → ℕ} (e : o = o') (h : Inb o) (h' : Inb o') (X : S128x512.Idx → Elt F .bf16) :
    takeB t f o h X = takeB t f o' h' X := by subst e; rfl
theorem actB_congr (t : ℕ) (f : Out F) {o o' : Fin 2 → ℕ} (e : o = o') (h : Inb o) (h' : Inb o') : actB t f o h = actB t f o' h' := by subst e; rfl

/-- The element of a block at `j`. -/
def pt (b : Bool) (ch : ℕ) (h : ch < 16) (k : Fin 4) (j : S128x512.Idx) : S4096x2048.Idx :=
  (Rect.unit (s := S4096x2048) (off b ch k) S128x512.size (off_inb b h k)).emb j

theorem pt_val (b : Bool) (ch : ℕ) (h : ch < 16) (k : Fin 4) (j : S128x512.Idx) (a : Fin 2) : (pt b ch h k j a).val = off b ch k a + (j a).val :=
  by unfold pt; rw [Rect.emb_apply]; show off b ch k a + 1 * (j a).val = _; omega

theorem pt_half (b : Bool) (ch : ℕ) (h : ch < 16) (k : Fin 4) (j : S128x512.Idx) : half (pt b ch h k j) = b := by
  have e := pt_val b ch h k j 0
  have hj : (j 0).val < 128 := (j 0).isLt
  unfold half; rw [e]
  cases b
  · refine Bool.eq_false_iff.mpr fun hb => ?_
    have hb := Nat.blt_eq.mp hb
    rw [show off false ch k 0 = 256 * ch + 128 from rfl] at hb
    omega
  · refine Nat.blt_eq.mpr ?_
    rw [show off true ch k 0 = 256 * ch + 0 from rfl]
    omega
theorem pt_chunk (b : Bool) (ch : ℕ) (h : ch < 16) (k : Fin 4) (j : S128x512.Idx) : chunkOf (pt b ch h k j) = ch := by
  have e := pt_val b ch h k j 0
  have hj : (j 0).val < 128 := (j 0).isLt
  unfold chunkOf; rw [e]
  cases b
  · rw [show off false ch k 0 = 256 * ch + 128 from rfl]; omega
  · rw [show off true ch k 0 = 256 * ch + 0 from rfl]; omega
theorem pt_col (b : Bool) (ch : ℕ) (h : ch < 16) (k : Fin 4) (j : S128x512.Idx) : colOf (pt b ch h k j) = k := by
  have e := pt_val b ch h k j 1
  have hj : (j 1).val < 512 := (j 1).isLt
  apply Fin.ext
  show (pt b ch h k j 1).val / 512 = k.val
  rw [e, show off b ch k 1 = 512 * k.val from rfl]; omega
theorem pt_loc (b : Bool) (ch : ℕ) (h : ch < 16) (k : Fin 4) (j : S128x512.Idx) : locOf (pt b ch h k j) = j := by
  have hj : (j 0).val < 128 := (j 0).isLt
  have hj' : (j 1).val < 512 := (j 1).isLt
  funext a; apply Fin.ext
  fin_cases a
  · show (pt b ch h k j 0).val % 128 = (j 0).val
    rw [pt_val]
    cases b
    · rw [show off false ch k 0 = 256 * ch + 128 from rfl]; omega
    · rw [show off true ch k 0 = 256 * ch + 0 from rfl]; omega
  · show (pt b ch h k j 1).val % 512 = (j 1).val
    rw [pt_val, show off b ch k 1 = 512 * k.val from rfl]; omega

/-- An element of the block is the one at its place. -/
theorem pt_of (b : Bool) (ch : ℕ) (h : ch < 16) (k : Fin 4) (i : S4096x2048.Idx) (hb : half i = b) (hc : chunkOf i = ch) (hk : colOf i = k) :
    pt b ch h k (locOf i) = i := by
  subst hb hc hk
  funext a; apply Fin.ext
  rw [pt_val]
  fin_cases a
  · show (256 * ((i 0).val / 256) + bif half i then 0 else 128) + (i 0).val % 128 = (i 0).val
    cases hh : half i
    · have : ¬ (i 0).val % 256 < 128 := fun hlt => by unfold half at hh; rw [Nat.blt_eq.mpr hlt] at hh; cases hh
      simp only [cond_false]; omega
    · have : (i 0).val % 256 < 128 := Nat.blt_eq.mp hh
      simp only [cond_true]; omega
  · show 512 * ((i 1).val / 512) + (i 1).val % 512 = (i 1).val
    omega

/-- An element is in the block. -/
abbrev InB (b : Bool) (ch : ℕ) (k : Fin 4) (i : S4096x2048.Idx) : Prop := half i = b ∧ chunkOf i = ch ∧ colOf i = k

theorem getB_off (f : Out F) (b : Bool) (ch : ℕ) (h : ch < 16) (k : Fin 4) (h' : Inb (off b ch k)) (j : S128x512.Idx) :
    getB f (off b ch k) h' j = f (pt b ch h k j) := rfl

theorem putB_off (f : Out F) (b : Bool) (ch : ℕ) (h : ch < 16) (k : Fin 4) (h' : Inb (off b ch k)) (v : Vec F S128x512 .f32) (i : S4096x2048.Idx) :
    putB f (off b ch k) h' v i = if InB b ch k i then v (locOf i) else f i := by
  by_cases hi : InB b ch k i
  · rw [if_pos hi]
    have key (j : S128x512.Idx) : putB f (off b ch k) h' v (pt b ch h k j) = v j :=
      View.write_emb_of_mem (v := (outM.access (Rect.unit (s := S4096x2048) (off b ch k) S128x512.size h') : View sig .tc _ _ _)) (Val := Elt F) f v (x := j) (Finset.mem_univ _)
    exact (congrArg _ (pt_of b ch h k i hi.1 hi.2.1 hi.2.2).symm).trans (key _)
  · rw [if_neg hi]
    refine View.write_of_not_mem (v := (outM.access (Rect.unit (s := S4096x2048) (off b ch k) S128x512.size h') : View sig .tc _ _ _)) (Val := Elt F) f v _ fun hm => hi ?_
    obtain ⟨j, -, hj⟩ := Finset.mem_map.mp hm
    have e : pt b ch h k j = i := hj
    rw [← e]
    exact ⟨pt_half b ch h k j, pt_chunk b ch h k j, pt_col b ch h k j⟩

/-! ## One element's steps -/

/-- The activation of an element. -/
def geluE (y : Elt F .f32) : Elt F .f32 :=
  FloatOps.mulf (FloatOps.mulf (Scalar.ofBits .f32 0x3F000000#32) y)
    (FloatOps.addf (Scalar.ofBits .f32 0x3F800000#32)
      (FloatOps.tanh (FloatOps.mulf (Scalar.ofBits .f32 0x3F4C422A#32)
        (FloatOps.addf y (FloatOps.mulf (FloatOps.mulf (FloatOps.mulf (Scalar.ofBits .f32 0x3D372713#32) y) y) y)))))
/-- An element as it travels, and as it is read back. -/
def toE (y : Elt F .f32) : Elt F .bf16 := FloatOps.truncf .bf16 bitsLt_bf16_f32 (y : F .f32)
def ofE (y : Elt F .bf16) : Elt F .f32 := FloatOps.extf .f32 bitsLt_bf16_f32 (y : F .bf16)
/-- An element `a` after message `t` brought `x` for it. -/
def stepE (t : ℕ) (a : Elt F .f32) (x : Elt F .bf16) : Elt F .f32 :=
  if t < 14 then FloatOps.addf (a : F .f32) (ofE x) else if t = 14 then geluE (FloatOps.addf (a : F .f32) (ofE x)) else ofE x

theorem geluV_at (v : Vec F S128x512 .f32) (j : S128x512.Idx) : geluV v j = geluE (v j) := by
  unfold geluV
  rw [shapeCast_self]
  rfl

/-- Device `d`'s output after `t` messages, element by element, from the products `P`. -/
def A (P : Dev nD → Out F) : ℕ → Dev nD → Out F
  | 0, d => P d
  | t + 1, d => fun i => if chunkOf i = rc (half i) d t then stepE t (A P t d i) (toE (A P t (fwd (!half i) d) i)) else A P t d i

theorem takeB_at (t : ℕ) (f : Out F) (b : Bool) (ch : ℕ) (h : ch < 16) (k : Fin 4) (h' : Inb (off b ch k)) (X : S128x512.Idx → Elt F .bf16)
    (i : S4096x2048.Idx) :
    takeB t f (off b ch k) h' X i
      = if InB b ch k i then (if t < 15 then FloatOps.addf (f i : F .f32) (ofE (X (locOf i))) else ofE (X (locOf i))) else f i := by
  unfold takeB
  by_cases ht : t < 15
  · rw [Nat.blt_eq.mpr ht, cond_true, putB_off f b ch h k]
    by_cases hi : InB b ch k i
    · rw [if_pos hi, if_pos hi, if_pos ht]
      show FloatOps.addf (getB f (off b ch k) h' (locOf i) : F .f32) _ = _
      rw [getB_off f b ch h k, pt_of b ch h k i hi.1 hi.2.1 hi.2.2]; rfl
    · rw [if_neg hi, if_neg hi]
  · rw [show Nat.blt t 15 = false from Bool.eq_false_iff.mpr fun hb => ht (Nat.blt_eq.mp hb), cond_false, putB_off f b ch h k, if_neg ht]
    rfl

theorem actB_at (t : ℕ) (f : Out F) (b : Bool) (ch : ℕ) (h : ch < 16) (k : Fin 4) (h' : Inb (off b ch k)) (i : S4096x2048.Idx) :
    actB t f (off b ch k) h' i = if InB b ch k i ∧ t = 14 then geluE (f i) else f i := by
  unfold actB
  by_cases ht : t = 14
  · rw [Nat.beq_eq.mpr ht, cond_true, putB_off f b ch h k]
    by_cases hi : InB b ch k i
    · rw [if_pos hi, if_pos ⟨hi, ht⟩, geluV_at, getB_off f b ch h k, pt_of b ch h k i hi.1 hi.2.1 hi.2.2]
    · rw [if_neg hi, if_neg fun hh => hi hh.1]
  · rw [show Nat.beq t 14 = false from Bool.eq_false_iff.mpr fun hb => ht (Nat.beq_eq.mp hb), cond_false, if_neg fun hh => ht hh.2]

/-- What a message of a chain does to each element. -/
theorem taken_at (d : Dev nD) (k : Fin 4) (t : Fin 30) (f : Out F) (X Y : S128x512.Idx → Elt F .bf16) (i : S4096x2048.Idx) :
    taken d k t f X Y i = if colOf i = k ∧ chunkOf i = rc (half i) d t then stepE t (f i) (bif half i then X (locOf i) else Y (locOf i)) else f i := by
  have hr := rc_lt true d t
  have hl := rc_lt false d t
  have hr' := rc_lt true d 14
  have hl' := rc_lt false d 14
  unfold taken
  rw [takeB_congr t f (topOff_eq (row_rr d t) k) _ (off_inb true hr k), takeB_congr t _ (botOff_eq (row_rl d t) hl k) _ (off_inb false hl k),
    actB_congr t _ (topOff_eq (row_gr d) k) _ (off_inb true hr' k), actB_congr t _ (botOff_eq (row_gl d) hl' k) _ (off_inb false hl' k),
    actB_at _ _ _ _ hl', actB_at _ _ _ _ hr', takeB_at _ _ _ _ hl, takeB_at _ _ _ _ hr]
  by_cases hk : colOf i = k
  · rcases Bool.eq_false_or_eq_true (half i) with hb | hb <;> by_cases ht : t.val = 14
    · by_cases hc : chunkOf i = rc true d 14 <;> simp [InB, hb, hk, ht, hc, stepE]
    · by_cases hc : chunkOf i = rc true d t
      · by_cases h15 : t.val < 15
        · simp [InB, hb, hk, hc, ht, h15, stepE, show t.val < 14 by omega]
        · simp [InB, hb, hk, hc, ht, h15, stepE, show ¬ t.val < 14 by omega]
      · simp [InB, hb, hk, hc, ht]
    · by_cases hc : chunkOf i = rc false d 14 <;> simp [InB, hb, hk, ht, hc, stepE]
    · by_cases hc : chunkOf i = rc false d t
      · by_cases h15 : t.val < 15
        · simp [InB, hb, hk, hc, ht, h15, stepE, show t.val < 14 by omega]
        · simp [InB, hb, hk, hc, ht, h15, stepE, show ¬ t.val < 14 by omega]
      · simp [InB, hb, hk, hc, ht]
  · simp [InB, hk]

/-- The values of the run from products `P`. -/
def valsOf (P : Dev nD → Out F) : Vals F where
  st d cnt := fun i => A P (cnt (colOf i)) d i
  wire l d t := fun j => toE (A P t d (pt l.2 (sc l.2 d t) (sc_lt _ _ _) l.1 j))
  sendR d cnt k t h := by
    funext j
    rw [getB_congr _ (topOff_eq (row_sr d t) k) _ (off_inb true (sc_lt true d t) k)]
    show toE (getB _ _ _ j) = _
    rw [getB_off _ true _ (sc_lt true d t) k]
    show toE (A P (cnt (colOf _)) d _) = _
    rw [pt_col, h]
  sendL d cnt k t h := by
    funext j
    rw [getB_congr _ (botOff_eq (row_sl d t) (sc_lt false d t) k) _ (off_inb false (sc_lt false d t) k)]
    show toE (getB _ _ _ j) = _
    rw [getB_off _ false _ (sc_lt false d t) k]
    show toE (A P (cnt (colOf _)) d _) = _
    rw [pt_col, h]
  take d cnt k t h := by
    funext i
    rw [taken_at]
    by_cases hk : colOf i = k
    · rw [show (Function.update cnt k (t.val + 1)) (colOf i) = t.val + 1 by rw [hk, Function.update_self]]
      show _ = if chunkOf i = rc (half i) d t then _ else _
      rw [hk, h]
      by_cases hc : chunkOf i = rc (half i) d t
      · rw [if_pos ⟨rfl, hc⟩, if_pos hc]
        have e (b : Bool) (hb : half i = b) :
            toE (A P t (fwd (!b) d) (pt b (sc b (fwd (!b) d) t) (sc_lt _ _ _) k (locOf i))) = toE (A P t (fwd (!half i) d) i) := by
          rw [hb, pt_of b _ (sc_lt _ _ _) k i hb (by rw [sc_from, hc, hb]) hk]
        rcases Bool.eq_false_or_eq_true (half i) with hb | hb
        · rw [← e true hb, hb]; rfl
        · rw [← e false hb, hb]; rfl
      · rw [if_neg fun hh => hc hh.2, if_neg hc]
    · rw [if_neg fun hh => hk hh.1, Function.update_of_ne hk]

end Cert.KernelIdeal.Ring

end
-- ==== Proof.KernelIdeal.Final.lean ====
module

public import proofs.«01_k».proof.Proof.KernelIdeal.Run
public import proofs.«01_k».proof.Proof.KernelIdeal.Values
public import Idealize.ShloMosaic.Lib.Pipeline.ValueKit.Geometry

@[expose] public section

noncomputable section

/-! # What a run of the mesh leaves in each device's arrays -/

namespace Cert.KernelIdeal.Ring

open Idealize.ShloMosaic
open Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- Each device's product of its own blocks. -/
def parts (c : Dev nD) : Out F :=
  prodV (m ((c : Thread nD τ).loc main_arg0) : FVec F S4096x256 .bf16) (m ((c : Thread nD τ).loc main_arg1) : FVec F S256x2048 .bf16)

theorem xstg_eq (c : Dev nD) : xstg m c = (m ((c : Thread nD τ).loc main_arg0) : FVec F S4096x256 .bf16) := by
  funext j
  show m ((c : Thread nD τ).loc main_arg0) ((win0_0.blk t0_0).view.emb j) = _
  congr 1
  funext a; apply Fin.ext
  exact Pipeline.Window.rect_emb_val_of_index_zero win0_0 t0_0 a (by revert a; decide +kernel) j

theorem wstg_eq (c : Dev nD) : wstg m c = (m ((c : Thread nD τ).loc main_arg1) : FVec F S256x2048 .bf16) := by
  funext j
  show m ((c : Thread nD τ).loc main_arg1) ((win0_1.blk t0_0).view.emb j) = _
  congr 1
  funext a; apply Fin.ext
  exact Pipeline.Window.rect_emb_val_of_index_zero win0_1 t0_0 a (by revert a; decide +kernel) j

theorem finalA_o (V : Vals F) (c : Dev nD) : finalA m ρ V c (2 : Fin 3) = (V.st c fun _ => 30) :=
  (dats m ρ V 0 c).arrAt_eq_of_after_last (2 : Fin 3) t0_0 (by decide +kernel) _ fun j => rfl

/-- Every execution ends, the arguments as they were, each device's result the values followed through thirty messages,
    every counter at zero. -/
theorem run_vals : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = A (parts m) 30 c)
      ∧ r.2.sem = fun _ => 0) :=
  (θ_run defs _ _).mono (fun _ h => ⟨fun c => ⟨(h.1 c (0 : Fin 3)).trans (finalA_x m ρ _ c), (h.1 c (1 : Fin 3)).trans (finalA_w m ρ _ c),
      (h.1 c (2 : Fin 3)).trans (finalA_o m ρ (valsOf (parts m)) c)⟩, h.2⟩)
    (run_main m ρ (valsOf (parts m)) fun d => by rw [xstg_eq, wstg_eq]; rfl)

end Cert.KernelIdeal.Ring

end
-- ==== Proof.KernelIdeal.Sum.lean ====
module

public import proofs.«01_k».proof.Proof.KernelIdeal.Values
public import Idealize.ShloMosaic.PureOps.Ideal

@[expose] public section

noncomputable section

/-! # What thirty messages leave, in exact arithmetic: the activation of the sum of all the products -/

namespace Cert.KernelIdeal.Ring

open Idealize.ShloMosaic
open Idealize.ShloMosaic.TcCoe
open Cert.KernelIdeal Cert.KernelIdeal.Gen

/-- The device that chunk `q` reaches `k` places after the one it starts from. -/
def stop (b : Bool) (q k : ℕ) : Dev nD := ⟨bif b then (q + k) % 16 else (q + 256 - k) % 16, by cases b <;> exact Nat.mod_lt _ (by decide)⟩

theorem stop_rc : ∀ (b : Bool) (q k : Fin 16) (t : Fin 30), q.val = rc b (stop b q k) t ↔ (k.val = t.val + 1 ∨ k.val + 16 = t.val + 1) := by
  decide +kernel
theorem stop_back : ∀ (b : Bool) (q : Fin 16) (k : Fin 15), fwd (!b) (stop b q (k.val + 1)) = stop b q k := by decide +kernel
theorem stop_wrap : ∀ (b : Bool) (q : Fin 16), fwd (!b) (stop b q 0) = stop b q 15 := by decide +kernel
theorem stop_inj : ∀ (b : Bool) (q k k' : Fin 16), stop b q k = stop b q k' → k = k' := by decide +kernel
theorem stop_bij (b : Bool) (q : Fin 16) : Function.Bijective fun k : Fin 16 => stop b q k :=
  (Fintype.bijective_iff_injective_and_card _).mpr ⟨fun k k' h => stop_inj b q k k' h, rfl⟩

/-- The running value of an element as its chunk goes round: what the `k`-th device on its way makes of it. -/
def going (P : Dev nD → Out Ideal) (i : S4096x2048.Idx) (b : Bool) (q : ℕ) : ℕ → Elt Ideal .f32
  | 0 => P (stop b q 0) i
  | k + 1 => stepE k (P (stop b q (k + 1)) i) (toE (going P i b q k))

/-- From the sixteenth message on, the value brought is kept. -/
theorem step_late {t : ℕ} (h : 15 ≤ t) (a x : Elt Ideal .f32) : stepE t a (toE x) = x := by
  unfold stepE
  rw [if_neg (by omega), if_neg (by omega)]
  rfl

/-- After `t` messages: a device the chunk has not reached holds its own product, a device it has passed once the running
    value there, and a device it has passed twice the final value. -/
theorem at_stop (P : Dev nD → Out Ideal) (i : S4096x2048.Idx) (q : Fin 16) (hq : chunkOf i = q.val) : ∀ t : ℕ, t ≤ 30 → ∀ k : Fin 16,
    A P t (stop (half i) q k) i = if 16 + k.val ≤ t then going P i (half i) q 15 else if k.val ≤ t then going P i (half i) q k else P (stop (half i) q k) i := by
  intro t
  induction t with
  | zero =>
    intro _ k
    rw [if_neg (by omega)]
    by_cases h : k.val ≤ 0
    · rw [if_pos h, Nat.le_zero.mp h]; rfl
    · rw [if_neg h]; rfl
  | succ t ih =>
    intro ht k
    have hk := k.isLt
    have hrc := stop_rc (half i) q k ⟨t, by omega⟩
    show (if chunkOf i = rc (half i) (stop (half i) q k) t then stepE t (A P t (stop (half i) q k) i) (toE (A P t (fwd (!half i) (stop (half i) q k)) i))
      else A P t (stop (half i) q k) i) = _
    rw [hq]
    by_cases h1 : k.val = t + 1
    · rw [if_pos (hrc.mpr (Or.inl h1)), if_neg (by omega), if_pos (by omega), ih (by omega) k, if_neg (by omega), if_neg (by omega)]
      have hb := stop_back (half i) q ⟨t, by omega⟩
      have hi := ih (by omega) ⟨t, by omega⟩
      rw [if_neg (by show ¬ 16 + t ≤ t; omega), if_pos (le_refl t)] at hi
      rw [h1, hb, hi]
      rfl
    · by_cases h2 : k.val + 16 = t + 1
      · rw [if_pos (hrc.mpr (Or.inr h2)), if_pos (by omega)]
        have hi : A P t (fwd (!half i) (stop (half i) q k)) i = going P i (half i) q 15 := by
          rcases Nat.eq_zero_or_pos k.val with h0 | h0
          · have hi := ih (by omega) 15
            rw [if_neg (by show ¬ 16 + 15 ≤ t; omega), if_pos (by show 15 ≤ t; omega)] at hi
            rw [h0, stop_wrap]; exact hi
          · have hb := stop_back (half i) q ⟨k.val - 1, by omega⟩
            have hi := ih (by omega) ⟨k.val - 1, by omega⟩
            rw [if_pos (by show 16 + (k.val - 1) ≤ t; omega)] at hi
            rw [show k.val - 1 + 1 = k.val by omega] at hb
            rw [hb]; exact hi
        rw [hi, step_late (by omega)]
      · rw [if_neg (fun h => (hrc.mp h).elim h1 h2), ih (by omega) k]
        by_cases h3 : 16 + k.val ≤ t
        · rw [if_pos h3, if_pos (by omega)]
        · rw [if_neg h3, if_neg (show ¬ 16 + k.val ≤ t + 1 by omega)]
          by_cases h4 : k.val ≤ t
          · rw [if_pos h4, if_pos (show k.val ≤ t + 1 by omega)]
          · rw [if_neg h4, if_neg (show ¬ k.val ≤ t + 1 by omega)]

/-- Before the activation the running value is the sum of the products met so far. -/
theorem going_sum (P : Dev nD → Out Ideal) (i : S4096x2048.Idx) (b : Bool) (q : ℕ) : ∀ k : ℕ, k ≤ 14 →
    (going P i b q k : EReal) = ∑ j ∈ Finset.range (k + 1), (P (stop b q j) i : EReal) := by
  intro k
  induction k with
  | zero => intro _; rw [Finset.sum_range_one]; rfl
  | succ k ih =>
    intro hk
    rw [Finset.sum_range_succ, ← ih (by omega)]
    show stepE k (P (stop b q (k + 1)) i) (toE (going P i b q k)) = _
    unfold stepE
    rw [if_pos (by omega)]
    exact add_comm (P (stop b q (k + 1)) i : EReal) (going P i b q k)

/-- Every device ends with the activation of the sum of all the devices' products. -/
theorem A_end (P : Dev nD → Out Ideal) (c : Dev nD) (i : S4096x2048.Idx) :
    A P 30 c i = geluE (F := Ideal) (∑ d : Dev nD, (P d i : EReal) : EReal) := by
  have hi : (i 0).val < 4096 := (i 0).isLt
  let q : Fin 16 := ⟨chunkOf i, by show (i 0).val / 256 < 16; omega⟩
  obtain ⟨k, hk⟩ := (stop_bij (half i) q).2 c
  have h := at_stop P i q rfl 30 (le_refl _) k
  have hk' := k.isLt
  have h15 : A P 30 c i = going P i (half i) q 15 := by
    rw [← hk, h]
    by_cases h1 : 16 + k.val ≤ 30
    · rw [if_pos h1]
    · rw [if_neg h1, if_pos (by omega), show k.val = 15 by omega]
  rw [h15]
  show stepE 14 (P (stop (half i) q 15) i) (toE (going P i (half i) q 14)) = _
  unfold stepE
  rw [if_neg (by decide), if_pos rfl]
  refine congrArg (geluE (F := Ideal)) ?_
  show ((P (stop (half i) q 15) i : EReal) + (going P i (half i) q 14 : EReal) : EReal) = _
  rw [going_sum P i (half i) q 14 (le_refl _), add_comm (P (stop (half i) q 15) i : EReal), ← Finset.sum_range_succ (fun j => (P (stop (half i) q j) i : EReal)),
    Finset.sum_range]
  exact (stop_bij (half i) q).sum_comp fun d => (P d i : EReal)

end Cert.KernelIdeal.Ring

end
-- ==== Proof.KernelIdeal.Whole.lean ====
module

public import proofs.«01_k».proof.Proof.KernelIdeal.Final
public import proofs.«01_k».proof.Proof.KernelIdeal.Sum
public import proofs.«01_k».proof.Proof.Gen.ReferenceIdeal.Run
public import Idealize.ShloMosaic.Lib.Pointwise
public import Idealize.ShloMosaic.Lib.LayoutAt
public import Idealize.ShloMosaic.Lib.Pipeline.ValueKit.Acc

@[expose] public section

noncomputable section

/-! # The result in exact arithmetic: the activation of the whole product, which is the reference's -/

namespace Cert.KernelIdeal.Ring

open Idealize.ShloMosaic
open Idealize.ShloMosaic.TcCoe
open Idealize.SL.Sem
open Cert.KernelIdeal Cert.KernelIdeal.Gen

/-- The activation of the product of the whole arrays. -/
def whole (X : FVec Ideal ⟨2, ![4096, 4096]⟩ .bf16) (W : FVec Ideal ⟨2, ![4096, 2048]⟩ .bf16) : Out Ideal := fun i =>
  geluE (F := Ideal) (∑ K : Fin 4096, (X (ix2 (i 0) K) * W (ix2 K (i 1)) : EReal) : EReal)

/-- An element of one device's product. -/
theorem prod_at (x : FVec Ideal S4096x256 .bf16) (w : FVec Ideal S256x2048 .bf16) (i : S4096x2048.Idx) :
    (prodV x w i : EReal) = ∑ k : Fin 256, (x (ix2 (i 0) k) * w (ix2 k (i 1)) : EReal) := by
  pointwise [prodV]

/-- The devices' products, added up, are the product of the whole arrays. -/
theorem sum_prod (X : FVec Ideal ⟨2, ![4096, 4096]⟩ .bf16) (W : FVec Ideal ⟨2, ![4096, 2048]⟩ .bf16) (i : S4096x2048.Idx) :
    (∑ d : Fin 16, (prodV (F := Ideal) (Layout.block ⟨2, ![4096, 256]⟩ ⟨2, ![4096, 4096]⟩ 1 16 d X)
        (Layout.block ⟨2, ![256, 2048]⟩ ⟨2, ![4096, 2048]⟩ 0 16 d W) i : EReal))
      = ∑ K : Fin 4096, (X (ix2 (i 0) K) * W (ix2 K (i 1)) : EReal) := by
  refine Eq.trans ?_ (Fin.sum_mul_add_fin (S := 16) (n := 256) (fun K : Fin 4096 => (X (ix2 (i 0) K) * W (ix2 K (i 1)) : EReal)))
  refine Finset.sum_congr rfl fun d _ => (prod_at _ _ i).trans (Finset.sum_congr rfl fun k _ => ?_)
  refine congrArg₂ (fun a b : EReal => a * b) (congrArg X ?_) (congrArg W ?_)
  · shard_ext
  · shard_ext

/-- The reference's result. -/
theorem ref_whole (X : FVec Ideal ⟨2, ![4096, 4096]⟩ .bf16) (W : FVec Ideal ⟨2, ![4096, 2048]⟩ .bf16)
    (m : (ℓ : Loc Cert.ReferenceIdeal.nD Cert.ReferenceIdeal.τ Cert.ReferenceIdeal.sig) → Buf (Elt Ideal) ℓ) (ρ : Dev Cert.ReferenceIdeal.nD → PrngReg)
    (hX : m (((0 : Dev Cert.ReferenceIdeal.nD).tc : Thread Cert.ReferenceIdeal.nD Cert.ReferenceIdeal.τ).loc Cert.ReferenceIdeal.main_arg0) = X)
    (hW : m (((0 : Dev Cert.ReferenceIdeal.nD).tc : Thread Cert.ReferenceIdeal.nD Cert.ReferenceIdeal.τ).loc Cert.ReferenceIdeal.main_arg1) = W) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v15) = whole X W
      ∧ r.2.mem (((0 : Dev Cert.ReferenceIdeal.nD).tc : Thread Cert.ReferenceIdeal.nD Cert.ReferenceIdeal.τ).loc Cert.ReferenceIdeal.main_arg0)
        = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1)
        = m (((0 : Dev Cert.ReferenceIdeal.nD).tc : Thread Cert.ReferenceIdeal.nD Cert.ReferenceIdeal.τ).loc Cert.ReferenceIdeal.main_arg1)) := by
  refine (θ_run Cert.ReferenceIdeal.defs _ _).mono (fun _ h => ⟨(h 0).1.trans ?_, (h 0).2⟩) (Cert.ReferenceIdeal.Value.run (F := Ideal) m ρ)
  rw [hX, hW]
  funext i
  pointwise [whole, geluE]
  simp only [mul_assoc]

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Final
public import proofs.«01_k».proof.Proof.KernelIdeal.Whole
public import Idealize.ShloMosaic.Adequacy
public import Idealize.ShloMosaic.Init

@[expose] public section

noncomputable section

namespace Cert.Proof

open Idealize.ShloMosaic Idealize.ShloMosaic.TcCoe Idealize.SL.Sem

/-- The kernel as printed ends, its arguments as they were, every counter at zero. -/
theorem frame_p : Cert.quiescent_Kernel := fun m ρ _ =>
  (θ_run Cert.Kernel.defs _ _).mono (fun _ h => ⟨fun c => ⟨(h.1 c).1, (h.1 c).2.1⟩, h.2⟩) (Cert.Kernel.Ring.run_vals (F := Bits) m ρ)

/-- So does the kernel in exact arithmetic. -/
theorem frame_pi : Cert.quiescent_KernelIdeal := fun m ρ _ =>
  (θ_run Cert.KernelIdeal.defs _ _).mono (fun _ h => ⟨fun c => ⟨(h.1 c).1, (h.1 c).2.1⟩, h.2⟩) (Cert.KernelIdeal.Ring.run_vals (F := Ideal) m ρ)

/-- So does the reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's: each ends with the activation of the sum of all the devices' products, which
    is the activation of the product of the whole arrays. -/
theorem algebraic : Cert.algebraic_KernelIdeal_ReferenceIdeal := by
  intro m ρ m' ρ' _ hagree
  refine ⟨Cert.KernelIdeal.Ring.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_,
    Cert.KernelIdeal.Ring.ref_whole _ _ m' ρ' rfl rfl⟩
  refine (θ_run Cert.KernelIdeal.defs _ _).mono (fun _ h c => ⟨(h.1 c).2.2.trans ?_, (h.1 c).1, (h.1 c).2.1⟩)
    (Cert.KernelIdeal.Ring.run_vals (F := Ideal) m ρ)
  funext i
  refine (Cert.KernelIdeal.Ring.A_end _ c i).trans (congrArg (Cert.KernelIdeal.Ring.geluE (F := Ideal)) ?_)
  refine Eq.trans (Finset.sum_congr rfl fun d _ => ?_) (Cert.KernelIdeal.Ring.sum_prod _ _ i)
  show (Cert.KernelIdeal.Ring.prodV (F := Ideal) _ _ i : EReal) = _
  exact congrArg₂ (fun x w => (Cert.KernelIdeal.Ring.prodV (F := Ideal) x w i : EReal)) (hagree d).1 (hagree d).2

theorem claim : Cert.Claim :=
  ⟨Cert.Kernel.Gen.facts, Cert.KernelIdeal.Gen.facts, Cert.ReferenceIdeal.Gen.facts, frame_p, frame_pi, frame_ri, trivial, algebraic⟩

end Cert.Proof

end
